-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_SbQkv (m : (ℓ : Loc Cert.SbQkv.nD Cert.SbQkv.τ Cert.SbQkv.sig) → Buf (Elt Bits) ℓ) : Prop :=
  True

def Pre_SbQkvIdeal (m : (ℓ : Loc Cert.SbQkvIdeal.nD Cert.SbQkvIdeal.τ Cert.SbQkvIdeal.sig) → Buf (Elt Ideal) ℓ) : Prop :=
  True

def Pre_SbQkvRefIdeal (m : (ℓ : Loc Cert.SbQkvRefIdeal.nD Cert.SbQkvRefIdeal.τ Cert.SbQkvRefIdeal.sig) → Buf (Elt Ideal) ℓ) : Prop :=
  True

def Pre_SwaQkv (m : (ℓ : Loc Cert.SwaQkv.nD Cert.SwaQkv.τ Cert.SwaQkv.sig) → Buf (Elt Bits) ℓ) : Prop :=
  True

def Pre_SwaQkvIdeal (m : (ℓ : Loc Cert.SwaQkvIdeal.nD Cert.SwaQkvIdeal.τ Cert.SwaQkvIdeal.sig) → Buf (Elt Ideal) ℓ) : Prop :=
  True

def Pre_SwaQkvRefIdeal (m : (ℓ : Loc Cert.SwaQkvRefIdeal.nD Cert.SwaQkvRefIdeal.τ Cert.SwaQkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_SbQkv [hSbQkv : Cert.SbQkv.Facts] : Prop :=
  ∀ (m : (ℓ : Loc Cert.SbQkv.nD Cert.SbQkv.τ Cert.SbQkv.sig) → Buf (Elt Bits) ℓ) (g : Dev Cert.SbQkv.nD → PrngReg), Pre_SbQkv m →
    θ_run (Cert.SbQkv.defs (F := Bits)) (onTc (τ := Cert.SbQkv.τ) (Cert.SbQkv.main (F := Bits))) ⟨m, fun _ => 0, g⟩ (fun r => (∀ c : Dev Cert.SbQkv.nD,
      r.2.mem ((c.tc : Thread Cert.SbQkv.nD Cert.SbQkv.τ).loc Cert.SbQkv.main_arg0) = m ((c.tc : Thread Cert.SbQkv.nD Cert.SbQkv.τ).loc Cert.SbQkv.main_arg0)
      ∧ r.2.mem ((c.tc : Thread Cert.SbQkv.nD Cert.SbQkv.τ).loc Cert.SbQkv.main_arg1) = m ((c.tc : Thread Cert.SbQkv.nD Cert.SbQkv.τ).loc Cert.SbQkv.main_arg1))
      ∧ r.2.sem = fun _ => 0)

def quiescent_SbQkvIdeal [hSbQkvIdeal : Cert.SbQkvIdeal.Facts] : Prop :=
  ∀ (m : (ℓ : Loc Cert.SbQkvIdeal.nD Cert.SbQkvIdeal.τ Cert.SbQkvIdeal.sig) → Buf (Elt Ideal) ℓ) (g : Dev Cert.SbQkvIdeal.nD → PrngReg), Pre_SbQkvIdeal m →
    θ_run (Cert.SbQkvIdeal.defs (F := Ideal)) (onTc (τ := Cert.SbQkvIdeal.τ) (Cert.SbQkvIdeal.main (F := Ideal))) ⟨m, fun _ => 0, g⟩ (fun r => (∀ c : Dev Cert.SbQkvIdeal.nD,
      r.2.mem ((c.tc : Thread Cert.SbQkvIdeal.nD Cert.SbQkvIdeal.τ).loc Cert.SbQkvIdeal.main_arg0) = m ((c.tc : Thread Cert.SbQkvIdeal.nD Cert.SbQkvIdeal.τ).loc Cert.SbQkvIdeal.main_arg0)
      ∧ r.2.mem ((c.tc : Thread Cert.SbQkvIdeal.nD Cert.SbQkvIdeal.τ).loc Cert.SbQkvIdeal.main_arg1) = m ((c.tc : Thread Cert.SbQkvIdeal.nD Cert.SbQkvIdeal.τ).loc Cert.SbQkvIdeal.main_arg1))
      ∧ r.2.sem = fun _ => 0)

def quiescent_SbQkvRefIdeal [hSbQkvRefIdeal : Cert.SbQkvRefIdeal.Facts] : Prop :=
  ∀ (m : (ℓ : Loc Cert.SbQkvRefIdeal.nD Cert.SbQkvRefIdeal.τ Cert.SbQkvRefIdeal.sig) → Buf (Elt Ideal) ℓ) (g : Dev Cert.SbQkvRefIdeal.nD → PrngReg), Pre_SbQkvRefIdeal m →
    θ_run (Cert.SbQkvRefIdeal.defs (F := Ideal)) (onTc (τ := Cert.SbQkvRefIdeal.τ) (Cert.SbQkvRefIdeal.main (F := Ideal))) ⟨m, fun _ => 0, g⟩ (fun r => (∀ c : Dev Cert.SbQkvRefIdeal.nD,
      r.2.mem ((c.tc : Thread Cert.SbQkvRefIdeal.nD Cert.SbQkvRefIdeal.τ).loc Cert.SbQkvRefIdeal.main_arg0) = m ((c.tc : Thread Cert.SbQkvRefIdeal.nD Cert.SbQkvRefIdeal.τ).loc Cert.SbQkvRefIdeal.main_arg0)
      ∧ r.2.mem ((c.tc : Thread Cert.SbQkvRefIdeal.nD Cert.SbQkvRefIdeal.τ).loc Cert.SbQkvRefIdeal.main_arg1) = m ((c.tc : Thread Cert.SbQkvRefIdeal.nD Cert.SbQkvRefIdeal.τ).loc Cert.SbQkvRefIdeal.main_arg1))
      ∧ r.2.sem = fun _ => 0)

def quiescent_SwaQkv [hSwaQkv : Cert.SwaQkv.Facts] : Prop :=
  ∀ (m : (ℓ : Loc Cert.SwaQkv.nD Cert.SwaQkv.τ Cert.SwaQkv.sig) → Buf (Elt Bits) ℓ) (g : Dev Cert.SwaQkv.nD → PrngReg), Pre_SwaQkv m →
    θ_run (Cert.SwaQkv.defs (F := Bits)) (onTc (τ := Cert.SwaQkv.τ) (Cert.SwaQkv.main (F := Bits))) ⟨m, fun _ => 0, g⟩ (fun r => (∀ c : Dev Cert.SwaQkv.nD,
      r.2.mem ((c.tc : Thread Cert.SwaQkv.nD Cert.SwaQkv.τ).loc Cert.SwaQkv.main_arg0) = m ((c.tc : Thread Cert.SwaQkv.nD Cert.SwaQkv.τ).loc Cert.SwaQkv.main_arg0)
      ∧ r.2.mem ((c.tc : Thread Cert.SwaQkv.nD Cert.SwaQkv.τ).loc Cert.SwaQkv.main_arg1) = m ((c.tc : Thread Cert.SwaQkv.nD Cert.SwaQkv.τ).loc Cert.SwaQkv.main_arg1))
      ∧ r.2.sem = fun _ => 0)

def quiescent_SwaQkvIdeal [hSwaQkvIdeal : Cert.SwaQkvIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg), Pre_SwaQkvIdeal m →
    θ_run (Cert.SwaQkvIdeal.defs (F := Ideal)) (onTc (τ := Cert.SwaQkvIdeal.τ) (Cert.SwaQkvIdeal.main (F := Ideal))) ⟨m, fun _ => 0, g⟩ (fun r => (∀ c : Dev Cert.SwaQkvIdeal.nD,
      r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
      ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1))
      ∧ r.2.sem = fun _ => 0)

def quiescent_SwaQkvRefIdeal [hSwaQkvRefIdeal : Cert.SwaQkvRefIdeal.Facts] : Prop :=
  ∀ (m : (ℓ : Loc Cert.SwaQkvRefIdeal.nD Cert.SwaQkvRefIdeal.τ Cert.SwaQkvRefIdeal.sig) → Buf (Elt Ideal) ℓ) (g : Dev Cert.SwaQkvRefIdeal.nD → PrngReg), Pre_SwaQkvRefIdeal m →
    θ_run (Cert.SwaQkvRefIdeal.defs (F := Ideal)) (onTc (τ := Cert.SwaQkvRefIdeal.τ) (Cert.SwaQkvRefIdeal.main (F := Ideal))) ⟨m, fun _ => 0, g⟩ (fun r => (∀ c : Dev Cert.SwaQkvRefIdeal.nD,
      r.2.mem ((c.tc : Thread Cert.SwaQkvRefIdeal.nD Cert.SwaQkvRefIdeal.τ).loc Cert.SwaQkvRefIdeal.main_arg0) = m ((c.tc : Thread Cert.SwaQkvRefIdeal.nD Cert.SwaQkvRefIdeal.τ).loc Cert.SwaQkvRefIdeal.main_arg0)
      ∧ r.2.mem ((c.tc : Thread Cert.SwaQkvRefIdeal.nD Cert.SwaQkvRefIdeal.τ).loc Cert.SwaQkvRefIdeal.main_arg1) = m ((c.tc : Thread Cert.SwaQkvRefIdeal.nD Cert.SwaQkvRefIdeal.τ).loc Cert.SwaQkvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v1) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v38) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_SbQkv_SbQkvIdeal : Prop :=
  True

def algebraic_SbQkvIdeal_SbQkvRefIdeal [hSbQkvIdeal : Cert.SbQkvIdeal.Facts] [hSbQkvRefIdeal : Cert.SbQkvRefIdeal.Facts] : Prop :=
  ∀ (m : (ℓ : Loc Cert.SbQkvIdeal.nD Cert.SbQkvIdeal.τ Cert.SbQkvIdeal.sig) → Buf (Elt Ideal) ℓ) (g : Dev Cert.SbQkvIdeal.nD → PrngReg)
    (m' : (ℓ : Loc Cert.SbQkvRefIdeal.nD Cert.SbQkvRefIdeal.τ Cert.SbQkvRefIdeal.sig) → Buf (Elt Ideal) ℓ) (g' : Dev Cert.SbQkvRefIdeal.nD → PrngReg), Pre_SbQkvIdeal m →
    (∀ c : Dev Cert.SbQkvIdeal.nD,
      m' ((c.tc : Thread Cert.SbQkvRefIdeal.nD Cert.SbQkvRefIdeal.τ).loc Cert.SbQkvRefIdeal.main_arg0) = m ((c.tc : Thread Cert.SbQkvIdeal.nD Cert.SbQkvIdeal.τ).loc Cert.SbQkvIdeal.main_arg0)
      ∧ m' ((c.tc : Thread Cert.SbQkvRefIdeal.nD Cert.SbQkvRefIdeal.τ).loc Cert.SbQkvRefIdeal.main_arg1) = m ((c.tc : Thread Cert.SbQkvIdeal.nD Cert.SbQkvIdeal.τ).loc Cert.SbQkvIdeal.main_arg1)) →
    ∃ (v0 : (c : Dev Cert.SbQkvIdeal.nD) → Buf (Elt Ideal) ((c.tc : Thread Cert.SbQkvIdeal.nD Cert.SbQkvIdeal.τ).loc Cert.SbQkvIdeal.main_v0)),
      θ_run (Cert.SbQkvIdeal.defs (F := Ideal)) (onTc (τ := Cert.SbQkvIdeal.τ) (Cert.SbQkvIdeal.main (F := Ideal))) ⟨m, fun _ => 0, g⟩ (fun r => ∀ c : Dev Cert.SbQkvIdeal.nD,
          r.2.mem ((c.tc : Thread Cert.SbQkvIdeal.nD Cert.SbQkvIdeal.τ).loc Cert.SbQkvIdeal.main_v0) = v0 c
          ∧ r.2.mem ((c.tc : Thread Cert.SbQkvIdeal.nD Cert.SbQkvIdeal.τ).loc Cert.SbQkvIdeal.main_arg0) = m ((c.tc : Thread Cert.SbQkvIdeal.nD Cert.SbQkvIdeal.τ).loc Cert.SbQkvIdeal.main_arg0)
          ∧ r.2.mem ((c.tc : Thread Cert.SbQkvIdeal.nD Cert.SbQkvIdeal.τ).loc Cert.SbQkvIdeal.main_arg1) = m ((c.tc : Thread Cert.SbQkvIdeal.nD Cert.SbQkvIdeal.τ).loc Cert.SbQkvIdeal.main_arg1))
      ∧ θ_run (Cert.SbQkvRefIdeal.defs (F := Ideal)) (onTc (τ := Cert.SbQkvRefIdeal.τ) (Cert.SbQkvRefIdeal.main (F := Ideal))) ⟨m', fun _ => 0, g'⟩ (fun r => ∀ c : Dev Cert.SbQkvRefIdeal.nD,
          r.2.mem ((c.tc : Thread Cert.SbQkvRefIdeal.nD Cert.SbQkvRefIdeal.τ).loc Cert.SbQkvRefIdeal.main_v4) = v0 c
          ∧ r.2.mem ((c.tc : Thread Cert.SbQkvRefIdeal.nD Cert.SbQkvRefIdeal.τ).loc Cert.SbQkvRefIdeal.main_arg0) = m' ((c.tc : Thread Cert.SbQkvRefIdeal.nD Cert.SbQkvRefIdeal.τ).loc Cert.SbQkvRefIdeal.main_arg0)
          ∧ r.2.mem ((c.tc : Thread Cert.SbQkvRefIdeal.nD Cert.SbQkvRefIdeal.τ).loc Cert.SbQkvRefIdeal.main_arg1) = m' ((c.tc : Thread Cert.SbQkvRefIdeal.nD Cert.SbQkvRefIdeal.τ).loc Cert.SbQkvRefIdeal.main_arg1))

def preserves_SwaQkv_SwaQkvIdeal : Prop :=
  True

def algebraic_SwaQkvIdeal_SwaQkvRefIdeal [hSwaQkvIdeal : Cert.SwaQkvIdeal.Facts] [hSwaQkvRefIdeal : Cert.SwaQkvRefIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg)
    (m' : (ℓ : Loc Cert.SwaQkvRefIdeal.nD Cert.SwaQkvRefIdeal.τ Cert.SwaQkvRefIdeal.sig) → Buf (Elt Ideal) ℓ) (g' : Dev Cert.SwaQkvRefIdeal.nD → PrngReg), Pre_SwaQkvIdeal m →
    (∀ c : Dev Cert.SwaQkvIdeal.nD,
      m' ((c.tc : Thread Cert.SwaQkvRefIdeal.nD Cert.SwaQkvRefIdeal.τ).loc Cert.SwaQkvRefIdeal.main_arg0) = m ((c.tc : Thread Cert.SwaQkvIdeal.nD Cert.SwaQkvIdeal.τ).loc Cert.SwaQkvIdeal.main_arg0)
      ∧ m' ((c.tc : Thread Cert.SwaQkvRefIdeal.nD Cert.SwaQkvRefIdeal.τ).loc Cert.SwaQkvRefIdeal.main_arg1) = m ((c.tc : Thread Cert.SwaQkvIdeal.nD Cert.SwaQkvIdeal.τ).loc Cert.SwaQkvIdeal.main_arg1)) →
    ∃ (v0 : (c : Dev Cert.SwaQkvIdeal.nD) → Buf (Elt Ideal) ((c.tc : Thread Cert.SwaQkvIdeal.nD Cert.SwaQkvIdeal.τ).loc Cert.SwaQkvIdeal.main_v0)),
      θ_run (Cert.SwaQkvIdeal.defs (F := Ideal)) (onTc (τ := Cert.SwaQkvIdeal.τ) (Cert.SwaQkvIdeal.main (F := Ideal))) ⟨m, fun _ => 0, g⟩ (fun r => ∀ c : Dev Cert.SwaQkvIdeal.nD,
          r.2.mem ((c.tc : Thread Cert.SwaQkvIdeal.nD Cert.SwaQkvIdeal.τ).loc Cert.SwaQkvIdeal.main_v0) = v0 c
          ∧ r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
          ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1))
      ∧ θ_run (Cert.SwaQkvRefIdeal.defs (F := Ideal)) (onTc (τ := Cert.SwaQkvRefIdeal.τ) (Cert.SwaQkvRefIdeal.main (F := Ideal))) ⟨m', fun _ => 0, g'⟩ (fun r => ∀ c : Dev Cert.SwaQkvRefIdeal.nD,
          r.2.mem ((c.tc : Thread Cert.SwaQkvRefIdeal.nD Cert.SwaQkvRefIdeal.τ).loc Cert.SwaQkvRefIdeal.main_v4) = v0 c
          ∧ r.2.mem ((c.tc : Thread Cert.SwaQkvRefIdeal.nD Cert.SwaQkvRefIdeal.τ).loc Cert.SwaQkvRefIdeal.main_arg0) = m' ((c.tc : Thread Cert.SwaQkvRefIdeal.nD Cert.SwaQkvRefIdeal.τ).loc Cert.SwaQkvRefIdeal.main_arg0)
          ∧ r.2.mem ((c.tc : Thread Cert.SwaQkvRefIdeal.nD Cert.SwaQkvRefIdeal.τ).loc Cert.SwaQkvRefIdeal.main_arg1) = m' ((c.tc : Thread Cert.SwaQkvRefIdeal.nD Cert.SwaQkvRefIdeal.τ).loc Cert.SwaQkvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnDown : Cert.FfnDown.Facts) (hFfnDownIdeal : Cert.FfnDownIdeal.Facts) (hFfnDownRefIdeal : Cert.FfnDownRefIdeal.Facts) (hSbQkv : Cert.SbQkv.Facts) (hSbQkvIdeal : Cert.SbQkvIdeal.Facts) (hSbQkvRefIdeal : Cert.SbQkvRefIdeal.Facts) (hSwaQkv : Cert.SwaQkv.Facts) (hSwaQkvIdeal : Cert.SwaQkvIdeal.Facts) (hSwaQkvRefIdeal : Cert.SwaQkvRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hFinalNorm : Cert.FinalNorm.Facts) (hFinalNormIdeal : Cert.FinalNormIdeal.Facts) (hFinalNormRefIdeal : Cert.FinalNormRefIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_SbQkv (hSbQkv := hSbQkv)
    ∧ quiescent_SbQkvIdeal (hSbQkvIdeal := hSbQkvIdeal)
    ∧ quiescent_SbQkvRefIdeal (hSbQkvRefIdeal := hSbQkvRefIdeal)
    ∧ quiescent_SwaQkv (hSwaQkv := hSwaQkv)
    ∧ quiescent_SwaQkvIdeal (hSwaQkvIdeal := hSwaQkvIdeal)
    ∧ quiescent_SwaQkvRefIdeal (hSwaQkvRefIdeal := hSwaQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_FfnIn_FfnInIdeal
    ∧ algebraic_FfnInIdeal_FfnInRefIdeal (hFfnInIdeal := hFfnInIdeal) (hFfnInRefIdeal := hFfnInRefIdeal)
    ∧ preserves_FfnDown_FfnDownIdeal
    ∧ algebraic_FfnDownIdeal_FfnDownRefIdeal (hFfnDownIdeal := hFfnDownIdeal) (hFfnDownRefIdeal := hFfnDownRefIdeal)
    ∧ preserves_SbQkv_SbQkvIdeal
    ∧ algebraic_SbQkvIdeal_SbQkvRefIdeal (hSbQkvIdeal := hSbQkvIdeal) (hSbQkvRefIdeal := hSbQkvRefIdeal)
    ∧ preserves_SwaQkv_SwaQkvIdeal
    ∧ algebraic_SwaQkvIdeal_SwaQkvRefIdeal (hSwaQkvIdeal := hSwaQkvIdeal) (hSwaQkvRefIdeal := hSwaQkvRefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_FinalNorm_FinalNormIdeal
    ∧ algebraic_FinalNormIdeal_FinalNormRefIdeal (hFinalNormIdeal := hFinalNormIdeal) (hFinalNormRefIdeal := hFinalNormRefIdeal)
-- ==== Pre_tame.lean ====
abbrev S8192x5120 : Shape := ⟨2, ![8192, 5120]⟩
abbrev S64 : Shape := ⟨1, ![64]⟩
abbrev S8192x4608 : Shape := ⟨2, ![8192, 4608]⟩
abbrev S_ : Shape := ⟨0, ![]⟩

class Facts : Prop where
  slices_S8192x5120_S8192x4608_0_0 : S8192x5120.Slices ![0, 0] S8192x4608
  bitsLt_bf16_f32 : FTy.bits .bf16 < FTy.bits .f32
  bcast_S_S8192x4608 : S_.BroadcastsInDim S8192x4608 (![] : Fin 0 → Fin S8192x4608.rank)
  bcast_S_S64 : S_.BroadcastsInDim S64 (![] : Fin 0 → Fin S64.rank)

variable [Facts]

def fn {F : FTy → Type} [FloatOps F] (main_arg0 : FVec F S8192x5120 .bf16) (main_arg1 : FVec F S64 .f32) : IVec S8192x4608 1 × IVec S64 1 :=
  let main_v0 : FVec F S8192x4608 .bf16 := (extractStridedSlice S8192x4608 ![0, 0] · slices_S8192x5120_S8192x4608_0_0) main_arg0
  let main_v1 : FVec F S8192x4608 .f32 := (extf .f32 · bitsLt_bf16_f32) main_v0
  let main_v2 : FVec F S8192x4608 .f32 := Host.absf main_v1
  let main_cst : FVec F S_ .f32 := constant S_ .f32 0x7F800000#32
  let main_v3 : FVec F S8192x4608 .f32 := broadcastInDim S8192x4608 ![] bcast_S_S8192x4608 main_cst
  let main_v4 : IVec S8192x4608 1 := cmpf .olt main_v2 main_v3
  let main_cst_0 : FVec F S_ .f32 := constant S_ .f32 0x7F800000#32
  let main_v5 : FVec F S64 .f32 := broadcastInDim S64 ![] bcast_S_S64 main_cst_0
  let main_v6 : IVec S64 1 := cmpf .olt main_arg1 main_v5
  (main_v4, main_v6)
-- ==== Kernel.lean ====
abbrev S8192x5120 : Shape := ⟨2, ![8192, 5120]⟩
abbrev S64 : Shape := ⟨1, ![64]⟩
abbrev S8192x4096 : Shape := ⟨2, ![8192, 4096]⟩
abbrev S4096x512 : Shape := ⟨2, ![4096, 512]⟩
abbrev S4096x128 : Shape := ⟨2, ![4096, 128]⟩
abbrev S256x128 : Shape := ⟨2, ![256, 128]⟩
abbrev S128x128 : Shape := ⟨2, ![128, 128]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 4
  | .vmem => 8
  | .smem => 2
  | _ => 0

abbrev bufTy : (tb : Table) → Fin (tcTables nBuf tb) → BufTy
  | .hbm, ⟨0, _⟩ => ⟨S8192x5120, .bf16⟩
  | .hbm, ⟨1, _⟩ => ⟨S64, .f32⟩
  | .hbm, ⟨2, _⟩ => ⟨S64, .f32⟩
  | .hbm, ⟨3, _⟩ => ⟨S8192x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x512, .bf16⟩
  | .local _ .vmem, ⟨7, _⟩ => ⟨S4096x512, .bf16⟩
  | .local _ .smem, ⟨0, _⟩ => ⟨S64, .f32⟩
  | .local _ .smem, ⟨1, _⟩ => ⟨S64, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_4 : BitVec 32 := 0#32
  let c32_i32 : BitVec 32 := 32#32
  let v23 : BitVec 32 := Scalar.addi c0_i32_4 c32_i32
  let c1_i32_5 : BitVec 32 := 1#32
  ⟨c0_i32_4, v23, c1_i32_5⟩
def k0_mult1 (k0_t1 : Fin k0_t1_loop.trips) : BitVec 32 :=
  let c0_i32_4 : BitVec 32 := 0#32
  let c1_i32_5 : BitVec 32 := 1#32
  let arg8 : BitVec 32 := Scf.iv c0_i32_4 c1_i32_5 k0_t1
  let c128_i32_7 : BitVec 32 := 128#32
  let v24 : BitVec 32 := Scalar.muli arg8 c128_i32_7
  v24
def k0_mult2 (k0_t1 : Fin k0_t1_loop.trips) : BitVec 32 :=
  let c0_i32_4 : BitVec 32 := 0#32
  let c1_i32_5 : BitVec 32 := 1#32
  let arg8 : BitVec 32 := Scf.iv c0_i32_4 c1_i32_5 k0_t1
  let c1_i32_8 : BitVec 32 := 1#32
  let v26 : BitVec 32 := Scalar.subi arg8 c1_i32_8
  let c0_i32_9 : BitVec 32 := 0#32
  let v27 : BitVec 32 := Scalar.maxsi v26 c0_i32_9
  let c128_i32_10 : BitVec 32 := 128#32
  let v28 : BitVec 32 := Scalar.muli v27 c128_i32_10
  v28
def k0_off1 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c1_i32_8 : BitVec 32 := 1#32
  let v26 : BitVec 32 := Scalar.subi arg8 c1_i32_8
  let c0_i32_9 : BitVec 32 := 0#32
  let v27 : BitVec 32 := Scalar.maxsi v26 c0_i32_9
  let c128_i32_10 : BitVec 32 := 128#32
  let v28 : BitVec 32 := Scalar.muli v27 c128_i32_10
  let v29 : BitVec 32 := v28
  let v30 : Index := Scalar.indexCast v29
  let c0 : Index := 0#32
  ![v30.toNat, 0]
def k0_off2 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c128_i32_7 : BitVec 32 := 128#32
  let v24 : BitVec 32 := Scalar.muli arg8 c128_i32_7
  let v25 : BitVec 32 := v24
  let v32 : Index := Scalar.indexCast v25
  let c0_11 : Index := 0#32
  ![v32.toNat, 0]
def k0_off3 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c128_i32_7 : BitVec 32 := 128#32
  let v24 : BitVec 32 := Scalar.muli arg8 c128_i32_7
  let v25 : BitVec 32 := v24
  let v59 : Index := Scalar.indexCast v25
  let c0_20 : Index := 0#32
  ![v59.toNat, 0]
def k0_off4 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c128_i32_7 : BitVec 32 := 128#32
  let v24 : BitVec 32 := Scalar.muli arg8 c128_i32_7
  let v25 : BitVec 32 := v24
  let v61 : Index := Scalar.indexCast v25
  let c128 : Index := 128#32
  ![v61.toNat, 128]
def k0_off5 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c128_i32_7 : BitVec 32 := 128#32
  let v24 : BitVec 32 := Scalar.muli arg8 c128_i32_7
  let v25 : BitVec 32 := v24
  let v63 : Index := Scalar.indexCast v25
  let c256 : Index := 256#32
  ![v63.toNat, 256]
def k0_off6 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c128_i32_7 : BitVec 32 := 128#32
  let v24 : BitVec 32 := Scalar.muli arg8 c128_i32_7
  let v25 : BitVec 32 := v24
  let v65 : Index := Scalar.indexCast v25
  let c384 : Index := 384#32
  ![v65.toNat, 384]
def k0_off7 (i : grid0.Coords) (c0_i32_29 : BitVec 32) : Fin 1 → Nat :=
  let arg1 : BitVec 32 := BitVec.ofNat 32 (i 1).val
  let c8_i32 : BitVec 32 := 8#32
  let v75 : BitVec 32 := Scalar.muli arg1 c8_i32
  let v76 : BitVec 32 := Scalar.addi v75 c0_i32_29
  let v82 : Index := Scalar.indexCast v76
  ![v82.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.addi c32_i32 v16
  let c0_i32_4 : BitVec 32 := 0#32
  ![arg0.toNat, v17.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32 : BitVec 32 := 36#32
  let v17 : BitVec 32 := Scalar.addi c36_i32 v16
  let c0_i32_4 : BitVec 32 := 0#32
  ![arg0.toNat, v17.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x5120 : Shape := ⟨2, ![8192, 5120]⟩
abbrev S64 : Shape := ⟨1, ![64]⟩
abbrev S2x4096x5120 : Shape := ⟨3, ![2, 4096, 5120]⟩
abbrev S2x4096x4096 : Shape := ⟨3, ![2, 4096, 4096]⟩
abbrev S2x32x128x8x8x64 : Shape := ⟨6, ![2, 32, 128, 8, 8, 64]⟩
abbrev S2x4096x512 : Shape := ⟨3, ![2, 4096, 512]⟩
abbrev S2x32x128x8x64 : Shape := ⟨5, ![2, 32, 128, 8, 64]⟩
abbrev S_ : Shape := ⟨0, ![]⟩
abbrev S2x33x128x8x64 : Shape := ⟨5, ![2, 33, 128, 8, 64]⟩
abbrev S2x32x256x8x64 : Shape := ⟨5, ![2, 32, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x8 : Shape := ⟨2, ![8, 8]⟩
abbrev S8x8x1x1 : Shape := ⟨4, ![8, 8, 1, 1]⟩
abbrev S1x1x128x256 : Shape := ⟨4, ![1, 1, 128, 256]⟩
abbrev S8x8x128x256 : Shape := ⟨4, ![8, 8, 128, 256]⟩
abbrev S2x32x8x256x128x8 : Shape := ⟨6, ![2, 32, 8, 256, 128, 8]⟩
abbrev S2x32x8x8x128x256 : Shape := ⟨6, ![2, 32, 8, 8, 128, 256]⟩
abbrev S1x1x8x8x128x256 : Shape := ⟨6, ![1, 1, 8, 8, 128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S1x1x8x8x1x1 : Shape := ⟨6, ![1, 1, 8, 8, 1, 1]⟩
abbrev S2x32x8x8x128x1 : Shape := ⟨6, ![2, 32, 8, 8, 128, 1]⟩
abbrev S2x32x8x8x128x257 : Shape := ⟨6, ![2, 32, 8, 8, 128, 257]⟩
abbrev S2x32x8x8x128 : Shape := ⟨5, ![2, 32, 8, 8, 128]⟩
abbrev S2x32x8x64x8x128 : Shape := ⟨6, ![2, 32, 8, 64, 8, 128]⟩
abbrev S8192x4096 : Shape := ⟨2, ![8192, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S64, .f32⟩
  | .hbm, ⟨2, _⟩ => ⟨S64, .f32⟩
  | .hbm, ⟨3, _⟩ => ⟨S8192x5120, .f32⟩
  | .hbm, ⟨4, _⟩ => ⟨S2x4096x5120, .f32⟩
  | .hbm, ⟨5, _⟩ => ⟨S2x4096x4096, .f32⟩
  | .hbm, ⟨6, _⟩ => ⟨S2x32x128x8x8x64, .f32⟩
  | .hbm, ⟨7, _⟩ => ⟨S2x4096x512, .f32⟩
  | .hbm, ⟨8, _⟩ => ⟨S2x4096x512, .f32⟩
  | .hbm, ⟨9, _⟩ => ⟨S2x32x128x8x64, .f32⟩
  | .hbm, ⟨10, _⟩ => ⟨S_, .i32⟩
  | .hbm, ⟨11, _⟩ => ⟨S_, .f32⟩
  | .hbm, ⟨12, _⟩ => ⟨S2x33x128x8x64, .f32⟩
  | .hbm, ⟨13, _⟩ => ⟨S2x32x128x8x64, .f32⟩
  | .hbm, ⟨14, _⟩ => ⟨S2x32x256x8x64, .f32⟩
  | .hbm, ⟨15, _⟩ => ⟨S2x32x128x8x64, .f32⟩
  | .hbm, ⟨16, _⟩ => ⟨S_, .i32⟩
  | .hbm, ⟨17, _⟩ => ⟨S_, .f32⟩
  | .hbm, ⟨18, _⟩ => ⟨S2x33x128x8x64, .f32⟩
  | .hbm, ⟨19, _⟩ => ⟨S2x32x128x8x64, .f32⟩
  | .hbm, ⟨20, _⟩ => ⟨S2x32x256x8x64, .f32⟩
  | .hbm, ⟨21, _⟩ => ⟨S128, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S8x8, .f32⟩
  | .hbm, ⟨39, _⟩ => ⟨S8x8x1x1, .f32⟩
  | .hbm, ⟨40, _⟩ => ⟨S8x8x1x1, .f32⟩
  | .hbm, ⟨41, _⟩ => ⟨S128x256, .f32⟩
  | .hbm, ⟨42, _⟩ => ⟨S1x1x128x256, .f32⟩
  | .hbm, ⟨43, _⟩ => ⟨S8x8x128x256, .f32⟩
  | .hbm, ⟨44, _⟩ => ⟨S8x8x128x256, .f32⟩
  | .hbm, ⟨45, _⟩ => ⟨S8x8x128x256, .f32⟩
  | .hbm, ⟨46, _⟩ => ⟨S8x8, .f32⟩
  | .hbm, ⟨47, _⟩ => ⟨S2x32x8x256x128x8, .f32⟩
  | .hbm, ⟨48, _⟩ => ⟨S2x32x8x8x128x256, .f32⟩
  | .hbm, ⟨49, _⟩ => ⟨S_, .f32⟩
  | .hbm, ⟨50, _⟩ => ⟨S2x32x8x8x128x256, .f32⟩
  | .hbm, ⟨51, _⟩ => ⟨S2x32x8x8x128x256, .f32⟩
  | .hbm, ⟨52, _⟩ => ⟨S1x1x8x8x128x256, .f32⟩
  | .hbm, ⟨53, _⟩ => ⟨S2x32x8x8x128x256, .f32⟩
  | .hbm, ⟨54, _⟩ => ⟨S2x32x8x8x128x256, .f32⟩
  | .hbm, ⟨55, _⟩ => ⟨S32, .i32⟩
  | .hbm, ⟨56, _⟩ => ⟨S32x1x1, .i32⟩
  | .hbm, ⟨57, _⟩ => ⟨S_, .i32⟩
  | .hbm, ⟨58, _⟩ => ⟨S32x1x1, .i32⟩
  | .hbm, ⟨59, _⟩ => ⟨S32x1x1, .i32⟩
  | .hbm, ⟨60, _⟩ => ⟨S1x1x256, .i32⟩
  | .hbm, ⟨61, _⟩ => ⟨S32x1x256, .i32⟩
  | .hbm, ⟨62, _⟩ => ⟨S32x1x256, .i32⟩
  | .hbm, ⟨63, _⟩ => ⟨S32x1x256, .i32⟩
  | .hbm, ⟨64, _⟩ => ⟨S_, .i32⟩
  | .hbm, ⟨65, _⟩ => ⟨S32x1x256, .i32⟩
  | .hbm, ⟨66, _⟩ => ⟨S32x1x256, .i32⟩
  | .hbm, ⟨67, _⟩ => ⟨S_, .i32⟩
  | .hbm, ⟨68, _⟩ => ⟨S32x1x256, .i32⟩
  | .hbm, ⟨69, _⟩ => ⟨S32x1x256, .i1⟩
  | .hbm, ⟨70, _⟩ => ⟨S1x128x256, .i1⟩
  | .hbm, ⟨71, _⟩ => ⟨S32x128x256, .i1⟩
  | .hbm, ⟨72, _⟩ => ⟨S32x128x256, .i1⟩
  | .hbm, ⟨73, _⟩ => ⟨S32x128x256, .i1⟩
  | .hbm, ⟨74, _⟩ => ⟨S1x32x1x1x128x256, .i1⟩
  | .hbm, ⟨75, _⟩ => ⟨S_, .f32⟩
  | .hbm, ⟨76, _⟩ => ⟨S_, .f32⟩
  | .hbm, ⟨77, _⟩ => ⟨S2x32x8x8x128x256, .i1⟩
  | .hbm, ⟨78, _⟩ => ⟨S2x32x8x8x128x256, .f32⟩
  | .hbm, ⟨79, _⟩ => ⟨S2x32x8x8x128x256, .f32⟩
  | .hbm, ⟨80, _⟩ => ⟨S1x1x8x8x1x1, .f32⟩
  | .hbm, ⟨81, _⟩ => ⟨S2x32x8x8x128x1, .f32⟩
  | .hbm, ⟨82, _⟩ => ⟨S2x32x8x8x128x257, .f32⟩
  | .hbm, ⟨83, _⟩ => ⟨S_, .f32⟩
  | .hbm, ⟨84, _⟩ => ⟨S2x32x8x8x128, .f32⟩
  | .hbm, ⟨85, _⟩ => ⟨S_, .f32⟩
  | .hbm, ⟨86, _⟩ => ⟨S2x32x8x8x128, .f32⟩
  | .hbm, ⟨87, _⟩ => ⟨S2x32x8x8x128, .f32⟩
  | .hbm, ⟨88, _⟩ => ⟨S2x32x8x8x128x1, .f32⟩
  | .hbm, ⟨89, _⟩ => ⟨S2x32x8x8x128x257, .f32⟩
  | .hbm, ⟨90, _⟩ => ⟨S2x32x8x8x128x257, .f32⟩
  | .hbm, ⟨91, _⟩ => ⟨S2x32x8x8x128x257, .f32⟩
  | .hbm, ⟨92, _⟩ => ⟨S_, .f32⟩
  | .hbm, ⟨93, _⟩ => ⟨S2x32x8x8x128, .f32⟩
  | .hbm, ⟨94, _⟩ => ⟨S2x32x8x8x128x1, .f32⟩
  | .hbm, ⟨95, _⟩ => ⟨S2x32x8x8x128x257, .f32⟩
  | .hbm, ⟨96, _⟩ => ⟨S2x32x8x8x128x257, .f32⟩
  | .hbm, ⟨97, _⟩ => ⟨S2x32x8x8x128x256, .f32⟩
  | .hbm, ⟨98, _⟩ => ⟨S2x32x8x64x8x128, .f32⟩
  | .hbm, ⟨99, _⟩ => ⟨S2x32x128x8x8x64, .f32⟩
  | .hbm, ⟨100, _⟩ => ⟨S8192x4096, .f32⟩
  | .hbm, ⟨101, _⟩ => ⟨S8192x4096, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_6 : Ref sig .tc := ⟨.hbm, 64, rfl⟩
abbrev main_v52 : Ref sig .tc := ⟨.hbm, 65, rfl⟩
abbrev main_v53 : Ref sig .tc := ⟨.hbm, 66, rfl⟩
abbrev main_c_7 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩

abbrev nD : Nat := 1
abbrev τ : Topo := Topo.v7x

variable {F : FTy → Type} [FloatOps F]
-- ==== FfnIn.lean ====
abbrev S8192x4096 : Shape := ⟨2, ![8192, 4096]⟩
abbrev S4x4096x28672 : Shape := ⟨3, ![4, 4096, 28672]⟩
abbrev S4x3x28672 : Shape := ⟨3, ![4, 3, 28672]⟩
abbrev S4x28672 : Shape := ⟨2, ![4, 28672]⟩
abbrev S4x1x28672 : Shape := ⟨3, ![4, 1, 28672]⟩
abbrev S8192x14336 : Shape := ⟨2, ![8192, 14336]⟩
abbrev S1024x4096 : Shape := ⟨2, ![1024, 4096]⟩
abbrev S1x4096x256 : Shape := ⟨3, ![1, 4096, 256]⟩
abbrev S1x3x256 : Shape := ⟨3, ![1, 3, 256]⟩
abbrev S1x1x256 : Shape := ⟨3, ![1, 1, 256]⟩
abbrev S1024x256 : Shape := ⟨2, ![1024, 256]⟩
abbrev S4096x512 : Shape := ⟨2, ![4096, 512]⟩
abbrev S1032x512 : Shape := ⟨2, ![1032, 512]⟩
abbrev S4096x256 : Shape := ⟨2, ![4096, 256]⟩
abbrev S8x512 : Shape := ⟨2, ![8, 512]⟩
abbrev S3x256 : Shape := ⟨2, ![3, 256]⟩
abbrev S3x512 : Shape := ⟨2, ![3, 512]⟩
abbrev S1x256 : Shape := ⟨2, ![1, 256]⟩
abbrev S1x512 : Shape := ⟨2, ![1, 512]⟩
abbrev S128x512 : Shape := ⟨2, ![128, 512]⟩
abbrev S128x256 : Shape := ⟨2, ![128, 256]⟩
abbrev S128x4096 : Shape := ⟨2, ![128, 4096]⟩

abbrev nBuf : Space → Nat
  | .hbm => 6
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S4x4096x28672, .f32⟩
  | .hbm, ⟨2, _⟩ => ⟨S4x3x28672, .f32⟩
  | .hbm, ⟨3, _⟩ => ⟨S4x28672, .f32⟩
  | .hbm, ⟨4, _⟩ => ⟨S4x1x28672, .f32⟩
  | .hbm, ⟨5, _⟩ => ⟨S8192x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1024x256, .bf16⟩
  | .local _ .vmem, ⟨15, _⟩ => ⟨S1024x256, .bf16⟩
  | .local _ .vmem, ⟨16, _⟩ => ⟨S4096x512, .bf16⟩
  | .local _ .vmem, ⟨17, _⟩ => ⟨S1032x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![449], ![false]⟩

def cc0_transform_0 (i : grid0.Coords) : Fin 2 → Nat :=
  let arg0 : BitVec 32 := BitVec.ofNat 32 (i 0).val
  let c447_i32 : BitVec 32 := 447#32
  let v0 : BitVec 32 := Scalar.minsi arg0 c447_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_1 (i : grid0.Coords) : Fin 3 → Nat :=
  let arg0 : BitVec 32 := BitVec.ofNat 32 (i 0).val
  let c447_i32 : BitVec 32 := 447#32
  let v0 : BitVec 32 := Scalar.minsi arg0 c447_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  ![c1_i32_4.toNat, c0_i32_5.toNat, v17.toNat]

def cc0_transform_2 (i : grid0.Coords) : Fin 3 → Nat :=
  let arg0 : BitVec 32 := BitVec.ofNat 32 (i 0).val
  let c447_i32 : BitVec 32 := 447#32
  let v0 : BitVec 32 := Scalar.minsi arg0 c447_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c56_i32 : BitVec 32 := 56#32
  let v18 : BitVec 32 := Scalar.addi v17 c56_i32
  let c1_i32_4 : BitVec 32 := 1#32
  let c0_i32_5 : BitVec 32 := 0#32
  let c0_i32_6 : BitVec 32 := 0#32
  ![c1_i32_4.toNat, c0_i32_5.toNat, v18.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c0_i32_7 : BitVec 32 := 0#32
  let c0_i32_8 : BitVec 32 := 0#32
  ![c1_i32_6.toNat, c0_i32_7.toNat, v18.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c56_i32 : BitVec 32 := 56#32
  let v19 : BitVec 32 := Scalar.addi v18 c56_i32
  let c1_i32_6 : BitVec 32 := 1#32
  let c0_i32_7 : BitVec 32 := 0#32
  let c0_i32_8 : BitVec 32 := 0#32
  ![c1_i32_6.toNat, c0_i32_7.toNat, v19.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c0_i32_7 : BitVec 32 := 0#32
  let c0_i32_8 : BitVec 32 := 0#32
  ![c1_i32_6.toNat, c0_i32_7.toNat, v18.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c56_i32 : BitVec 32 := 56#32
  let v19 : BitVec 32 := Scalar.addi v18 c56_i32
  let c1_i32_6 : BitVec 32 := 1#32
  let c0_i32_7 : BitVec 32 := 0#32
  let c0_i32_8 : BitVec 32 := 0#32
  ![c1_i32_6.toNat, c0_i32_7.toNat, v19.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.subi arg0 c1_i32_5
  let c0_i32_6 : BitVec 32 := 0#32
  let v13 : BitVec 32 := Scalar.maxsi v12 c0_i32_6
  let c8_i32_7 : BitVec 32 := 8#32
  let v14 : BitVec 32 := Scalar.divsi v13 c8_i32_7
  let c0_i32_8 : BitVec 32 := 0#32
  let v15 : BitVec 1 := Scalar.cmpi .sgt v13 c0_i32_8
  let v16 : BitVec 32 := Scalar.extui v15
  let c0_i32_9 : BitVec 32 := 0#32
  let v17 : BitVec 1 := Scalar.cmpi .slt v13 c0_i32_9
  let v18 : BitVec 32 := Scalar.extui v17
  let v19 : BitVec 32 := Scalar.subi v16 v18
  let c0_i32_10 : BitVec 32 := 0#32
  let v20 : BitVec 1 := Scalar.cmpi .sgt c8_i32_7 c0_i32_10
  let v21 : BitVec 32 := Scalar.extui v20
  let c0_i32_11 : BitVec 32 := 0#32
  let v22 : BitVec 1 := Scalar.cmpi .slt c8_i32_7 c0_i32_11
  let v23 : BitVec 32 := Scalar.extui v22
  let v24 : BitVec 32 := Scalar.subi v21 v23
  let v25 : BitVec 1 := Scalar.cmpi .ne v19 v24
  let v26 : BitVec 32 := Scalar.remsi v13 c8_i32_7
  let c0_i32_12 : BitVec 32 := 0#32
  let v27 : BitVec 1 := Scalar.cmpi .ne v26 c0_i32_12
  let v28 : BitVec 1 := Scalar.andi v25 v27
  let c1_i32_13 : BitVec 32 := 1#32
  let v29 : BitVec 32 := Scalar.subi v14 c1_i32_13
  let v30 : BitVec 32 := Scalar.select v28 v29 v14
  let c0_i32_14 : BitVec 32 := 0#32
  ![v11.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnInRefIdeal.lean ====
abbrev S8192x4096 : Shape := ⟨2, ![8192, 4096]⟩
abbrev S4x4096x28672 : Shape := ⟨3, ![4, 4096, 28672]⟩
abbrev S4x3x28672 : Shape := ⟨3, ![4, 3, 28672]⟩
abbrev S4x28672 : Shape := ⟨2, ![4, 28672]⟩
abbrev S1x4096x28672 : Shape := ⟨3, ![1, 4096, 28672]⟩
abbrev S4096x28672 : Shape := ⟨2, ![4096, 28672]⟩
abbrev S1x3x28672 : Shape := ⟨3, ![1, 3, 28672]⟩
abbrev S3x28672 : Shape := ⟨2, ![3, 28672]⟩
abbrev S1x28672 : Shape := ⟨2, ![1, 28672]⟩
abbrev S28672 : Shape := ⟨1, ![28672]⟩
abbrev S2x4096x4096 : Shape := ⟨3, ![2, 4096, 4096]⟩
abbrev S2x4096x28672 : Shape := ⟨3, ![2, 4096, 28672]⟩
abbrev S_ : Shape := ⟨0, ![]⟩
abbrev S2x4098x28672 : Shape := ⟨3, ![2, 4098, 28672]⟩
abbrev S1x1x28672 : Shape := ⟨3, ![1, 1, 28672]⟩
abbrev S2x4096x14336 : Shape := ⟨3, ![2, 4096, 14336]⟩
abbrev S8192x14336 : Shape := ⟨2, ![8192, 14336]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28672, .f32⟩
  | .hbm, ⟨2, _⟩ => ⟨S4x3x28672, .f32⟩
  | .hbm, ⟨3, _⟩ => ⟨S4x28672, .f32⟩
  | .hbm, ⟨4, _⟩ => ⟨S1x4096x28672, .f32⟩
  | .hbm, ⟨5, _⟩ => ⟨S4096x28672, .f32⟩
  | .hbm, ⟨6, _⟩ => ⟨S1x3x28672, .f32⟩
  | .hbm, ⟨7, _⟩ => ⟨S3x28672, .f32⟩
  | .hbm, ⟨8, _⟩ => ⟨S1x28672, .f32⟩
  | .hbm, ⟨9, _⟩ => ⟨S28672, .f32⟩
  | .hbm, ⟨10, _⟩ => ⟨S8192x4096, .f32⟩
  | .hbm, ⟨11, _⟩ => ⟨S2x4096x4096, .f32⟩
  | .hbm, ⟨12, _⟩ => ⟨S2x4096x28672, .f32⟩
  | .hbm, ⟨13, _⟩ => ⟨S_, .i32⟩
  | .hbm, ⟨14, _⟩ => ⟨S_, .f32⟩
  | .hbm, ⟨15, _⟩ => ⟨S2x4098x28672, .f32⟩
  | .hbm, ⟨16, _⟩ => ⟨S1x28672, .f32⟩
  | .hbm, ⟨17, _⟩ => ⟨S28672, .f32⟩
  | .hbm, ⟨18, _⟩ => ⟨S2x4096x28672, .f32⟩
  | .hbm, ⟨19, _⟩ => ⟨S1x1x28672, .f32⟩
  | .hbm, ⟨20, _⟩ => ⟨S2x4096x28672, .f32⟩
  | .hbm, ⟨21, _⟩ => ⟨S2x4096x28672, .f32⟩
  | .hbm, ⟨22, _⟩ => ⟨S1x1x28672, .f32⟩
  | .hbm, ⟨23, _⟩ => ⟨S2x4096x28672, .f32⟩
  | .hbm, ⟨24, _⟩ => ⟨S2x4096x28672, .f32⟩
  | .hbm, ⟨25, _⟩ => ⟨S1x28672, .f32⟩
  | .hbm, ⟨26, _⟩ => ⟨S28672, .f32⟩
  | .hbm, ⟨27, _⟩ => ⟨S2x4096x28672, .f32⟩
  | .hbm, ⟨28, _⟩ => ⟨S1x1x28672, .f32⟩
  | .hbm, ⟨29, _⟩ => ⟨S2x4096x28672, .f32⟩
  | .hbm, ⟨30, _⟩ => ⟨S2x4096x28672, .f32⟩
  | .hbm, ⟨31, _⟩ => ⟨S2x4096x28672, .f32⟩
  | .hbm, ⟨32, _⟩ => ⟨S1x28672, .f32⟩
  | .hbm, ⟨33, _⟩ => ⟨S28672, .f32⟩
  | .hbm, ⟨34, _⟩ => ⟨S2x4096x28672, .f32⟩
  | .hbm, ⟨35, _⟩ => ⟨S1x1x28672, .f32⟩
  | .hbm, ⟨36, _⟩ => ⟨S2x4096x28672, .f32⟩
  | .hbm, ⟨37, _⟩ => ⟨S2x4096x28672, .f32⟩
  | .hbm, ⟨38, _⟩ => ⟨S2x4096x28672, .f32⟩
  | .hbm, ⟨39, _⟩ => ⟨S2x4096x14336, .f32⟩
  | .hbm, ⟨40, _⟩ => ⟨S2x4096x14336, .f32⟩
  | .hbm, ⟨41, _⟩ => ⟨S2x4096x14336, .f32⟩
  | .hbm, ⟨42, _⟩ => ⟨S2x4096x14336, .f32⟩
  | .hbm, ⟨43, _⟩ => ⟨S_, .f32⟩
  | .hbm, ⟨44, _⟩ => ⟨S2x4096x14336, .f32⟩
  | .hbm, ⟨45, _⟩ => ⟨S2x4096x14336, .f32⟩
  | .hbm, ⟨46, _⟩ => ⟨S_, .f32⟩
  | .hbm, ⟨47, _⟩ => ⟨S2x4096x14336, .f32⟩
  | .hbm, ⟨48, _⟩ => ⟨S2x4096x14336, .f32⟩
  | .hbm, ⟨49, _⟩ => ⟨S2x4096x14336, .f32⟩
  | .hbm, ⟨50, _⟩ => ⟨S2x4096x14336, .f32⟩
  | .hbm, ⟨51, _⟩ => ⟨S8192x14336, .f32⟩
  | .hbm, ⟨52, _⟩ => ⟨S8192x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== FfnDown.lean ====
abbrev S8192x14336 : Shape := ⟨2, ![8192, 14336]⟩
abbrev S4x14336x4096 : Shape := ⟨3, ![4, 14336, 4096]⟩
abbrev S8192x4096 : Shape := ⟨2, ![8192, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x14336, .bf16⟩
  | .hbm, ⟨1, _⟩ => ⟨S4x14336x4096, .f32⟩
  | .hbm, ⟨2, _⟩ => ⟨S8192x4096, .f32⟩
  | .hbm, ⟨3, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 14], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x14336 : Shape := ⟨2, ![8192, 14336]⟩
abbrev S4x14336x4096 : Shape := ⟨3, ![4, 14336, 4096]⟩
abbrev S8192x4096 : Shape := ⟨2, ![8192, 4096]⟩
abbrev S1x14336x4096 : Shape := ⟨3, ![1, 14336, 4096]⟩
abbrev S14336x4096 : Shape := ⟨2, ![14336, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S4x14336x4096, .f32⟩
  | .hbm, ⟨2, _⟩ => ⟨S8192x4096, .f32⟩
  | .hbm, ⟨3, _⟩ => ⟨S8192x14336, .f32⟩
  | .hbm, ⟨4, _⟩ => ⟨S1x14336x4096, .f32⟩
  | .hbm, ⟨5, _⟩ => ⟨S14336x4096, .f32⟩
  | .hbm, ⟨6, _⟩ => ⟨S8192x4096, .f32⟩
  | .hbm, ⟨7, _⟩ => ⟨S8192x4096, .f32⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SbQkv.lean ====
abbrev S8192x4096 : Shape := ⟨2, ![8192, 4096]⟩
abbrev S2x4096x12288 : Shape := ⟨3, ![2, 4096, 12288]⟩
abbrev S8192x12288 : Shape := ⟨2, ![8192, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SbQkvRefIdeal.lean ====
abbrev S8192x4096 : Shape := ⟨2, ![8192, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S8192x12288 : Shape := ⟨2, ![8192, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x12288, .f32⟩
  | .hbm, ⟨2, _⟩ => ⟨S8192x4096, .f32⟩
  | .hbm, ⟨3, _⟩ => ⟨S1x4096x12288, .f32⟩
  | .hbm, ⟨4, _⟩ => ⟨S4096x12288, .f32⟩
  | .hbm, ⟨5, _⟩ => ⟨S8192x12288, .f32⟩
  | .hbm, ⟨6, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SwaQkv.lean ====
abbrev S8192x4096 : Shape := ⟨2, ![8192, 4096]⟩
abbrev S2x4096x5120 : Shape := ⟨3, ![2, 4096, 5120]⟩
abbrev S8192x5120 : Shape := ⟨2, ![8192, 5120]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x5120, .f32⟩
  | .hbm, ⟨2, _⟩ => ⟨S8192x5120, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwaQkvRefIdeal.lean ====
abbrev S8192x4096 : Shape := ⟨2, ![8192, 4096]⟩
abbrev S2x4096x5120 : Shape := ⟨3, ![2, 4096, 5120]⟩
abbrev S1x4096x5120 : Shape := ⟨3, ![1, 4096, 5120]⟩
abbrev S4096x5120 : Shape := ⟨2, ![4096, 5120]⟩
abbrev S8192x5120 : Shape := ⟨2, ![8192, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x5120, .f32⟩
  | .hbm, ⟨2, _⟩ => ⟨S8192x4096, .f32⟩
  | .hbm, ⟨3, _⟩ => ⟨S1x4096x5120, .f32⟩
  | .hbm, ⟨4, _⟩ => ⟨S4096x5120, .f32⟩
  | .hbm, ⟨5, _⟩ => ⟨S8192x5120, .f32⟩
  | .hbm, ⟨6, _⟩ => ⟨S8192x5120, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Norm.lean ====
abbrev S8192x4096 : Shape := ⟨2, ![8192, 4096]⟩
abbrev S4x4096 : Shape := ⟨2, ![4, 4096]⟩
abbrev S4x1x4096 : Shape := ⟨3, ![4, 1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S4x1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FinalNorm.lean ====
abbrev S8192x4096 : Shape := ⟨2, ![8192, 4096]⟩
abbrev S4096 : Shape := ⟨1, ![4096]⟩
abbrev S1x4096 : Shape := ⟨2, ![1, 4096]⟩
abbrev S1x1x4096 : Shape := ⟨3, ![1, 1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x1x4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S512x4096, .f32⟩
  | .local _ .vmem, ⟨4, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.FfnDownValue.lean ====
/-
  The down projection: the array the kernel leaves is the reference's `h + act @ w[1]`.
  The kernel adds the product tile by tile over fourteen points into one block; the sum of the fourteen
  partial products is the product over the whole contracted axis.
-/
module

public import proofs.«01_k».proof.Proof.Gen.FfnDownIdeal.Value
public import proofs.«01_k».proof.Proof.Gen.FfnDownRefIdeal.Read
public import Idealize.ShloMosaic.Lib.Pointwise

@[expose] public section

set_option maxRecDepth 16384

noncomputable section

namespace Cert.FfnDownIdeal.Value

open Cert.FfnDownIdeal Cert.FfnDownIdeal.Gen Idealize.ShloMosaic Idealize.ShloMosaic.TcCoe Idealize.SL.Sem

variable (m : (ℓ : Loc nD τ sig) → Buf (Elt Ideal) ℓ)

/-- One step's block at an index: what the block held plus the tile's partial product. -/
theorem pay_apply (acc : Vec Ideal S2048x1024 .f32) (x : Vec Ideal S2048x1024 .bf16) (w : Vec Ideal S1x1024x1024 .f32)
    (j : S2048x1024.Idx) :
    k0_pay1 acc x w j = acc j + ∑ k : Fin 1024, x (ix2 (j 0) k) * w (ix3 0 k (j 1)) := by
  unfold k0_pay1
  simp only [pointwise, zero_add]

/-- The windows' block indices at a point: row tile, contracted tile and column tile of the launch order. -/
theorem blocks_at : ∀ t : Fin cfg0.N,
    win0_0.index t (0 : Fin 2) = t.val / 56 ∧ win0_0.index t (1 : Fin 2) = t.val % 14
    ∧ win0_1.index t (0 : Fin 3) = 1 ∧ win0_1.index t (1 : Fin 3) = t.val % 14
    ∧ win0_1.index t (2 : Fin 3) = t.val / 14 % 4
    ∧ win0_2.index t (0 : Fin 2) = t.val / 56 ∧ win0_2.index t (1 : Fin 2) = t.val / 14 % 4 :=
  (by decide +kernel : ∀ t : Fin grid0.N, _)

/-- The gated rows staged at a point. -/
abbrev act (c : Dev nD) (t : Fin cfg0.N) : FVec Ideal S2048x1024 .bf16 := iblk m c 0 t

/-- The weights staged at a point. -/
abbrev wts (c : Dev nD) (t : Fin cfg0.N) : FVec Ideal S1x1024x1024 .f32 := iblk m c 1 t

/-- The residual rows staged at a point. -/
abbrev res (c : Dev nD) (t : Fin cfg0.N) : FVec Ideal S2048x1024 .f32 := iblk m c 2 t

/-- The gated rows, read through window 0 at a point. -/
theorem act_apply (c : Dev nD) (t : Fin cfg0.N) (r : Fin 2048) (k : Fin 1024) (i : S8192x14336.Idx)
    (h0 : (i 0).val = t.val / 56 * 2048 + r.val) (h1 : (i 1).val = t.val % 14 * 1024 + k.val) :
    act m c t (ix2 r k) = m ((c : Thread nD τ).loc main_arg0) i := by
  unfold act iblk
  rw [View.read_apply]
  show V m c main_arg0 _ = _
  rw [V_main_arg0]
  congr 1
  funext a
  apply Fin.ext
  obtain ⟨e0, e1, -⟩ := blocks_at t
  match a with
  | ⟨0, _⟩ => show win0_0.index t 0 * 2048 + 1 * r.val = (i 0).val; rw [e0]; omega
  | ⟨1, _⟩ => show win0_0.index t 1 * 1024 + 1 * k.val = (i 1).val; rw [e1]; omega

/-- The weights of layer 1, read through window 1 at a point. -/
theorem w_apply (c : Dev nD) (t : Fin cfg0.N) (k : Fin 1024) (q : Fin 1024) (i : S4x14336x4096.Idx)
    (h0 : (i 0).val = 1) (h1 : (i 1).val = t.val % 14 * 1024 + k.val) (h2 : (i 2).val = t.val / 14 % 4 * 1024 + q.val) :
    wts m c t (ix3 0 k q) = m ((c : Thread nD τ).loc main_arg1) i := by
  unfold wts iblk
  rw [View.read_apply]
  show V m c main_arg1 _ = _
  rw [V_main_arg1]
  congr 1
  funext a
  apply Fin.ext
  obtain ⟨-, -, e0, e1, e2, -⟩ := blocks_at t
  match a with
  | ⟨0, _⟩ => show win0_1.index t 0 * 1 + 1 * 0 = (i 0).val; rw [e0]; omega
  | ⟨1, _⟩ => show win0_1.index t 1 * 1024 + 1 * k.val = (i 1).val; rw [e1]; omega
  | ⟨2, _⟩ => show win0_1.index t 2 * 1024 + 1 * q.val = (i 2).val; rw [e2]; omega

/-- The residual rows, read through window 2 at a point. -/
theorem h_apply (c : Dev nD) (t : Fin cfg0.N) (j : S2048x1024.Idx) (i : S8192x4096.Idx)
    (h0 : (i 0).val = t.val / 56 * 2048 + (j 0).val) (h1 : (i 1).val = t.val / 14 % 4 * 1024 + (j 1).val) :
    res m c t j = m ((c : Thread nD τ).loc main_arg2) i := by
  unfold res iblk
  rw [View.read_apply]
  show V m c main_arg2 _ = _
  rw [V_main_arg2]
  congr 1
  funext a
  apply Fin.ext
  obtain ⟨-, -, -, -, -, e0, e1⟩ := blocks_at t
  match a with
  | ⟨0, _⟩ => show win0_2.index t 0 * 2048 + 1 * (j 0).val = (i 0).val; rw [e0]; omega
  | ⟨1, _⟩ => show win0_2.index t 1 * 1024 + 1 * (j 1).val = (i 1).val; rw [e1]; omega

/-- The array the kernel leaves is the reference's term. -/
theorem result_eq (c : Dev nD) :
    G3 m c = Cert.FfnDownRefIdeal.Read.val_main_v4 (F := Ideal) (m ((c : Thread nD τ).loc main_arg0))
      (m ((c : Thread nD τ).loc main_arg1)) (m ((c : Thread nD τ).loc main_arg2)) := by
  funext (i : S8192x4096.Idx)
  have hN : cfg0.N = 224 := N_0
  have hi0 : (i 0).val < 8192 := (i 0).isLt
  have hi1 : (i 1).val < 4096 := (i 1).isLt
  have hrun : run3Of i = 4 * ((i 0).val / 2048) + (i 1).val / 1024 := by
    show 4 * ((i 0).val / 2048 - 0) + 1 * ((i 1).val / 1024 - 0) = _
    omega
  have hr : 14 * run3Of i + 13 < cfg0.N := by omega
  unfold G3
  rw [dif_pos hr]
  generalize hq : run3Of i = q at hr hrun ⊢
  have hj0 : ((loc3Of i) 0).val = (i 0).val % 2048 := rfl
  have hj1 : ((loc3Of i) 1).val = (i 1).val % 1024 := rfl
  rw [Pipeline.accAt_add_apply (reset3 m c) (step3 m c)
    (res m c ⟨14 * q, by omega⟩)
    (fun n j => if h : n < cfg0.N then ∑ k : Fin 1024, act m c ⟨n, h⟩ (ix2 (j 0) k) * wts m c ⟨n, h⟩ (ix3 0 k (j 1)) else 0)
    (14 * q) 13
    (fun h j => by unfold reset3; rw [pay_apply]; simp only [h, dif_pos])
    (fun n h acc j _ _ => by unfold step3; rw [pay_apply]; simp only [h, dif_pos]) 13 (le_refl _) hr (loc3Of i)]
  rw [Cert.FfnDownRefIdeal.Read.val_main_v4_apply, Cert.FfnDownRefIdeal.Read.val_main_v3_apply]
  rw [Fin.sum_univ_tiles 14 1024 (by decide), Finset.sum_range]
  refine congrArg₂ (fun a b : EReal => a + b) (h_apply m c ⟨14 * q, by omega⟩ (loc3Of i) i
    (by show _ = 14 * q / 56 * 2048 + _; omega) (by show _ = 14 * q / 14 % 4 * 1024 + _; omega))
    (Finset.sum_congr rfl fun s _ => ?_)
  have hs : s.val < 14 := s.isLt
  have hlt : 14 * q + s.val < cfg0.N := by omega
  rw [dif_pos hlt]
  refine Finset.sum_congr rfl fun k _ => ?_
  have hk : k.val < 1024 := k.isLt
  have d1 : (14 * q + s.val) / 56 = (i 0).val / 2048 := by omega
  have d2 : (14 * q + s.val) % 14 = s.val := by omega
  have d3 : (14 * q + s.val) / 14 % 4 = (i 1).val / 1024 := by omega
  refine congrArg₂ (fun a b : EReal => a * b)
    ((act_apply m c ⟨14 * q + s.val, hlt⟩ (loc3Of i 0) k
      (Cert.FfnDownRefIdeal.Read.lidx_main_v3 i ⟨s.val * 1024 + k.val, by omega⟩) ?_ ?_).trans
      rfl)
    ((w_apply m c ⟨14 * q + s.val, hlt⟩ k (loc3Of i 1) (Cert.FfnDownRefIdeal.Read.idx_main_v1
      (Cert.FfnDownRefIdeal.Read.idx_main_v2 (Cert.FfnDownRefIdeal.Read.ridx_main_v3 i ⟨s.val * 1024 + k.val, by omega⟩))) ?_ ?_ ?_).trans
      ((Cert.FfnDownRefIdeal.Read.val_main_v1_apply _ _).symm.trans (Cert.FfnDownRefIdeal.Read.val_main_v2_apply _ _).symm))
  · show (i 0).val = (14 * q + s.val) / 56 * 2048 + (i 0).val % 2048; rw [d1]; omega
  · show s.val * 1024 + k.val = (14 * q + s.val) % 14 * 1024 + k.val; rw [d2]
  · rfl
  · show ((s.val * 1024 + k.val) * 4096 + (i 1).val) / 4096 % 14336 = (14 * q + s.val) % 14 * 1024 + k.val; rw [d2]; omega
  · show ((s.val * 1024 + k.val) * 4096 + (i 1).val) % 4096 = (14 * q + s.val) / 14 % 4 * 1024 + (i 1).val % 1024; rw [d3]; omega

end Cert.FfnDownIdeal.Value

end
-- ==== Proof.SbQkvValue.lean ====
/-
  The stick-breaking layer's q, k, v projection: the array the kernel leaves is the reference's `xn @ w_qkv[1]`.
  The first row tile of a column tile stores the rounded weights in a scratch that the other row tiles of
  that column tile read; so after every point the scratch holds the column tile's weights of layer 1.
-/
module

public import proofs.«01_k».proof.Proof.Gen.SbQkvIdeal.Value
public import proofs.«01_k».proof.Proof.Gen.SbQkvRefIdeal.Read
public import Idealize.ShloMosaic.Lib.Pointwise

@[expose] public section

set_option maxRecDepth 16384

noncomputable section

namespace Cert.SbQkvIdeal.Value

open Cert.SbQkvIdeal Cert.SbQkvIdeal.Gen Idealize.ShloMosaic Idealize.ShloMosaic.TcCoe Idealize.SL.Sem

variable (m : (ℓ : Loc nD τ sig) → Buf (Elt Ideal) ℓ)

/-- The rounded weights at an index. -/
theorem weights_apply (w : Vec Ideal S1x4096x512 .f32) (j : S4096x512.Idx) : k0_pay1 w j = w (ix3 0 (j 0) (j 1)) := by
  unfold k0_pay1
  simp only [pointwise]

/-- A block of the product at an index. -/
theorem product_apply (x : Vec Ideal S1024x4096 .bf16) (w : Vec Ideal S4096x512 .bf16) (j : S1024x512.Idx) :
    k0_pay2 x w j = ∑ k : Fin 4096, x (ix2 (j 0) k) * w (ix2 k (j 1)) := by
  unfold k0_pay2
  simp only [pointwise, zero_add]

/-- A rectangle's offsets that are all zero. -/
theorem offs2 : (![0, 0] : Fin 2 → Nat) = fun _ => 0 := funext fun a => by fin_cases a <;> rfl

/-- A rectangle's offsets that are all zero. -/
theorem offs3 : (![0, 0, 0] : Fin 3 → Nat) = fun _ => 0 := funext fun a => by fin_cases a <;> rfl

/-- What a column tile's first point stores in the scratch. -/
theorem scratch_first (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .bf16) (harg4 : arg4.IsWhole) (arg5 : Memref sig .tc .vmem S4096x512 .bf16) (harg5 : arg5.IsWhole) (hc0 : cond0_0 i)
    (x0 : Vec Ideal S1024x4096 .bf16) (x1 : Vec Ideal S1x4096x512 .f32) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A; dsimp only; try sl_unfold_words
  rw [View.canon_cons_unit_zero (S := S4096x512) offs2, View.readAt_eq_ld, harg3.read_unread, View.ld_unit_zero (S := S1x4096x512) offs3]

/-- What a column tile's first point stores in the output block. -/
theorem out_first (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .bf16) (harg4 : arg4.IsWhole) (arg5 : Memref sig .tc .vmem S4096x512 .bf16) (harg5 : arg5.IsWhole) (hc0 : cond0_0 i)
    (x0 : Vec Ideal S1024x4096 .bf16) (x1 : Vec Ideal S1x4096x512 .f32) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A; dsimp only; try sl_unfold_words
  rw [View.canon_cons_unit_zero (S := S1024x512) offs2, View.readCov_unit_zero (S := S4096x512) _ offs2]
  simp only [View.readAt_eq_ld, harg2.read_unread, harg3.read_unread, View.ld_unit_zero (S := S1024x4096) offs2, View.ld_unit_zero (S := S1x4096x512) offs3]

/-- What any other point stores in the output block, from the scratch it finds. -/
theorem out_next (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .bf16) (harg4 : arg4.IsWhole) (arg5 : Memref sig .tc .vmem S4096x512 .bf16) (harg5 : arg5.IsWhole) (hc0 : ¬cond0_0 i)
    (x0 : Vec Ideal S1024x4096 .bf16) (x1 : Vec Ideal S1x4096x512 .f32) (xs0 : Vec Ideal S4096x512 .bf16) :
    out0_B_2 c i arg2 harg2 arg3 harg3 arg4 harg4 arg5 harg5 hc0 x0 x1 xs0 = k0_pay2 x0 xs0 := by
  unfold out0_B_2
  rw [View.read_writes_eq_canon _ _ _ (cover0_B_2 c i arg2 harg2 arg3 harg3 arg4 harg4 arg5 harg5 hc0 x0 x1 xs0)]
  unfold kernelRun0_B; dsimp only; try sl_unfold_words
  rw [View.canon_cons_unit_zero (S := S1024x512) offs2]
  simp only [View.readAt_eq_ld, harg2.read_unread, harg5.read_unread, View.ld_unit_zero (S := S1024x4096) offs2, View.ld_unit_zero (S := S4096x512) offs2]

/-- The windows' block indices at a point: row tile and column tile of the launch order, layer 1. -/
theorem blocks_at : ∀ t : Fin cfg0.N,
    win0_0.index t (0 : Fin 2) = t.val % 8 ∧ win0_0.index t (1 : Fin 2) = 0
    ∧ win0_1.index t (0 : Fin 3) = 1 ∧ win0_1.index t (1 : Fin 3) = 0 ∧ win0_1.index t (2 : Fin 3) = t.val / 8 :=
  (by decide +kernel : ∀ t : Fin grid0.N, _)

/-- The rows staged at a point. -/
abbrev rows (c : Dev nD) (t : Fin cfg0.N) : FVec Ideal S1024x4096 .bf16 := iblk m c 0 t

/-- The weights staged at a point. -/
abbrev wts (c : Dev nD) (t : Fin cfg0.N) : FVec Ideal S1x4096x512 .f32 := iblk m c 1 t

/-- The rows, read through window 0 at a point. -/
theorem rows_apply (c : Dev nD) (t : Fin cfg0.N) (r : Fin 1024) (k : Fin 4096) (i : S8192x4096.Idx)
    (h0 : (i 0).val = t.val % 8 * 1024 + r.val) (h1 : (i 1).val = k.val) :
    rows m c t (ix2 r k) = m ((c : Thread nD τ).loc main_arg0) i := by
  unfold rows iblk
  rw [View.read_apply]
  show V m c main_arg0 _ = _
  rw [V_main_arg0]
  congr 1
  funext a
  apply Fin.ext
  obtain ⟨e0, e1, -⟩ := blocks_at t
  match a with
  | ⟨0, _⟩ => show win0_0.index t 0 * 1024 + 1 * r.val = (i 0).val; rw [e0]; omega
  | ⟨1, _⟩ => show win0_0.index t 1 * 4096 + 1 * k.val = (i 1).val; rw [e1]; omega

/-- The weights of layer 1, read through window 1 at a point. -/
theorem wts_apply (c : Dev nD) (t : Fin cfg0.N) (k : Fin 4096) (q : Fin 512) (i : S2x4096x12288.Idx)
    (h0 : (i 0).val = 1) (h1 : (i 1).val = k.val) (h2 : (i 2).val = t.val / 8 * 512 + q.val) :
    wts m c t (ix3 0 k q) = m ((c : Thread nD τ).loc main_arg1) i := by
  unfold wts iblk
  rw [View.read_apply]
  show V m c main_arg1 _ = _
  rw [V_main_arg1]
  congr 1
  funext a
  apply Fin.ext
  obtain ⟨-, -, e0, e1, e2⟩ := blocks_at t
  match a with
  | ⟨0, _⟩ => show win0_1.index t 0 * 1 + 1 * 0 = (i 0).val; rw [e0]; omega
  | ⟨1, _⟩ => show win0_1.index t 1 * 4096 + 1 * k.val = (i 1).val; rw [e1]; omega
  | ⟨2, _⟩ => show win0_1.index t 2 * 512 + 1 * q.val = (i 2).val; rw [e2]; omega

/-- After every point the scratch holds the weights of the point's column tile. -/
theorem scratch_apply (c : Dev nD) (k : Fin 4096) (q : Fin 512) (i : S2x4096x12288.Idx) (h0 : (i 0).val = 1) (h1 : (i 1).val = k.val) :
    ∀ (n : ℕ) (hn : n < cfg0.N), (i 2).val = n / 8 * 512 + q.val →
      (outsAt0 m c n hn).2 (ix2 k q) = m ((c : Thread nD τ).loc main_arg1) i := by
  intro n
  induction n with
  | zero =>
    intro hn h2
    rw [outsAt0_A m c ⟨0, hn⟩ rfl]
    dsimp only
    rw [scratch_first, weights_apply]
    exact wts_apply m c ⟨0, hn⟩ k q i h0 h1 h2
  | succ n ih =>
    intro hn h2
    by_cases hm : (n + 1) % 8 = 0
    · rw [outsAt0_A m c ⟨n + 1, hn⟩ hm]
      dsimp only
      rw [scratch_first, weights_apply]
      exact wts_apply m c ⟨n + 1, hn⟩ k q i h0 h1 h2
    · rw [outsAt0_B m c ⟨n + 1, hn⟩ hm]
      dsimp only
      exact ih (Nat.lt_of_succ_lt hn) (by rw [h2]; omega)

/-- After every point the output block holds the product of the staged rows with the column tile's weights. -/
theorem block_apply (c : Dev nD) (n : ℕ) (hn : n < cfg0.N) (j : S1024x512.Idx) (f : Fin 4096 → S2x4096x12288.Idx)
    (h0 : ∀ k, (f k 0).val = 1) (h1 : ∀ k, (f k 1).val = k.val) (h2 : ∀ k, (f k 2).val = n / 8 * 512 + (j 1).val) :
    (outsAt0 m c n hn).1 j = ∑ k : Fin 4096, rows m c ⟨n, hn⟩ (ix2 (j 0) k)
      * (show FVec Ideal S2x4096x12288 .f32 from m ((c : Thread nD τ).loc main_arg1)) (f k) := by
  by_cases hm : n % 8 = 0
  · rw [outsAt0_A m c ⟨n, hn⟩ hm]
    dsimp only
    rw [out_first, product_apply]
    refine Finset.sum_congr rfl fun k _ => ?_
    rw [weights_apply]
    exact congrArg (fun b : EReal => _ * b) (wts_apply m c ⟨n, hn⟩ k (j 1) (f k) (h0 k) (h1 k) (h2 k))
  · rw [outsAt0_B m c ⟨n, hn⟩ hm]
    dsimp only
    rw [out_next, product_apply]
    refine Finset.sum_congr rfl fun k _ => ?_
    exact congrArg (fun b : EReal => _ * b)
      (scratch_apply m c k (j 1) (f k) (h0 k) (h1 k) (n - 1) _ ((h2 k).trans (by omega)))

/-- The array the kernel leaves is the reference's term. -/
theorem result_eq (c : Dev nD) :
    G2 m c = Cert.SbQkvRefIdeal.Read.val_main_v4 (F := Ideal) (m ((c : Thread nD τ).loc main_arg0))
      (m ((c : Thread nD τ).loc main_arg1)) := by
  funext (i : S8192x12288.Idx)
  have hN : cfg0.N = 192 := N_0
  have hi0 : (i 0).val < 8192 := (i 0).isLt
  have hi1 : (i 1).val < 12288 := (i 1).isLt
  have hrun : run2Of i = (i 0).val / 1024 + 8 * ((i 1).val / 512) := by
    show 1 * ((i 0).val / 1024 - 0) + 8 * ((i 1).val / 512 - 0) = _
    omega
  have hr : pt2Of i < cfg0.N := by show run2Of i < _; omega
  unfold G2
  rw [dif_pos hr, ← outsAt0_sweep]
  have d1 : run2Of i % 8 = (i 0).val / 1024 := by omega
  have d2 : run2Of i / 8 = (i 1).val / 512 := by omega
  refine (block_apply m c _ hr (loc2Of i) (fun k => Cert.SbQkvRefIdeal.Read.idx_main_v1
      (Cert.SbQkvRefIdeal.Read.idx_main_v2 (Cert.SbQkvRefIdeal.Read.ridx_main_v3 i k)))
    (fun k => rfl)
    (fun k => by
      have hk : k.val < 4096 := k.isLt
      show (k.val * 12288 + (i 1).val) / 12288 % 4096 = k.val; omega)
    (fun k => by
      show (k.val * 12288 + (i 1).val) % 12288 = run2Of i / 8 * 512 + (i 1).val % 512; rw [d2]; omega)).trans ?_
  refine Eq.trans (Finset.sum_congr rfl fun k _ => ?_)
    (Cert.SbQkvRefIdeal.Read.val_main_v3_apply (m ((c : Thread nD τ).loc main_arg0)) (m ((c : Thread nD τ).loc main_arg1)) i).symm
  refine congrArg₂ (fun a b : EReal => a * b)
    ((rows_apply m c ⟨_, hr⟩ (loc2Of i 0) k (Cert.SbQkvRefIdeal.Read.lidx_main_v3 i k) ?_ rfl).trans rfl)
    ((Cert.SbQkvRefIdeal.Read.val_main_v1_apply _ _).symm.trans (Cert.SbQkvRefIdeal.Read.val_main_v2_apply _ _).symm)
  show (i 0).val = run2Of i % 8 * 1024 + (i 0).val % 1024
  rw [d1]; omega

end Cert.SbQkvIdeal.Value

end
-- ==== Proof.SwaQkvValue.lean ====
/-
  The sliding-window layer's q, k, v projection: the array the kernel leaves is the reference's `xn @ w_qkv[1]`.
  The first row tile of a column tile stores the rounded weights in a scratch that the other row tiles of
  that column tile read; so after every point the scratch holds the column tile's weights of layer 1.
-/
module

public import proofs.«01_k».proof.Proof.Gen.SwaQkvIdeal.Value
public import proofs.«01_k».proof.Proof.Gen.SwaQkvRefIdeal.Read
public import Idealize.ShloMosaic.Lib.Pointwise

@[expose] public section

set_option maxRecDepth 16384

noncomputable section

namespace Cert.SwaQkvIdeal.Value

open Cert.SwaQkvIdeal Cert.SwaQkvIdeal.Gen Idealize.ShloMosaic Idealize.ShloMosaic.TcCoe Idealize.SL.Sem

variable (m : (ℓ : Loc nD τ sig) → Buf (Elt Ideal) ℓ)

/-- The rounded weights at an index. -/
theorem weights_apply (w : Vec Ideal S1x4096x512 .f32) (j : S4096x512.Idx) : k0_pay1 w j = w (ix3 0 (j 0) (j 1)) := by
  unfold k0_pay1
  simp only [pointwise]

/-- A block of the product at an index. -/
theorem product_apply (x : Vec Ideal S1024x4096 .bf16) (w : Vec Ideal S4096x512 .bf16) (j : S1024x512.Idx) :
    k0_pay2 x w j = ∑ k : Fin 4096, x (ix2 (j 0) k) * w (ix2 k (j 1)) := by
  unfold k0_pay2
  simp only [pointwise, zero_add]

/-- A rectangle's offsets that are all zero. -/
theorem offs2 : (![0, 0] : Fin 2 → Nat) = fun _ => 0 := funext fun a => by fin_cases a <;> rfl

/-- A rectangle's offsets that are all zero. -/
theorem offs3 : (![0, 0, 0] : Fin 3 → Nat) = fun _ => 0 := funext fun a => by fin_cases a <;> rfl

/-- What a column tile's first point stores in the scratch. -/
theorem scratch_first (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .bf16) (harg4 : arg4.IsWhole) (arg5 : Memref sig .tc .vmem S4096x512 .bf16) (harg5 : arg5.IsWhole) (hc0 : cond0_0 i)
    (x0 : Vec Ideal S1024x4096 .bf16) (x1 : Vec Ideal S1x4096x512 .f32) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A; dsimp only; try sl_unfold_words
  rw [View.canon_cons_unit_zero (S := S4096x512) offs2, View.readAt_eq_ld, harg3.read_unread, View.ld_unit_zero (S := S1x4096x512) offs3]

/-- What a column tile's first point stores in the output block. -/
theorem out_first (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .bf16) (harg4 : arg4.IsWhole) (arg5 : Memref sig .tc .vmem S4096x512 .bf16) (harg5 : arg5.IsWhole) (hc0 : cond0_0 i)
    (x0 : Vec Ideal S1024x4096 .bf16) (x1 : Vec Ideal S1x4096x512 .f32) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A; dsimp only; try sl_unfold_words
  rw [View.canon_cons_unit_zero (S := S1024x512) offs2, View.readCov_unit_zero (S := S4096x512) _ offs2]
  simp only [View.readAt_eq_ld, harg2.read_unread, harg3.read_unread, View.ld_unit_zero (S := S1024x4096) offs2, View.ld_unit_zero (S := S1x4096x512) offs3]

/-- What any other point stores in the output block, from the scratch it finds. -/
theorem out_next (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .bf16) (harg4 : arg4.IsWhole) (arg5 : Memref sig .tc .vmem S4096x512 .bf16) (harg5 : arg5.IsWhole) (hc0 : ¬cond0_0 i)
    (x0 : Vec Ideal S1024x4096 .bf16) (x1 : Vec Ideal S1x4096x512 .f32) (xs0 : Vec Ideal S4096x512 .bf16) :
    out0_B_2 c i arg2 harg2 arg3 harg3 arg4 harg4 arg5 harg5 hc0 x0 x1 xs0 = k0_pay2 x0 xs0 := by
  unfold out0_B_2
  rw [View.read_writes_eq_canon _ _ _ (cover0_B_2 c i arg2 harg2 arg3 harg3 arg4 harg4 arg5 harg5 hc0 x0 x1 xs0)]
  unfold kernelRun0_B; dsimp only; try sl_unfold_words
  rw [View.canon_cons_unit_zero (S := S1024x512) offs2]
  simp only [View.readAt_eq_ld, harg2.read_unread, harg5.read_unread, View.ld_unit_zero (S := S1024x4096) offs2, View.ld_unit_zero (S := S4096x512) offs2]

/-- The windows' block indices at a point: row tile and column tile of the launch order, layer 1. -/
theorem blocks_at : ∀ t : Fin cfg0.N,
    win0_0.index t (0 : Fin 2) = t.val % 8 ∧ win0_0.index t (1 : Fin 2) = 0
    ∧ win0_1.index t (0 : Fin 3) = 1 ∧ win0_1.index t (1 : Fin 3) = 0 ∧ win0_1.index t (2 : Fin 3) = t.val / 8 :=
  (by decide +kernel : ∀ t : Fin grid0.N, _)

/-- The rows staged at a point. -/
abbrev rows (c : Dev nD) (t : Fin cfg0.N) : FVec Ideal S1024x4096 .bf16 := iblk m c 0 t

/-- The weights staged at a point. -/
abbrev wts (c : Dev nD) (t : Fin cfg0.N) : FVec Ideal S1x4096x512 .f32 := iblk m c 1 t

/-- The rows, read through window 0 at a point. -/
theorem rows_apply (c : Dev nD) (t : Fin cfg0.N) (r : Fin 1024) (k : Fin 4096) (i : S8192x4096.Idx)
    (h0 : (i 0).val = t.val % 8 * 1024 + r.val) (h1 : (i 1).val = k.val) :
    rows m c t (ix2 r k) = m ((c : Thread nD τ).loc main_arg0) i := by
  unfold rows iblk
  rw [View.read_apply]
  show V m c main_arg0 _ = _
  rw [V_main_arg0]
  congr 1
  funext a
  apply Fin.ext
  obtain ⟨e0, e1, -⟩ := blocks_at t
  match a with
  | ⟨0, _⟩ => show win0_0.index t 0 * 1024 + 1 * r.val = (i 0).val; rw [e0]; omega
  | ⟨1, _⟩ => show win0_0.index t 1 * 4096 + 1 * k.val = (i 1).val; rw [e1]; omega

/-- The weights of layer 1, read through window 1 at a point. -/
theorem wts_apply (c : Dev nD) (t : Fin cfg0.N) (k : Fin 4096) (q : Fin 512) (i : S2x4096x5120.Idx)
    (h0 : (i 0).val = 1) (h1 : (i 1).val = k.val) (h2 : (i 2).val = t.val / 8 * 512 + q.val) :
    wts m c t (ix3 0 k q) = m ((c : Thread nD τ).loc main_arg1) i := by
  unfold wts iblk
  rw [View.read_apply]
  show V m c main_arg1 _ = _
  rw [V_main_arg1]
  congr 1
  funext a
  apply Fin.ext
  obtain ⟨-, -, e0, e1, e2⟩ := blocks_at t
  match a with
  | ⟨0, _⟩ => show win0_1.index t 0 * 1 + 1 * 0 = (i 0).val; rw [e0]; omega
  | ⟨1, _⟩ => show win0_1.index t 1 * 4096 + 1 * k.val = (i 1).val; rw [e1]; omega
  | ⟨2, _⟩ => show win0_1.index t 2 * 512 + 1 * q.val = (i 2).val; rw [e2]; omega

/-- After every point the scratch holds the weights of the point's column tile. -/
theorem scratch_apply (c : Dev nD) (k : Fin 4096) (q : Fin 512) (i : S2x4096x5120.Idx) (h0 : (i 0).val = 1) (h1 : (i 1).val = k.val) :
    ∀ (n : ℕ) (hn : n < cfg0.N), (i 2).val = n / 8 * 512 + q.val →
      (outsAt0 m c n hn).2 (ix2 k q) = m ((c : Thread nD τ).loc main_arg1) i := by
  intro n
  induction n with
  | zero =>
    intro hn h2
    rw [outsAt0_A m c ⟨0, hn⟩ rfl]
    dsimp only
    rw [scratch_first, weights_apply]
    exact wts_apply m c ⟨0, hn⟩ k q i h0 h1 h2
  | succ n ih =>
    intro hn h2
    by_cases hm : (n + 1) % 8 = 0
    · rw [outsAt0_A m c ⟨n + 1, hn⟩ hm]
      dsimp only
      rw [scratch_first, weights_apply]
      exact wts_apply m c ⟨n + 1, hn⟩ k q i h0 h1 h2
    · rw [outsAt0_B m c ⟨n + 1, hn⟩ hm]
      dsimp only
      exact ih (Nat.lt_of_succ_lt hn) (by rw [h2]; omega)

/-- After every point the output block holds the product of the staged rows with the column tile's weights. -/
theorem block_apply (c : Dev nD) (n : ℕ) (hn : n < cfg0.N) (j : S1024x512.Idx) (f : Fin 4096 → S2x4096x5120.Idx)
    (h0 : ∀ k, (f k 0).val = 1) (h1 : ∀ k, (f k 1).val = k.val) (h2 : ∀ k, (f k 2).val = n / 8 * 512 + (j 1).val) :
    (outsAt0 m c n hn).1 j = ∑ k : Fin 4096, rows m c ⟨n, hn⟩ (ix2 (j 0) k)
      * (show FVec Ideal S2x4096x5120 .f32 from m ((c : Thread nD τ).loc main_arg1)) (f k) := by
  by_cases hm : n % 8 = 0
  · rw [outsAt0_A m c ⟨n, hn⟩ hm]
    dsimp only
    rw [out_first, product_apply]
    refine Finset.sum_congr rfl fun k _ => ?_
    rw [weights_apply]
    exact congrArg (fun b : EReal => _ * b) (wts_apply m c ⟨n, hn⟩ k (j 1) (f k) (h0 k) (h1 k) (h2 k))
  · rw [outsAt0_B m c ⟨n, hn⟩ hm]
    dsimp only
    rw [out_next, product_apply]
    refine Finset.sum_congr rfl fun k _ => ?_
    exact congrArg (fun b : EReal => _ * b)
      (scratch_apply m c k (j 1) (f k) (h0 k) (h1 k) (n - 1) _ ((h2 k).trans (by omega)))

/-- The array the kernel leaves is the reference's term. -/
theorem result_eq (c : Dev nD) :
    G2 m c = Cert.SwaQkvRefIdeal.Read.val_main_v4 (F := Ideal) (m ((c : Thread nD τ).loc main_arg0))
      (m ((c : Thread nD τ).loc main_arg1)) := by
  funext (i : S8192x5120.Idx)
  have hN : cfg0.N = 80 := N_0
  have hi0 : (i 0).val < 8192 := (i 0).isLt
  have hi1 : (i 1).val < 5120 := (i 1).isLt
  have hrun : run2Of i = (i 0).val / 1024 + 8 * ((i 1).val / 512) := by
    show 1 * ((i 0).val / 1024 - 0) + 8 * ((i 1).val / 512 - 0) = _
    omega
  have hr : pt2Of i < cfg0.N := by show run2Of i < _; omega
  unfold G2
  rw [dif_pos hr, ← outsAt0_sweep]
  have d1 : run2Of i % 8 = (i 0).val / 1024 := by omega
  have d2 : run2Of i / 8 = (i 1).val / 512 := by omega
  refine (block_apply m c _ hr (loc2Of i) (fun k => Cert.SwaQkvRefIdeal.Read.idx_main_v1
      (Cert.SwaQkvRefIdeal.Read.idx_main_v2 (Cert.SwaQkvRefIdeal.Read.ridx_main_v3 i k)))
    (fun k => rfl)
    (fun k => by
      have hk : k.val < 4096 := k.isLt
      show (k.val * 5120 + (i 1).val) / 5120 % 4096 = k.val; omega)
    (fun k => by
      show (k.val * 5120 + (i 1).val) % 5120 = run2Of i / 8 * 512 + (i 1).val % 512; rw [d2]; omega)).trans ?_
  refine Eq.trans (Finset.sum_congr rfl fun k _ => ?_)
    (Cert.SwaQkvRefIdeal.Read.val_main_v3_apply (m ((c : Thread nD τ).loc main_arg0)) (m ((c : Thread nD τ).loc main_arg1)) i).symm
  refine congrArg₂ (fun a b : EReal => a * b)
    ((rows_apply m c ⟨_, hr⟩ (loc2Of i 0) k (Cert.SwaQkvRefIdeal.Read.lidx_main_v3 i k) ?_ rfl).trans rfl)
    ((Cert.SwaQkvRefIdeal.Read.val_main_v1_apply _ _).symm.trans (Cert.SwaQkvRefIdeal.Read.val_main_v2_apply _ _).symm)
  show (i 0).val = run2Of i % 8 * 1024 + (i 0).val % 1024
  rw [d1]; omega

end Cert.SwaQkvIdeal.Value

end
-- ==== Proof.OutProjValue.lean ====
/-
  The output projection: the array the kernel leaves is the reference's `h + o @ w_o[1]`.
  The first row tile of a column tile stores the rounded weights in a scratch that the other row tiles of
  that column tile read; so after every point the scratch holds the column tile's weights of layer 1.
-/
module

public import proofs.«01_k».proof.Proof.Gen.OutProjIdeal.Value
public import proofs.«01_k».proof.Proof.Gen.OutProjRefIdeal.Read
public import Idealize.ShloMosaic.Lib.Pointwise

@[expose] public section

set_option maxRecDepth 16384

noncomputable section

namespace Cert.OutProjIdeal.Value

open Cert.OutProjIdeal Cert.OutProjIdeal.Gen Idealize.ShloMosaic Idealize.ShloMosaic.TcCoe Idealize.SL.Sem

variable (m : (ℓ : Loc nD τ sig) → Buf (Elt Ideal) ℓ)

/-- The rounded weights at an index. -/
theorem weights_apply (w : Vec Ideal S1x4096x512 .f32) (j : S4096x512.Idx) : k0_pay1 w j = w (ix3 0 (j 0) (j 1)) := by
  unfold k0_pay1
  simp only [pointwise]

/-- A block of the product plus the residual at an index. -/
theorem product_apply (x : Vec Ideal S1024x4096 .bf16) (w : Vec Ideal S4096x512 .bf16) (h : Vec Ideal S1024x512 .f32) (j : S1024x512.Idx) :
    k0_pay2 x w h j = (∑ k : Fin 4096, x (ix2 (j 0) k) * w (ix2 k (j 1))) + h j := by
  unfold k0_pay2
  simp only [pointwise, zero_add]

/-- A rectangle's offsets that are all zero. -/
theorem offs2 : (![0, 0] : Fin 2 → Nat) = fun _ => 0 := funext fun a => by fin_cases a <;> rfl

/-- A rectangle's offsets that are all zero. -/
theorem offs3 : (![0, 0, 0] : Fin 3 → Nat) = fun _ => 0 := funext fun a => by fin_cases a <;> rfl

/-- What a column tile's first point stores in the scratch. -/
theorem scratch_first (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole) (hc0 : cond0_0 i)
    (x0 : Vec Ideal S1024x4096 .bf16) (x1 : Vec Ideal S1x4096x512 .f32) (x2 : Vec Ideal S1024x512 .f32) :
    sout0_A_0 c i arg2 harg2 arg3 harg3 arg4 harg4 arg5 harg5 arg6 harg6 hc0 x0 x1 x2 = k0_pay1 x1 := by
  unfold sout0_A_0
  rw [View.read_writes_eq_canon _ _ _ (scover0_A_0 c i arg2 harg2 arg3 harg3 arg4 harg4 arg5 harg5 arg6 harg6 hc0 x0 x1 x2)]
  unfold kernelRun0_A; dsimp only; try sl_unfold_words
  rw [View.canon_cons_unit_zero (S := S4096x512) offs2, View.readAt_eq_ld, harg3.read_unread, View.ld_unit_zero (S := S1x4096x512) offs3]

/-- What a column tile's first point stores in the output block. -/
theorem out_first (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole) (hc0 : cond0_0 i)
    (x0 : Vec Ideal S1024x4096 .bf16) (x1 : Vec Ideal S1x4096x512 .f32) (x2 : Vec Ideal S1024x512 .f32) :
    out0_A_3 c i arg2 harg2 arg3 harg3 arg4 harg4 arg5 harg5 arg6 harg6 hc0 x0 x1 x2 = k0_pay2 x0 (k0_pay1 x1) x2 := by
  unfold out0_A_3
  rw [View.read_writes_eq_canon _ _ _ (cover0_A_3 c i arg2 harg2 arg3 harg3 arg4 harg4 arg5 harg5 arg6 harg6 hc0 x0 x1 x2)]
  unfold kernelRun0_A; dsimp only; try sl_unfold_words
  rw [View.canon_cons_unit_zero (S := S1024x512) offs2, View.readCov_unit_zero (S := S4096x512) _ offs2]
  simp only [View.readAt_eq_ld, harg2.read_unread, harg3.read_unread, harg4.read_unread, View.ld_unit_zero (S := S1024x4096) offs2, View.ld_unit_zero (S := S1024x512) offs2, View.ld_unit_zero (S := S1x4096x512) offs3]

/-- What any other point stores in the output block, from the scratch it finds. -/
theorem out_next (c : Dev nD) (i : grid0.Coords) (arg2 : Memref sig .tc .vmem S1024x4096 .bf16) (harg2 : arg2.IsWhole) (arg3 : Memref sig .tc .vmem S1x4096x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S4096x512 .bf16) (harg6 : arg6.IsWhole) (hc0 : ¬cond0_0 i)
    (x0 : Vec Ideal S1024x4096 .bf16) (x1 : Vec Ideal S1x4096x512 .f32) (x2 : Vec Ideal S1024x512 .f32) (xs0 : Vec Ideal S4096x512 .bf16) :
    out0_B_3 c i arg2 harg2 arg3 harg3 arg4 harg4 arg5 harg5 arg6 harg6 hc0 x0 x1 x2 xs0 = k0_pay2 x0 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B; dsimp only; try sl_unfold_words
  rw [View.canon_cons_unit_zero (S := S1024x512) offs2]
  simp only [View.readAt_eq_ld, harg2.read_unread, harg4.read_unread, harg6.read_unread, View.ld_unit_zero (S := S1024x4096) offs2, View.ld_unit_zero (S := S1024x512) offs2, View.ld_unit_zero (S := S4096x512) offs2]

/-- The windows' block indices at a point: row tile and column tile of the launch order, layer 1. -/
theorem blocks_at : ∀ t : Fin cfg0.N,
    win0_0.index t (0 : Fin 2) = t.val % 8 ∧ win0_0.index t (1 : Fin 2) = 0
    ∧ win0_1.index t (0 : Fin 3) = 1 ∧ win0_1.index t (1 : Fin 3) = 0 ∧ win0_1.index t (2 : Fin 3) = t.val / 8
    ∧ win0_2.index t (0 : Fin 2) = t.val % 8 ∧ win0_2.index t (1 : Fin 2) = t.val / 8 :=
  (by decide +kernel : ∀ t : Fin grid0.N, _)

/-- The rows staged at a point. -/
abbrev rows (c : Dev nD) (t : Fin cfg0.N) : FVec Ideal S1024x4096 .bf16 := iblk m c 0 t

/-- The weights staged at a point. -/
abbrev wts (c : Dev nD) (t : Fin cfg0.N) : FVec Ideal S1x4096x512 .f32 := iblk m c 1 t

/-- The residual staged at a point. -/
abbrev res (c : Dev nD) (t : Fin cfg0.N) : FVec Ideal S1024x512 .f32 := iblk m c 2 t

/-- The rows, read through window 0 at a point. -/
theorem rows_apply (c : Dev nD) (t : Fin cfg0.N) (r : Fin 1024) (k : Fin 4096) (i : S8192x4096.Idx)
    (h0 : (i 0).val = t.val % 8 * 1024 + r.val) (h1 : (i 1).val = k.val) :
    rows m c t (ix2 r k) = m ((c : Thread nD τ).loc main_arg0) i := by
  unfold rows iblk
  rw [View.read_apply]
  show V m c main_arg0 _ = _
  rw [V_main_arg0]
  congr 1
  funext a
  apply Fin.ext
  obtain ⟨e0, e1, -⟩ := blocks_at t
  match a with
  | ⟨0, _⟩ => show win0_0.index t 0 * 1024 + 1 * r.val = (i 0).val; rw [e0]; omega
  | ⟨1, _⟩ => show win0_0.index t 1 * 4096 + 1 * k.val = (i 1).val; rw [e1]; omega

/-- The weights of layer 1, read through window 1 at a point. -/
theorem wts_apply (c : Dev nD) (t : Fin cfg0.N) (k : Fin 4096) (q : Fin 512) (i : S2x4096x4096.Idx)
    (h0 : (i 0).val = 1) (h1 : (i 1).val = k.val) (h2 : (i 2).val = t.val / 8 * 512 + q.val) :
    wts m c t (ix3 0 k q) = m ((c : Thread nD τ).loc main_arg1) i := by
  unfold wts iblk
  rw [View.read_apply]
  show V m c main_arg1 _ = _
  rw [V_main_arg1]
  congr 1
  funext a
  apply Fin.ext
  obtain ⟨-, -, e0, e1, e2, -⟩ := blocks_at t
  match a with
  | ⟨0, _⟩ => show win0_1.index t 0 * 1 + 1 * 0 = (i 0).val; rw [e0]; omega
  | ⟨1, _⟩ => show win0_1.index t 1 * 4096 + 1 * k.val = (i 1).val; rw [e1]; omega
  | ⟨2, _⟩ => show win0_1.index t 2 * 512 + 1 * q.val = (i 2).val; rw [e2]; omega

/-- The residual, read through window 2 at a point. -/
theorem res_apply (c : Dev nD) (t : Fin cfg0.N) (j : S1024x512.Idx) (i : S8192x4096.Idx)
    (h0 : (i 0).val = t.val % 8 * 1024 + (j 0).val) (h1 : (i 1).val = t.val / 8 * 512 + (j 1).val) :
    res m c t j = m ((c : Thread nD τ).loc main_arg2) i := by
  unfold res iblk
  rw [View.read_apply]
  show V m c main_arg2 _ = _
  rw [V_main_arg2]
  congr 1
  funext a
  apply Fin.ext
  obtain ⟨-, -, -, -, -, e0, e1⟩ := blocks_at t
  match a with
  | ⟨0, _⟩ => show win0_2.index t 0 * 1024 + 1 * (j 0).val = (i 0).val; rw [e0]; omega
  | ⟨1, _⟩ => show win0_2.index t 1 * 512 + 1 * (j 1).val = (i 1).val; rw [e1]; omega

/-- After every point the scratch holds the weights of the point's column tile. -/
theorem scratch_apply (c : Dev nD) (k : Fin 4096) (q : Fin 512) (i : S2x4096x4096.Idx) (h0 : (i 0).val = 1) (h1 : (i 1).val = k.val) :
    ∀ (n : ℕ) (hn : n < cfg0.N), (i 2).val = n / 8 * 512 + q.val →
      (outsAt0 m c n hn).2 (ix2 k q) = m ((c : Thread nD τ).loc main_arg1) i := by
  intro n
  induction n with
  | zero =>
    intro hn h2
    rw [outsAt0_A m c ⟨0, hn⟩ rfl]
    dsimp only
    rw [scratch_first, weights_apply]
    exact wts_apply m c ⟨0, hn⟩ k q i h0 h1 h2
  | succ n ih =>
    intro hn h2
    by_cases hm : (n + 1) % 8 = 0
    · rw [outsAt0_A m c ⟨n + 1, hn⟩ hm]
      dsimp only
      rw [scratch_first, weights_apply]
      exact wts_apply m c ⟨n + 1, hn⟩ k q i h0 h1 h2
    · rw [outsAt0_B m c ⟨n + 1, hn⟩ hm]
      dsimp only
      exact ih (Nat.lt_of_succ_lt hn) (by rw [h2]; omega)

/-- After every point the output block holds the product of the staged rows with the column tile's weights, plus the residual. -/
theorem block_apply (c : Dev nD) (n : ℕ) (hn : n < cfg0.N) (j : S1024x512.Idx) (f : Fin 4096 → S2x4096x4096.Idx)
    (h0 : ∀ k, (f k 0).val = 1) (h1 : ∀ k, (f k 1).val = k.val) (h2 : ∀ k, (f k 2).val = n / 8 * 512 + (j 1).val) :
    (outsAt0 m c n hn).1 j = (∑ k : Fin 4096, rows m c ⟨n, hn⟩ (ix2 (j 0) k)
      * (show FVec Ideal S2x4096x4096 .f32 from m ((c : Thread nD τ).loc main_arg1)) (f k)) + res m c ⟨n, hn⟩ j := by
  by_cases hm : n % 8 = 0
  · rw [outsAt0_A m c ⟨n, hn⟩ hm]
    dsimp only
    rw [out_first, product_apply]
    refine congrArg (fun a : EReal => a + res m c ⟨n, hn⟩ j) (Finset.sum_congr rfl fun k _ => ?_)
    rw [weights_apply]
    exact congrArg (fun b : EReal => _ * b) (wts_apply m c ⟨n, hn⟩ k (j 1) (f k) (h0 k) (h1 k) (h2 k))
  · rw [outsAt0_B m c ⟨n, hn⟩ hm]
    dsimp only
    rw [out_next, product_apply]
    refine congrArg (fun a : EReal => a + res m c ⟨n, hn⟩ j) (Finset.sum_congr rfl fun k _ => ?_)
    exact congrArg (fun b : EReal => _ * b)
      (scratch_apply m c k (j 1) (f k) (h0 k) (h1 k) (n - 1) _ ((h2 k).trans (by omega)))

/-- The array the kernel leaves is the reference's term. -/
theorem result_eq (c : Dev nD) :
    G3 m c = Cert.OutProjRefIdeal.Read.val_main_v4 (F := Ideal) (m ((c : Thread nD τ).loc main_arg0))
      (m ((c : Thread nD τ).loc main_arg1)) (m ((c : Thread nD τ).loc main_arg2)) := by
  funext (i : S8192x4096.Idx)
  have hN : cfg0.N = 64 := N_0
  have hi0 : (i 0).val < 8192 := (i 0).isLt
  have hi1 : (i 1).val < 4096 := (i 1).isLt
  have hrun : run3Of i = (i 0).val / 1024 + 8 * ((i 1).val / 512) := by
    show 1 * ((i 0).val / 1024 - 0) + 8 * ((i 1).val / 512 - 0) = _
    omega
  have hr : pt3Of i < cfg0.N := by show run3Of i < _; omega
  unfold G3
  rw [dif_pos hr, ← outsAt0_sweep]
  have d1 : run3Of i % 8 = (i 0).val / 1024 := by omega
  have d2 : run3Of i / 8 = (i 1).val / 512 := by omega
  refine (block_apply m c _ hr (loc3Of i) (fun k => Cert.OutProjRefIdeal.Read.idx_main_v1
      (Cert.OutProjRefIdeal.Read.idx_main_v2 (Cert.OutProjRefIdeal.Read.ridx_main_v3 i k)))
    (fun k => rfl)
    (fun k => by
      have hk : k.val < 4096 := k.isLt
      show (k.val * 4096 + (i 1).val) / 4096 % 4096 = k.val; omega)
    (fun k => by
      show (k.val * 4096 + (i 1).val) % 4096 = run3Of i / 8 * 512 + (i 1).val % 512; rw [d2]; omega)).trans ?_
  rw [Cert.OutProjRefIdeal.Read.val_main_v4_apply]
  refine (add_comm (G := EReal) _ _).trans (congrArg₂ (fun a b : EReal => a + b) (res_apply m c ⟨_, hr⟩ (loc3Of i) i
    (by show (i 0).val = run3Of i % 8 * 1024 + (i 0).val % 1024; rw [d1]; omega)
    (by show (i 1).val = run3Of i / 8 * 512 + (i 1).val % 512; rw [d2]; omega)) ?_)
  refine Eq.trans (Finset.sum_congr rfl fun k _ => ?_)
    (Cert.OutProjRefIdeal.Read.val_main_v3_apply (m ((c : Thread nD τ).loc main_arg0)) (m ((c : Thread nD τ).loc main_arg1)) i).symm
  refine congrArg₂ (fun a b : EReal => a * b)
    ((rows_apply m c ⟨_, hr⟩ (loc3Of i 0) k (Cert.OutProjRefIdeal.Read.lidx_main_v3 i k) ?_ rfl).trans rfl)
    ((Cert.OutProjRefIdeal.Read.val_main_v1_apply _ _).symm.trans (Cert.OutProjRefIdeal.Read.val_main_v2_apply _ _).symm)
  show (i 0).val = run3Of i % 8 * 1024 + (i 0).val % 1024
  rw [d1]; omega

end Cert.OutProjIdeal.Value

end
-- ==== Proof.NormValue.lean ====
/-
  An RMSNorm between sublayers: the array the kernel leaves, row block by row block, is the reference's
  `x * rsqrt(mean(x²) + 1e-6) * gain[1]` rounded.
-/
module

public import proofs.«01_k».proof.Proof.Gen.NormIdeal.Value
public import proofs.«01_k».proof.Proof.Gen.NormRefIdeal.Read
public import Idealize.ShloMosaic.Lib.Pointwise
public import Idealize.ShloMosaic.Lib.Pipeline.ValueKit

@[expose] public section

set_option maxRecDepth 16384

noncomputable section

namespace Cert.NormIdeal.Value

open Cert.NormIdeal Cert.NormIdeal.Gen Cert.NormRefIdeal.Read Idealize.ShloMosaic Idealize.ShloMosaic.TcCoe Idealize.SL.Sem

variable (m : (ℓ : Loc nD τ sig) → Buf (Elt Ideal) ℓ)

/-- The windows' block indices at a point. -/
theorem blocks_at : ∀ t : Fin cfg0.N,
    win0_0.index t (0 : Fin 2) = t.val ∧ win0_0.index t (1 : Fin 2) = 0
    ∧ win0_1.index t (0 : Fin 3) = 1 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The reference's term, as one expression over the arguments. -/
abbrev ref (x : FVec Ideal Cert.NormRefIdeal.S8192x4096 .f32) (g : FVec Ideal Cert.NormRefIdeal.S4x4096 .f32) :
    FVec Ideal Cert.NormRefIdeal.S8192x4096 .bf16 := val_main_v15 (F := Ideal) x g

/-- The array the kernel leaves is the reference's term. -/
theorem result_eq (c : Dev nD) :
    (dats m 0 c).arrAt 2 cfg0.N = ref (m ((c : Thread nD τ).loc main_arg0)) (m ((c : Thread nD τ).loc main_arg1)) := by
  refine (dats m 0 c).arrAt_eq_of_covers 2 _ (by decide +kernel) fun t hf y => ?_
  obtain ⟨e0, e1, e2, e3, e4, e5, e6⟩ := blocks_at t
  blk_simp
  rw [after0_2]
  frame_out
  pointwise [k0_pay1, ref, val_main_cst, val_main_cst_0, val_main_cst_1, val_main_v0, val_main_v1,
    val_main_v2, val_main_v3, val_main_v4, val_main_v5, val_main_v6, val_main_v7, val_main_v8,
    val_main_v9, val_main_v10, val_main_v11, val_main_v12, val_main_v13, val_main_v14, val_main_v15]
  blk_point [iblk, V, e0, e1, e2, e3, e4, e5, e6]

end Cert.NormIdeal.Value

end
-- ==== Proof.FinalNormValue.lean ====
/-
  The last RMSNorm: the array the kernel leaves, row block by row block, is the reference's
  `x * rsqrt(mean(x²) + 1e-6) * gain`.
-/
module

public import proofs.«01_k».proof.Proof.Gen.FinalNormIdeal.Value
public import proofs.«01_k».proof.Proof.Gen.FinalNormRefIdeal.Read
public import Idealize.ShloMosaic.Lib.Pointwise
public import Idealize.ShloMosaic.Lib.Pipeline.ValueKit

@[expose] public section

set_option maxRecDepth 16384

noncomputable section

namespace Cert.FinalNormIdeal.Value

open Cert.FinalNormIdeal Cert.FinalNormIdeal.Gen Cert.FinalNormRefIdeal.Read Idealize.ShloMosaic Idealize.ShloMosaic.TcCoe Idealize.SL.Sem

variable (m : (ℓ : Loc nD τ sig) → Buf (Elt Ideal) ℓ)

/-- The windows' block indices at a point. -/
theorem blocks_at : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The reference's term, as one expression over the arguments. -/
abbrev ref (x : FVec Ideal Cert.FinalNormRefIdeal.S8192x4096 .f32) (g : FVec Ideal Cert.FinalNormRefIdeal.S4096 .f32) :
    FVec Ideal Cert.FinalNormRefIdeal.S8192x4096 .f32 := val_main_v12 (F := Ideal) x g

/-- The array the kernel leaves is the reference's term. -/
theorem result_eq (c : Dev nD) :
    (dats m 0 c).arrAt 2 cfg0.N = ref (m ((c : Thread nD τ).loc main_arg0)) (m ((c : Thread nD τ).loc main_arg1)) := by
  refine (dats m 0 c).arrAt_eq_of_covers 2 _ (by decide +kernel) fun t hf y => ?_
  obtain ⟨e0, e1, e2, e3, e4, e5, e6⟩ := blocks_at t
  blk_simp
  rw [after0_2]
  frame_out
  pointwise [k0_pay1, ref, val_main_cst, val_main_cst_0, val_main_cst_1, val_main_v0, val_main_v1,
    val_main_v2, val_main_v3, val_main_v4, val_main_v5, val_main_v6, val_main_v7, val_main_v8,
    val_main_v9, val_main_v10, val_main_v11, val_main_v12]
  blk_point [iblk, V, e0, e1, e2, e3, e4, e5, e6]

end Cert.FinalNormIdeal.Value

end
-- ==== Proof.Claims.lean ====
/-
  The projection, product and norm calls: each call's kernel and its reference, from memories that agree on
  the arguments, both run and leave the same array.
-/
module

public import proofs.«01_k».proof.Defs
public import proofs.«01_k».proof.Proof.FfnDownValue
public import proofs.«01_k».proof.Proof.SbQkvValue
public import proofs.«01_k».proof.Proof.SwaQkvValue
public import proofs.«01_k».proof.Proof.OutProjValue
public import proofs.«01_k».proof.Proof.NormValue
public import proofs.«01_k».proof.Proof.FinalNormValue
public import proofs.«01_k».proof.Proof.Gen.FfnDownRefIdeal.Run
public import proofs.«01_k».proof.Proof.Gen.SbQkvRefIdeal.Run
public import proofs.«01_k».proof.Proof.Gen.SwaQkvRefIdeal.Run
public import proofs.«01_k».proof.Proof.Gen.OutProjRefIdeal.Run
public import proofs.«01_k».proof.Proof.Gen.NormRefIdeal.Run
public import proofs.«01_k».proof.Proof.Gen.FinalNormRefIdeal.Run

@[expose] public section

set_option maxRecDepth 16384

noncomputable section

namespace Cert.Proof

open Idealize.ShloMosaic Idealize.ShloMosaic.TcCoe Idealize.SL.Sem

/-- The feed-forward block's second product. -/
theorem algebraic_FfnDown : Cert.algebraic_FfnDownIdeal_FfnDownRefIdeal := fun m g m' g' _ hag =>
  ⟨fun c => Cert.FfnDownRefIdeal.Read.val_main_v4 (F := Ideal) (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)),
    (θ_run _ _ _).mono (fun _ h c => ⟨(h c).1.trans (Cert.FfnDownIdeal.Value.result_eq m c), (h c).2⟩)
      (Cert.FfnDownIdeal.Value.run m g),
    (θ_run _ _ _).mono (fun _ h c => ⟨(h c).1.trans (by
        obtain ⟨h0, h1, h2⟩ := hag c
        rw [Cert.FfnDownRefIdeal.Read.val_main_v4_eq, h0, h1, h2]), (h c).2⟩)
      (Cert.FfnDownRefIdeal.Value.run m' g')⟩

/-- The stick-breaking layer's projection to queries, keys and values. -/
theorem algebraic_SbQkv : Cert.algebraic_SbQkvIdeal_SbQkvRefIdeal := fun m g m' g' _ hag =>
  ⟨fun c => Cert.SbQkvRefIdeal.Read.val_main_v4 (F := Ideal) (m ((c.tc : Thread Cert.SbQkvIdeal.nD Cert.SbQkvIdeal.τ).loc Cert.SbQkvIdeal.main_arg0)) (m ((c.tc : Thread Cert.SbQkvIdeal.nD Cert.SbQkvIdeal.τ).loc Cert.SbQkvIdeal.main_arg1)),
    (θ_run _ _ _).mono (fun _ h c => ⟨(h c).1.trans (Cert.SbQkvIdeal.Value.result_eq m c), (h c).2⟩)
      (Cert.SbQkvIdeal.Value.run m g),
    (θ_run _ _ _).mono (fun _ h c => ⟨(h c).1.trans (by
        obtain ⟨h0, h1⟩ := hag c
        rw [Cert.SbQkvRefIdeal.Read.val_main_v4_eq, h0, h1]), (h c).2⟩)
      (Cert.SbQkvRefIdeal.Value.run m' g')⟩

/-- The sliding-window layer's projection to queries, keys and values. -/
theorem algebraic_SwaQkv : Cert.algebraic_SwaQkvIdeal_SwaQkvRefIdeal := fun m g m' g' _ hag =>
  ⟨fun c => Cert.SwaQkvRefIdeal.Read.val_main_v4 (F := Ideal) (m ((c.tc : Thread Cert.SwaQkvIdeal.nD Cert.SwaQkvIdeal.τ).loc Cert.SwaQkvIdeal.main_arg0)) (m ((c.tc : Thread Cert.SwaQkvIdeal.nD Cert.SwaQkvIdeal.τ).loc Cert.SwaQkvIdeal.main_arg1)),
    (θ_run _ _ _).mono (fun _ h c => ⟨(h c).1.trans (Cert.SwaQkvIdeal.Value.result_eq m c), (h c).2⟩)
      (Cert.SwaQkvIdeal.Value.run m g),
    (θ_run _ _ _).mono (fun _ h c => ⟨(h c).1.trans (by
        obtain ⟨h0, h1⟩ := hag c
        rw [Cert.SwaQkvRefIdeal.Read.val_main_v4_eq, h0, h1]), (h c).2⟩)
      (Cert.SwaQkvRefIdeal.Value.run m' g')⟩

/-- The attention's output projection, added to the residual stream. -/
theorem algebraic_OutProj : Cert.algebraic_OutProjIdeal_OutProjRefIdeal := fun m g m' g' _ hag =>
  ⟨fun c => Cert.OutProjRefIdeal.Read.val_main_v4 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)),
    (θ_run _ _ _).mono (fun _ h c => ⟨(h c).1.trans (Cert.OutProjIdeal.Value.result_eq m c), (h c).2⟩)
      (Cert.OutProjIdeal.Value.run m g),
    (θ_run _ _ _).mono (fun _ h c => ⟨(h c).1.trans (by
        obtain ⟨h0, h1, h2⟩ := hag c
        rw [Cert.OutProjRefIdeal.Read.val_main_v4_eq, h0, h1, h2]), (h c).2⟩)
      (Cert.OutProjRefIdeal.Value.run m' g')⟩

/-- An RMSNorm between sublayers. -/
theorem algebraic_Norm : Cert.algebraic_NormIdeal_NormRefIdeal := fun m g m' g' _ hag =>
  ⟨fun c => Cert.NormRefIdeal.Read.val_main_v15 (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)),
    (θ_run _ _ _).mono (fun _ h c => ⟨(h c).1.trans (Cert.NormIdeal.Value.result_eq m c), (h c).2⟩)
      (Cert.NormIdeal.Value.run_blocks m g),
    (θ_run _ _ _).mono (fun _ h c => ⟨(h c).1.trans (by
        obtain ⟨h0, h1⟩ := hag c
        rw [Cert.NormRefIdeal.Read.val_main_v15_eq, h0, h1]), (h c).2⟩)
      (Cert.NormRefIdeal.Value.run m' g')⟩

/-- The last RMSNorm. -/
theorem algebraic_FinalNorm : Cert.algebraic_FinalNormIdeal_FinalNormRefIdeal := fun m g m' g' _ hag =>
  ⟨fun c => Cert.FinalNormRefIdeal.Read.val_main_v12 (F := Ideal) (m ((c.tc : Thread Cert.FinalNormIdeal.nD Cert.FinalNormIdeal.τ).loc Cert.FinalNormIdeal.main_arg0)) (m ((c.tc : Thread Cert.FinalNormIdeal.nD Cert.FinalNormIdeal.τ).loc Cert.FinalNormIdeal.main_arg1)),
    (θ_run _ _ _).mono (fun _ h c => ⟨(h c).1.trans (Cert.FinalNormIdeal.Value.result_eq m c), (h c).2⟩)
      (Cert.FinalNormIdeal.Value.run_blocks m g),
    (θ_run _ _ _).mono (fun _ h c => ⟨(h c).1.trans (by
        obtain ⟨h0, h1⟩ := hag c
        rw [Cert.FinalNormRefIdeal.Read.val_main_v12_eq, h0, h1]), (h c).2⟩)
      (Cert.FinalNormRefIdeal.Value.run m' g')⟩

end Cert.Proof

end
-- ==== Proof.SwaTerms.lean ====
/-
  The sliding-window attention kernel, one trip of its loop: every head's part of the trip is one chain of operations,
  named here once, and the four blocks a trip stores are sums of two heads' parts.
-/
module

public import proofs.«01_k».proof.Proof.Gen.KernelIdeal.Loops
public import Idealize.ShloMosaic.Lib.Pipeline.ValueKit
public import Idealize.ShloMosaic.Lib.Pointwise

@[expose] public section

set_option maxRecDepth 16384

noncomputable section

namespace Cert.KernelIdeal.Swa

open Cert.KernelIdeal Cert.KernelIdeal.Gen Idealize.ShloMosaic Idealize.ShloMosaic.TcCoe Idealize.SL.Sem

/-- One head's part of a trip: the folded logits' softmax numerators against the placed values, over the denominator. -/
def headOut (v58 : IVec S128x128 1) (kx vx : FVec Ideal S256x128 .bf16) (q : FVec Ideal S128x128 .bf16) (sl sk : EReal) :
    FVec Ideal S128x128 .f32 :=
  k0_pay68 vx (k0_pay22 k0_pay2 k0_pay3 kx v58 q sl sk)
    (k0_pay25 (k0_pay23 k0_pay2 k0_pay3 kx v58 q sl sk) (k0_pay24 k0_pay2 k0_pay3 kx v58 q sl sk))

/-- What a trip stores at one pair of heads: the even head's part (low lanes) plus the odd head's (high lanes). -/
def pairOut (v10 : BitVec 1) (k : Fin k0_t1_loop.trips) (k0 k1 w0 w1 q : FVec Ideal S128x128 .bf16) (sl sk sl' sk' : EReal) :
    FVec Ideal S128x128 .bf16 :=
  k0_pay4 (headOut (k0_pay11 k0_pay2 0#32 1#32 k) (k0_pay6 v10 k0_pay1 k0 k1) (k0_pay6 v10 k0_pay1 w0 w1) q sl sk)
    (headOut (k0_pay11 k0_pay2 0#32 1#32 k) (k0_pay7 v10 k0_pay1 k0 k1) (k0_pay7 v10 k0_pay1 w0 w1) q sl' sk')

variable (𝒱 : Variants) (c : Dev nD) (bd : Option 𝒱.V) (i : grid0.Coords) (arg2 : Memref sig .tc .smem S64 .f32) (harg2 : arg2.IsWhole) (arg3 : Memref sig .tc .smem S64 .f32) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x512 .bf16) (harg7 : arg7.IsWhole) (v10 : BitVec 1)
  (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (k : Fin k0_t1_loop.trips)

/-- A trip's read of a lane tile of the queries, of the key or value rows, and of a word of the two tables. -/
abbrev ldQ (o : Fin 2 → Nat) (h : ∀ a, o a + S128x128.size a ≤ S4096x512.size a) : FVec Ideal S128x128 .bf16 :=
  View.readAt (Elt Ideal) arg4.view (Rect.unit (s := S4096x512) o S128x128.size h).toLoadRect X4
abbrev ldK (arg5 : Memref sig .tc .vmem S4096x128 .bf16) (X5 : BufTy.Contents (Elt Ideal) arg5.view.ty) (o : Fin 2 → Nat) (h : ∀ a, o a + S128x128.size a ≤ S4096x128.size a) : FVec Ideal S128x128 .bf16 :=
  View.readAt (Elt Ideal) arg5.view (Rect.unit (s := S4096x128) o S128x128.size h).toLoadRect X5
abbrev ldS (arg2 : Memref sig .tc .smem S64 .f32) (X2 : BufTy.Contents (Elt Ideal) arg2.view.ty) (g : Fin 8) : EReal :=
  View.readAt (Elt Ideal) arg2.view (Rect.unit (s := S64) (k0_off7 i (BitVec.ofNat 32 g.val)) S1.size (k0_off7_inb i g)).toLoadRect X2 (Shape.Idx.first (s := S1) (by decide))

/-- What a trip stores at the pair of heads `g`, `g'` from the query tile `q`. -/
abbrev pairAt (q : FVec Ideal S128x128 .bf16) (g g' : Fin 8) : FVec Ideal S128x128 .bf16 :=
  pairOut v10 k (ldK arg5 X5 (k0_off1 k) (k0_off1_inb k)) (ldK arg5 X5 (k0_off2 k) (k0_off2_inb k))
    (ldK arg6 X6 (k0_off1 k) (k0_off1_inb k)) (ldK arg6 X6 (k0_off2 k) (k0_off2_inb k)) q
    (ldS i arg2 X2 g) (ldS i arg3 X3 g) (ldS i arg2 X2 g') (ldS i arg3 X3 g')

/-- THE FOUR STORES OF A TRIP. -/
theorem trip_pieces :
    (trip_k0_t1 (F := Ideal) 𝒱 c bd i arg2 harg2 arg3 harg3 arg4 harg4 arg5 harg5 arg6 harg6 arg7 harg7 (BitVec.ofNat 32 (i 1).val) v10 X2 X3 X4 X5 X6 k).1
      = [⟨Rect.unit (s := S4096x512) (k0_off6 k) S128x128.size (k0_off6_inb k), pairAt i arg2 arg3 arg5 arg6 v10 X2 X3 X5 X6 k (ldQ arg4 X4 (k0_off6 k) (k0_off6_inb k)) 6 7⟩,
         ⟨Rect.unit (s := S4096x512) (k0_off5 k) S128x128.size (k0_off5_inb k), pairAt i arg2 arg3 arg5 arg6 v10 X2 X3 X5 X6 k (ldQ arg4 X4 (k0_off5 k) (k0_off5_inb k)) 4 5⟩,
         ⟨Rect.unit (s := S4096x512) (k0_off4 k) S128x128.size (k0_off4_inb k), pairAt i arg2 arg3 arg5 arg6 v10 X2 X3 X5 X6 k (ldQ arg4 X4 (k0_off4 k) (k0_off4_inb k)) 2 3⟩,
         ⟨Rect.unit (s := S4096x512) (k0_off3 k) S128x128.size (k0_off3_inb k), pairAt i arg2 arg3 arg5 arg6 v10 X2 X3 X5 X6 k (ldQ arg4 X4 (k0_off3 k) (k0_off3_inb k)) 0 1⟩] := by
  unfold trip_k0_t1
  dsimp only
  sl_unfold_words
  rfl

end Cert.KernelIdeal.Swa

end
-- ==== Proof.SwaRow.lean ====
/-
  One row of the sliding-window attention, as plain functions over the extended reals: the row's 128 logits, the sink
  that joins the denominator, and the values. The reference lays the same row out over 256 keys and the sink, the keys
  outside the window at −∞; the two readings agree when no logit is +∞, some logit is real, and the sink is below +∞.
-/
module

public import Idealize.ShloMosaic.Lib.Pipeline.ValueKit
public import Idealize.ShloMosaic.Lib.Pointwise

@[expose] public section

noncomputable section

namespace Cert.Row

open Idealize.ShloMosaic

/-- The largest of the logits and the sink. -/
def rowMax (s : Fin 128 → EReal) (sk : EReal) : EReal := max (Finset.univ.fold max ⊥ s) sk

/-- The denominator: the numerators' sum and the sink's own term. -/
def rowDen (s : Fin 128 → EReal) (sk : EReal) : EReal := ∑ j, Ideal.exp (s j - rowMax s sk) + Ideal.exp (sk - rowMax s sk)

/-- The row's result: the values weighted by the numerators, over the denominator. -/
def rowOut (s : Fin 128 → EReal) (sk : EReal) (v : Fin 128 → EReal) : EReal :=
  Ideal.div (∑ j, Ideal.exp (s j - rowMax s sk) * v j) (rowDen s sk)

/-- No logit is +∞, some logit is above −∞, and the sink is below +∞. -/
structure Tame (s : Fin 128 → EReal) (sk : EReal) : Prop where
  some_real : ∃ j, s j ≠ ⊥
  lt_top : ∀ j, s j ≠ ⊤
  sink : sk ≠ ⊤

theorem le_fold {n : ℕ} (S : Fin n → EReal) (j : Fin n) : S j ≤ Finset.univ.fold max ⊥ S :=
  (Finset.le_fold_max _).2 (Or.inr ⟨j, Finset.mem_univ _, le_rfl⟩)

theorem le_rowMax (s : Fin 128 → EReal) (sk : EReal) (j : Fin 128) : s j ≤ rowMax s sk :=
  (le_fold s j).trans (le_max_left _ _)

/-- The largest is one of them. -/
theorem rowMax_mem (s : Fin 128 → EReal) (sk : EReal) : rowMax s sk = sk ∨ ∃ j, rowMax s sk = s j := by
  rcases le_total (Finset.univ.fold max ⊥ s) sk with h | h
  · exact Or.inl (max_eq_right h)
  · right
    have hm : rowMax s sk = Finset.univ.fold max ⊥ s := max_eq_left h
    obtain ⟨j, -, hj⟩ := Finset.exists_max_image Finset.univ s ⟨0, Finset.mem_univ _⟩
    refine ⟨j, hm.trans (le_antisymm ?_ (le_fold s j))⟩
    exact (Finset.fold_max_le _).2 ⟨bot_le, fun x hx => hj x hx⟩

theorem rowMax_real {s : Fin 128 → EReal} {sk : EReal} (h : Tame s sk) : ∃ μ : ℝ, rowMax s sk = μ := by
  obtain ⟨j, hj⟩ := h.some_real
  have hb : rowMax s sk ≠ ⊥ := fun e => hj (le_bot_iff.mp (e ▸ le_rowMax s sk j))
  have ht : rowMax s sk ≠ ⊤ := by
    rcases rowMax_mem s sk with e | ⟨j, e⟩ <;> rw [e]
    · exact h.sink
    · exact h.lt_top j
  exact ⟨_, (EReal.coe_toReal ht hb).symm⟩

/-- A term `exp (x − μ)` of a value below +∞ is a nonnegative real number. -/
theorem exp_real {x : EReal} (hx : x ≠ ⊤) (μ : ℝ) : ∃ r : ℝ, 0 ≤ r ∧ Ideal.exp (x - μ) = r := by
  induction x using EReal.rec with
  | bot => exact ⟨0, le_rfl, by rw [EReal.bot_sub]; rfl⟩
  | top => exact absurd rfl hx
  | coe y => exact ⟨Real.exp (y - μ), (Real.exp_pos _).le, rfl⟩

theorem exp_self (μ : ℝ) : Ideal.exp ((μ : EReal) - μ) = 1 := by
  have h : (μ : EReal) - μ = ((0 : ℝ) : EReal) := by rw [← EReal.coe_sub, sub_self]
  rw [h]; show ((Real.exp 0 : ℝ) : EReal) = 1; simp

theorem coe_sum_real {n : ℕ} (g : Fin n → ℝ) : ((∑ j, g j : ℝ) : EReal) = ∑ j, (g j : EReal) := by
  induction n with
  | zero => simp
  | succ n ih => rw [Fin.sum_univ_succ, Fin.sum_univ_succ, EReal.coe_add, ih]

/-- A sum of nonnegative reals is one, at least each of its terms. -/
theorem sum_real {n : ℕ} (f : Fin n → EReal) (h : ∀ j, ∃ r : ℝ, 0 ≤ r ∧ f j = r) :
    ∃ r : ℝ, 0 ≤ r ∧ ∑ j, f j = r ∧ ∀ j, f j ≤ r := by
  choose g hg e using h
  refine ⟨∑ j, g j, Finset.sum_nonneg fun j _ => hg j, ?_, fun j => ?_⟩
  · rw [coe_sum_real]; exact Finset.sum_congr rfl fun j _ => e j
  · rw [e j]; exact EReal.coe_le_coe_iff.2 (Finset.single_le_sum (fun i _ => hg i) (Finset.mem_univ j))

/-- The denominator of a tame row is a positive real number. -/
theorem rowDen_real {s : Fin 128 → EReal} {sk : EReal} (h : Tame s sk) : ∃ δ : ℝ, 0 < δ ∧ rowDen s sk = δ := by
  obtain ⟨μ, hμ⟩ := rowMax_real h
  obtain ⟨a, ha, ea, la⟩ := sum_real (fun j => Ideal.exp (s j - rowMax s sk)) fun j => by
    simp only [hμ]; exact exp_real (h.lt_top j) μ
  obtain ⟨b, hb, eb⟩ := exp_real h.sink μ
  refine ⟨a + b, ?_, by unfold rowDen; rw [ea, hμ, eb]; exact (EReal.coe_add a b).symm⟩
  rcases rowMax_mem s sk with e | ⟨j, e⟩
  · have e1 : ((b : ℝ) : EReal) = 1 := by rw [← eb, ← e, hμ]; exact exp_self μ
    have : b = 1 := by exact_mod_cast e1
    rw [this]; linarith
  · have e1 : (1 : EReal) ≤ a := by
      refine le_trans (le_of_eq ?_) (la j)
      show 1 = Ideal.exp (s j - rowMax s sk)
      rw [← e, hμ]; exact (exp_self μ).symm
    have : (1 : ℝ) ≤ a := by exact_mod_cast e1
    linarith

/-- A row with every value zero. -/
theorem rowOut_zero {s : Fin 128 → EReal} {sk : EReal} (h : Tame s sk) (v : Fin 128 → EReal) (hv : ∀ j, v j = 0) :
    rowOut s sk v = 0 := by
  obtain ⟨δ, hδ, e⟩ := rowDen_real h
  unfold rowOut
  rw [e, Ideal.div_coe hδ.ne', Finset.sum_eq_zero fun j _ => by rw [hv j, mul_zero], zero_mul]

theorem sum_mul_real {n : ℕ} (f : Fin n → EReal) {r : ℝ} (hr : 0 ≤ r) : (∑ j, f j) * (r : EReal) = ∑ j, f j * (r : EReal) := by
  induction n with
  | zero => simp
  | succ n ih =>
    rw [Fin.sum_univ_succ, Fin.sum_univ_succ, ← ih]
    exact EReal.right_distrib_of_nonneg_of_ne_top (EReal.coe_nonneg.2 hr) (EReal.coe_ne_top r) _ _

/-- THE ROW OVER 256 KEYS AND THE SINK, each weight divided before the values: the reference's reading. The 128 keys
    of the window are key `j` when `j` is beyond the row's own position and key `128 + j` otherwise. -/
theorem row_full {s : Fin 128 → EReal} {sk : EReal} (h : Tame s sk) (v : Fin 128 → EReal) (far : Fin 128 → Prop) [DecidablePred far]
    (S : Fin 257 → EReal) (V : Fin 256 → EReal)
    (hlo : ∀ j : Fin 128, S ⟨j.val, by omega⟩ = if far j then s j else ⊥)
    (hhi : ∀ j : Fin 128, S ⟨128 + j.val, by omega⟩ = if far j then ⊥ else s j)
    (hsk : S ⟨256, by omega⟩ = sk)
    (hV : ∀ j : Fin 128, s j ≠ ⊥ → v j = if far j then V ⟨j.val, by omega⟩ else V ⟨128 + j.val, by omega⟩)
    (M D : EReal) (hM : M = max ⊥ (Finset.univ.fold max ⊥ S)) (hD : D = 0 + ∑ κ, Ideal.exp (S κ - M)) :
    ∑ κ : Fin 256, V κ * Ideal.div (Ideal.exp (S ⟨κ.val, by omega⟩ - M)) D = rowOut s sk v := by
  have hmax : M = rowMax s sk := by
    rw [hM, max_eq_right bot_le]
    apply le_antisymm
    · refine (Finset.fold_max_le _).2 ⟨bot_le, fun κ _ => ?_⟩
      by_cases h1 : κ.val < 128
      · have := hlo ⟨κ.val, h1⟩
        rw [show (⟨(⟨κ.val, h1⟩ : Fin 128).val, by omega⟩ : Fin 257) = κ from rfl] at this
        rw [this]; split
        · exact le_rowMax s sk _
        · exact bot_le
      · by_cases h2 : κ.val < 256
        · have := hhi ⟨κ.val - 128, by omega⟩
          rw [show (⟨128 + (⟨κ.val - 128, by omega⟩ : Fin 128).val, by simp; omega⟩ : Fin 257) = κ from Fin.ext (by simp; omega)] at this
          rw [this]; split
          · exact bot_le
          · exact le_rowMax s sk _
        · rw [show κ = ⟨256, by omega⟩ from Fin.ext (by simp; omega), hsk]; exact le_max_right _ _
    · refine max_le ((Finset.fold_max_le _).2 ⟨bot_le, fun j _ => ?_⟩) (by rw [← hsk]; exact le_fold S _)
      by_cases hf : far j
      · have := hlo j; rw [if_pos hf] at this; rw [← this]; exact le_fold S _
      · have := hhi j; rw [if_neg hf] at this; rw [← this]; exact le_fold S _
  obtain ⟨μ, hμ⟩ := rowMax_real h
  obtain ⟨δ, hδ, eδ⟩ := rowDen_real h
  have hbot : Ideal.exp ((⊥ : EReal) - μ) = 0 := by rw [EReal.bot_sub]; rfl
  have hden : D = rowDen s sk := by
    rw [hD, zero_add, Fin.sum_univ_castSucc, rowDen, hmax]
    congr 1
    · rw [Fin.sum_univ_two_halves 128 128 rfl, ← Finset.sum_add_distrib]
      refine Finset.sum_congr rfl fun j _ => ?_
      show Ideal.exp (S ⟨j.val, _⟩ - _) + Ideal.exp (S ⟨128 + j.val, _⟩ - _) = _
      rw [hlo, hhi, hμ]
      split
      · rw [hbot, add_zero]
      · rw [hbot, zero_add]
    · show Ideal.exp (S ⟨256, _⟩ - _) = _
      rw [hsk]
  rw [hden, hmax, rowOut, eδ, Ideal.div_coe hδ.ne', sum_mul_real _ (by positivity), Fin.sum_univ_two_halves 128 128 rfl, ← Finset.sum_add_distrib]
  refine Finset.sum_congr rfl fun j _ => ?_
  show V _ * Ideal.div (Ideal.exp (S ⟨j.val, _⟩ - _)) _ + V _ * Ideal.div (Ideal.exp (S ⟨128 + j.val, _⟩ - _)) _ = _
  rw [hlo, hhi, hμ, Ideal.div_coe hδ.ne', Ideal.div_coe hδ.ne']
  by_cases hs : s j = ⊥
  · rw [hs, ite_self, hbot, zero_mul, mul_zero, mul_zero, zero_mul, zero_mul, add_zero]
  rw [hV j hs]
  split
  · rw [hbot, zero_mul, mul_zero, add_zero, mul_comm (V _), mul_assoc, mul_assoc, mul_comm (V _)]
  · rw [hbot, zero_mul, mul_zero, zero_add, mul_comm (V _), mul_assoc, mul_assoc, mul_comm (V _)]

end Cert.Row

end
-- ==== Proof.SwaHead.lean ====
/-
  The sliding-window attention kernel's head, read at an index: the iotas' masks and distances, the placed key and value
  rows, and the head's result as the row of `SwaRow` over the folded logits.
-/
module

public import proofs.«01_k».proof.Proof.SwaTerms
public import proofs.«01_k».proof.Proof.SwaRow

@[expose] public section

set_option maxRecDepth 16384

noncomputable section

namespace Cert.KernelIdeal.Swa

open Cert.KernelIdeal Cert.KernelIdeal.Gen Idealize.ShloMosaic Idealize.ShloMosaic.TcCoe Idealize.SL.Sem

/-- Beyond the row's own position: the key lies in the previous block. -/
theorem far_apply (r l : Fin 128) : k0_pay2 (ix2 r l) = if r < l then 1#1 else 0#1 := by
  unfold k0_pay2
  simp only [pointwise]
  show IntOp.cmpi CmpIPredicate.sgt (BitVec.ofNat 32 (0 * 128 + l.val)) (BitVec.ofNat 32 (0 * 128 + r.val)) = _
  rw [zero_mul, zero_add, zero_add]
  revert r l; decide +kernel

/-- The distance back to a key. -/
def dist (r l : Fin 128) : ℤ := if r < l then r.val + 128 - l.val else r.val - l.val

theorem dist_apply (r l : Fin 128) : k0_pay3 (F := Ideal) (ix2 r l) = ((dist r l : ℝ) : EReal) := by
  unfold k0_pay3
  simp only [pointwise]
  rw [far_apply]
  show (((Scalar.select (if r < l then 1#1 else 0#1) (IntOp.subi (IntOp.addi (BitVec.ofNat 32 (0 * 128 + r.val)) 128#32) (BitVec.ofNat 32 (0 * 128 + l.val)))
      (IntOp.subi (BitVec.ofNat 32 (0 * 128 + r.val)) (BitVec.ofNat 32 (0 * 128 + l.val))) : BitVec 32).toInt : ℝ) : EReal) = _
  rw [zero_mul, zero_add, zero_add]
  congr 2
  revert r l; decide +kernel

theorem masked_apply (k : Fin k0_t1_loop.trips) (r l : Fin 128) :
    k0_pay11 k0_pay2 0#32 1#32 k (ix2 r l) = if r < l ∧ k.val = 0 then 1#1 else 0#1 := by
  have hk : k.val < 32 := lt_of_lt_of_le k.isLt k0_t1_abs.2.1
  unfold k0_pay11
  simp only [pointwise]
  rw [far_apply]
  have e : Scalar.cmpi CmpIPredicate.eq (Scf.iv 0#32 1#32 k.val) 0#32 = if k.val = 0 then 1#1 else 0#1 := by
    generalize k.val = n at hk
    revert hk; revert n; decide +kernel
  rw [e]
  by_cases h1 : r < l <;> by_cases h2 : k.val = 0 <;> simp [h1, h2] <;> rfl

theorem ofBits_neg_inf : Ideal.ofBits .f32 0xFF800000#32 = ⊥ := by
  simp [Ideal.ofBits, Ideal.ieee]

/-- A row of the key or value band: the previous block's rows, then this block's. -/
def band (k0 k1 : FVec Ideal S128x128 .bf16) (κ : Fin 256) (l : Fin 128) : EReal :=
  if h : κ.val < 128 then k0 (ix2 ⟨κ.val, h⟩ l) else k1 (ix2 ⟨κ.val - 128, by omega⟩ l)

/-- The lane half a key-value head's columns sit in. -/
def half (v10 : BitVec 1) : ℕ := if v10 = 1#1 then 64 else 0

theorem half_le (v10 : BitVec 1) : half v10 ≤ 64 := by unfold half; split <;> omega

theorem cat_apply (k0 k1 : FVec Ideal S128x128 .bf16) (κ : Fin 256) (l : Fin 128) :
    concatenate (α := EReal) S256x128 0 [⟨S128x128, k0⟩, ⟨S128x128, k1⟩] concatenates_S128x128_S128x128_S256x128_d0 (ix2 κ l) = band k0 k1 κ l := by
  simp only [pointwise]
  rfl

theorem rot_apply (x : FVec Ideal S256x128 .f32) (κ : Fin 256) (l : Fin 128) :
    dynamicRotate 1 64#32 none x rotates_S256x128_d1 (ix2 κ l) = x (ix2 κ ⟨(l.val + 64) % 128, Nat.mod_lt _ (by decide)⟩) := by
  simp only [pointwise]
  refine congrArg x (congrArg₂ ix2 rfl (Fin.ext ?_))
  show (l.val + 128 - (64 + 0) % 128) % 128 = (l.val + 64) % 128
  congr 1

theorem low_apply (κ : Fin 256) (l : Fin 128) : k0_pay1 (ix2 κ l) = if l.val < 64 then 1#1 else 0#1 := by
  unfold k0_pay1
  simp only [pointwise]
  show IntOp.cmpi CmpIPredicate.slt (BitVec.ofNat 32 (0 * 128 + l.val)) 64#32 = _
  rw [zero_mul, zero_add]
  revert l; decide +kernel

/-- The placed band, the head's columns in the low lanes. -/
theorem place_apply (v10 : BitVec 1) (k0 k1 : FVec Ideal S128x128 .bf16) (κ : Fin 256) (l : Fin 128) :
    k0_pay5 (F := Ideal) v10 k0_pay1 k0 k1 (ix2 κ l)
      = if h : l.val < 64 then band k0 k1 κ ⟨half v10 + l.val, by have := half_le v10; omega⟩ else 0 := by
  unfold k0_pay5
  dsimp only
  rw [ValueIdx.select_apply, low_apply]
  by_cases h : l.val < 64
  · rw [if_pos h, dif_pos h, ValueIdx.select_one]
    by_cases hv : v10 = 1#1
    · subst hv
      rw [ValueIdx.select_one, rot_apply]
      refine (cat_apply k0 k1 κ _).trans (congrArg (band k0 k1 κ) (Fin.ext ?_))
      show (l.val + 64) % 128 = 64 + l.val
      omega
    · have hv0 := ValueIdx.eq_zero_of_ne_one hv
      subst hv0
      rw [ValueIdx.select_zero]
      refine (cat_apply k0 k1 κ _).trans (congrArg (band k0 k1 κ) (Fin.ext ?_))
      show l.val = 0 + l.val
      omega
  · rw [if_neg h, dif_neg h, ValueIdx.select_zero]
    simp only [pointwise]

theorem low_place (v10 : BitVec 1) (k0 k1 : FVec Ideal S128x128 .bf16) (κ : Fin 256) (l : Fin 128) :
    k0_pay6 (F := Ideal) v10 k0_pay1 k0 k1 (ix2 κ l)
      = if h : l.val < 64 then band k0 k1 κ ⟨half v10 + l.val, by have := half_le v10; omega⟩ else 0 :=
  place_apply v10 k0 k1 κ l

theorem high_place (v10 : BitVec 1) (k0 k1 : FVec Ideal S128x128 .bf16) (κ : Fin 256) (l : Fin 128) :
    k0_pay7 (F := Ideal) v10 k0_pay1 k0 k1 (ix2 κ l)
      = if h : 64 ≤ l.val then band k0 k1 κ ⟨half v10 + (l.val - 64), by have := half_le v10; omega⟩ else 0 := by
  refine (rot_apply _ κ l).trans ((place_apply v10 k0 k1 κ _).trans ?_)
  by_cases h : 64 ≤ l.val
  · rw [dif_pos h, dif_pos (show (l.val + 64) % 128 < 64 by omega)]
    refine congrArg (band k0 k1 κ) (Fin.ext ?_)
    show half v10 + (l.val + 64) % 128 = half v10 + (l.val - 64)
    omega
  · rw [dif_neg h, dif_neg (show ¬ (l.val + 64) % 128 < 64 by omega)]

/-- The band row of the key at fold position `j` of row `r`. -/
def fold (r j : Fin 128) : Fin 256 := if r < j then ⟨j.val, by omega⟩ else ⟨128 + j.val, by omega⟩

variable (v58 : IVec S128x128 1) (kx vx : FVec Ideal S256x128 .bf16) (q : FVec Ideal S128x128 .bf16) (sl sk : EReal) (r : Fin 128)

/-- A head's logit at a fold position. -/
def logit (j : Fin 128) : EReal :=
  if v58 (ix2 r j) = 1#1 then ⊥ else (∑ d, q (ix2 r d) * kx (ix2 (fold r j) d)) * Ideal.ofBits .f32 0x3E000000#32 - sl * ((dist r j : ℝ) : EReal)

theorem logit_apply (j : Fin 128) : k0_pay19 k0_pay2 k0_pay3 kx v58 q sl (ix2 r j) = logit v58 kx q sl r j := by
  unfold k0_pay19
  simp only [pointwise]
  rw [dist_apply, far_apply]
  unfold logit
  by_cases hm : v58 (ix2 r j) = 1#1
  · rw [hm, ValueIdx.select_one, if_pos rfl]
    rfl
  · rw [ValueIdx.eq_zero_of_ne_one hm, ValueIdx.select_zero, if_neg (by decide : ¬ (0#1 = 1#1))]
    refine congrArg (fun z : EReal => z * Ideal.ofBits .f32 0x3E000000#32 - sl * ((dist r j : ℝ) : EReal)) ?_
    by_cases hf : r < j
    · have hd : fold r j = ⟨j.val, by omega⟩ := if_pos hf
      rw [if_pos hf, hd]
      refine (zero_add _).trans (Finset.sum_congr rfl fun d _ => ?_)
      exact congrArg₂ (fun a b : EReal => a * b) (congrArg q (congrArg₂ ix2 (Fin.ext (Nat.zero_add _)) rfl)) (congrArg kx (congrArg₂ ix2 (Fin.ext (Nat.zero_add _)) rfl))
    · have hd : fold r j = ⟨128 + j.val, by omega⟩ := if_neg hf
      rw [if_neg hf, hd]
      refine (zero_add _).trans (Finset.sum_congr rfl fun d _ => ?_)
      exact congrArg₂ (fun a b : EReal => a * b) (congrArg q (congrArg₂ ix2 (Fin.ext (Nat.zero_add _)) rfl)) (congrArg kx (congrArg₂ ix2 (Fin.ext rfl) rfl))

theorem max_apply (x : Fin 1) : k0_pay20 k0_pay2 k0_pay3 kx v58 q sl sk (ix2 r x) = Row.rowMax (logit v58 kx q sl r) sk := by
  unfold k0_pay20
  simp only [pointwise, logit_apply]
  rw [ofBits_neg_inf]
  rfl

theorem num_apply (j : Fin 128) : k0_pay21 k0_pay2 k0_pay3 kx v58 q sl sk (ix2 r j)
    = Ideal.exp (logit v58 kx q sl r j - Row.rowMax (logit v58 kx q sl r) sk) := by
  unfold k0_pay21
  simp only [pointwise, logit_apply]
  exact congrArg (fun z : EReal => Ideal.exp (logit v58 kx q sl r j - z)) (max_apply v58 kx q sl sk r _)

theorem den_apply (x : Fin 1) : k0_pay22 k0_pay2 k0_pay3 kx v58 q sl sk (ix2 r x) = Row.rowDen (logit v58 kx q sl r) sk := by
  unfold k0_pay22
  simp only [pointwise, num_apply, max_apply]
  rfl

theorem head_apply (l : Fin 128) : headOut v58 kx vx q sl sk (ix2 r l) = Row.rowOut (logit v58 kx q sl r) sk fun j => vx (ix2 (fold r j) l) := by
  unfold headOut k0_pay68 k0_pay25 k0_pay23 k0_pay24
  simp only [pointwise, num_apply, den_apply, far_apply]
  refine congrArg₂ Ideal.div ?_ (den_apply v58 kx q sl sk r _)
  rw [zero_add, ← Finset.sum_add_distrib]
  refine Finset.sum_congr rfl fun j _ => ?_
  have hj : (⟨128 + j.val - 128, by omega⟩ : Fin 128) = j := Fin.ext (by simp)
  show Scalar.select (if r < j then 1#1 else 0#1) (Ideal.exp (logit v58 kx q sl r j - Row.rowMax (logit v58 kx q sl r) sk)) (0 : EReal) * vx (ix2 ⟨j.val, _⟩ l)
      + Scalar.select (if r < (⟨128 + j.val - 128, _⟩ : Fin 128) then 1#1 else 0#1) (0 : EReal)
          (Ideal.exp (logit v58 kx q sl r ⟨128 + j.val - 128, _⟩ - Row.rowMax (logit v58 kx q sl r) sk)) * vx (ix2 ⟨128 + j.val, _⟩ l) = _
  rw [hj]
  show _ = _ * vx (ix2 (fold r j) l)
  by_cases hf : r < j
  · have hd : fold r j = ⟨j.val, by omega⟩ := if_pos hf
    rw [if_pos hf, hd, ValueIdx.select_one, ValueIdx.select_one, zero_mul, add_zero]
  · have hd : fold r j = ⟨128 + j.val, by omega⟩ := if_neg hf
    rw [if_neg hf, hd, ValueIdx.select_zero, ValueIdx.select_zero, zero_mul, zero_add]

/-- A row's logits from its query's 64 features and its keys' rows, the keys of a missing previous block masked. -/
def rowLogit (r : Fin 128) (first : Prop) [Decidable first] (qr : Fin 64 → EReal) (kr : Fin 128 → Fin 64 → EReal) (sl : EReal) (j : Fin 128) : EReal :=
  if r < j ∧ first then ⊥ else (∑ d, qr d * kr j d) * Ideal.ofBits .f32 0x3E000000#32 - sl * ((dist r j : ℝ) : EReal)

variable (v10 : BitVec 1) (k : Fin k0_t1_loop.trips) (k0 k1 w0 w1 : FVec Ideal S128x128 .bf16) (sl' sk' : EReal)

/-- The key or value row a fold position reads: the key-value head's 64 columns. -/
def bandRow (k0 k1 : FVec Ideal S128x128 .bf16) (j : Fin 128) (d : Fin 64) : EReal :=
  band k0 k1 (fold r j) ⟨half v10 + d.val, by have := half_le v10; omega⟩

theorem logit_low : logit (k0_pay11 k0_pay2 0#32 1#32 k) (k0_pay6 v10 k0_pay1 k0 k1) q sl r
    = rowLogit r (k.val = 0) (fun d => q (ix2 r ⟨d.val, by omega⟩)) (bandRow r v10 k0 k1) sl := by
  funext j
  unfold logit rowLogit
  rw [masked_apply]
  by_cases h : r < j ∧ k.val = 0
  · rw [if_pos h, if_pos h, if_pos rfl]
  · rw [if_neg h, if_neg h, if_neg (by decide : ¬ (0#1 = 1#1))]
    refine congrArg (fun z : EReal => z * Ideal.ofBits .f32 0x3E000000#32 - sl * ((dist r j : ℝ) : EReal)) ?_
    rw [Fin.sum_univ_two_halves 64 64 rfl]
    refine (congrArg₂ (fun a b : EReal => a + b) (Finset.sum_congr rfl fun d _ => ?_) (Finset.sum_eq_zero fun d _ => ?_)).trans (add_zero _)
    · exact congrArg (fun z : EReal => q (ix2 r ⟨d.val, by omega⟩) * z) ((low_place v10 k0 k1 _ _).trans (dif_pos d.isLt))
    · exact (congrArg (fun z : EReal => q (ix2 r ⟨64 + d.val, by omega⟩) * z) ((low_place v10 k0 k1 _ _).trans (dif_neg (show ¬ 64 + d.val < 64 by omega)))).trans (mul_zero _)

theorem logit_high : logit (k0_pay11 k0_pay2 0#32 1#32 k) (k0_pay7 v10 k0_pay1 k0 k1) q sl r
    = rowLogit r (k.val = 0) (fun d => q (ix2 r ⟨64 + d.val, by omega⟩)) (bandRow r v10 k0 k1) sl := by
  funext j
  unfold logit rowLogit
  rw [masked_apply]
  by_cases h : r < j ∧ k.val = 0
  · rw [if_pos h, if_pos h, if_pos rfl]
  · rw [if_neg h, if_neg h, if_neg (by decide : ¬ (0#1 = 1#1))]
    refine congrArg (fun z : EReal => z * Ideal.ofBits .f32 0x3E000000#32 - sl * ((dist r j : ℝ) : EReal)) ?_
    rw [Fin.sum_univ_two_halves 64 64 rfl]
    refine (congrArg₂ (fun a b : EReal => a + b) (Finset.sum_eq_zero fun d _ => ?_) (Finset.sum_congr rfl fun d _ => ?_)).trans (zero_add _)
    · exact (congrArg (fun z : EReal => q (ix2 r ⟨d.val, by omega⟩) * z) ((high_place v10 k0 k1 _ _).trans (dif_neg (show ¬ 64 ≤ d.val by omega)))).trans (mul_zero _)
    · refine congrArg (fun z : EReal => q (ix2 r ⟨64 + d.val, by omega⟩) * z) ((high_place v10 k0 k1 _ _).trans ((dif_pos (show 64 ≤ 64 + d.val by omega)).trans ?_))
      exact congrArg (band k0 k1 _) (Fin.ext (show half v10 + (64 + d.val - 64) = half v10 + d.val by omega))

theorem pair_apply (l : Fin 128) : pairOut v10 k k0 k1 w0 w1 q sl sk sl' sk' (ix2 r l)
    = Row.rowOut (rowLogit r (k.val = 0) (fun d => q (ix2 r ⟨d.val, by omega⟩)) (bandRow r v10 k0 k1) sl) sk (fun j => k0_pay6 (F := Ideal) v10 k0_pay1 w0 w1 (ix2 (fold r j) l))
      + Row.rowOut (rowLogit r (k.val = 0) (fun d => q (ix2 r ⟨64 + d.val, by omega⟩)) (bandRow r v10 k0 k1) sl') sk' (fun j => k0_pay7 (F := Ideal) v10 k0_pay1 w0 w1 (ix2 (fold r j) l)) := by
  unfold pairOut k0_pay4
  simp only [pointwise, head_apply, logit_low, logit_high]

/-- THE LOW LANES OF A PAIR hold the even head's row. -/
theorem pair_low (hb : Row.Tame (rowLogit r (k.val = 0) (fun d => q (ix2 r ⟨64 + d.val, by omega⟩)) (bandRow r v10 k0 k1) sl') sk') (d : Fin 64) :
    pairOut v10 k k0 k1 w0 w1 q sl sk sl' sk' (ix2 r ⟨d.val, by omega⟩)
      = Row.rowOut (rowLogit r (k.val = 0) (fun d => q (ix2 r ⟨d.val, by omega⟩)) (bandRow r v10 k0 k1) sl) sk (fun j => bandRow r v10 w0 w1 j d) := by
  refine (pair_apply q sl sk r v10 k k0 k1 w0 w1 sl' sk' _).trans ?_
  refine (congrArg₂ (fun a b : EReal => a + b) (congrArg _ (funext fun j => ?_)) (Row.rowOut_zero hb _ fun j => ?_)).trans (add_zero _)
  · exact (low_place v10 w0 w1 _ _).trans (dif_pos d.isLt)
  · exact (high_place v10 w0 w1 _ _).trans (dif_neg (show ¬ 64 ≤ d.val by omega))

/-- THE HIGH LANES OF A PAIR hold the odd head's row. -/
theorem pair_high (ha : Row.Tame (rowLogit r (k.val = 0) (fun d => q (ix2 r ⟨d.val, by omega⟩)) (bandRow r v10 k0 k1) sl) sk) (d : Fin 64) :
    pairOut v10 k k0 k1 w0 w1 q sl sk sl' sk' (ix2 r ⟨64 + d.val, by omega⟩)
      = Row.rowOut (rowLogit r (k.val = 0) (fun d => q (ix2 r ⟨64 + d.val, by omega⟩)) (bandRow r v10 k0 k1) sl') sk' (fun j => bandRow r v10 w0 w1 j d) := by
  refine (pair_apply q sl sk r v10 k k0 k1 w0 w1 sl' sk' _).trans ?_
  refine (congrArg₂ (fun a b : EReal => a + b) (Row.rowOut_zero ha _ fun j => ?_) (congrArg _ (funext fun j => ?_))).trans (zero_add _)
  · exact (low_place v10 w0 w1 _ _).trans (dif_neg (show ¬ 64 + d.val < 64 by omega))
  · refine (high_place v10 w0 w1 _ _).trans ((dif_pos (show 64 ≤ 64 + d.val by omega)).trans ?_)
    exact congrArg (band w0 w1 _) (Fin.ext (show half v10 + (64 + d.val - 64) = half v10 + d.val by omega))

end Cert.KernelIdeal.Swa

end
-- ==== Proof.SwaBlock.lean ====
/-
  The sliding-window attention kernel, one grid point: the block it leaves is, row by row and head by head, the row of
  `SwaRow` over the point's query, key and value blocks. Each of the loop's trips stores four tiles of one row block.
-/
module

public import proofs.«01_k».proof.Proof.SwaHead
public import proofs.«01_k».proof.Proof.Gen.KernelIdeal.Value

@[expose] public section

set_option maxRecDepth 16384

noncomputable section

namespace Cert.KernelIdeal.Swa

open Cert.KernelIdeal Cert.KernelIdeal.Gen Idealize.ShloMosaic Idealize.ShloMosaic.TcCoe Idealize.SL.Sem

/-- Where trip `k` reads and stores. -/
theorem offs (k : Fin k0_t1_loop.trips) : k0_off1 k = ![128 * (k.val - 1), 0] ∧ k0_off2 k = ![128 * k.val, 0] ∧ k0_off3 k = ![128 * k.val, 0]
    ∧ k0_off4 k = ![128 * k.val, 128] ∧ k0_off5 k = ![128 * k.val, 256] ∧ k0_off6 k = ![128 * k.val, 384] := by
  have hk : k.val < 32 := lt_of_lt_of_le k.isLt k0_t1_abs.2.1
  unfold k0_off1 k0_off2 k0_off3 k0_off4 k0_off5 k0_off6
  dsimp only
  generalize k.val = n at hk
  revert hk; revert n; decide +kernel

theorem off7_apply (i : grid0.Coords) (g : Fin 8) : k0_off7 i (BitVec.ofNat 32 g.val) 0 = 8 * (i 1).val + g.val := by
  unfold k0_off7
  dsimp only
  generalize (i 1) = n
  revert n g; decide +kernel

/-- The key-value head's parity, as the kernel computes it. -/
def parity (i : grid0.Coords) : BitVec 1 :=
  Scalar.cmpi CmpIPredicate.eq
    (Scalar.select
      (Scalar.andi (Scalar.xori (Scalar.cmpi CmpIPredicate.slt (Scalar.remsi (BitVec.ofNat 32 (i 1).val) 2#32) 0#32) 0#1)
        (Scalar.cmpi CmpIPredicate.ne (Scalar.remsi (BitVec.ofNat 32 (i 1).val) 2#32) 0#32))
      (Scalar.addi (Scalar.remsi (BitVec.ofNat 32 (i 1).val) 2#32) 2#32) (Scalar.remsi (BitVec.ofNat 32 (i 1).val) 2#32))
    1#32

theorem half_parity (i : grid0.Coords) : half (parity i) = 64 * ((i 1).val % 2) := by
  unfold parity
  generalize (i 1) = n
  revert n; decide +kernel

/-- The row of a block a fold position's key lies in: the previous 128 rows' (the same rows' at the block's start), or
    the row's own 128 rows'. -/
def keyRow (R : Fin 4096) (j : Fin 128) : Fin 4096 :=
  if R.val % 128 < j.val then ⟨128 * (R.val / 128 - 1) + j.val, by omega⟩ else ⟨128 * (R.val / 128) + j.val, by omega⟩

/-- A 128-row tile of a block. -/
abbrev tileK (X : FVec Ideal S4096x128 .bf16) (off : Fin 2 → ℕ) (h : ∀ a, off a + S128x128.size a ≤ S4096x128.size a) : FVec Ideal S128x128 .bf16 :=
  View.ld (Val := Elt Ideal) (e' := .bf16) X (Rect.unit (s := S4096x128) off S128x128.size h)
abbrev tileQ (X : FVec Ideal S4096x512 .bf16) (off : Fin 2 → ℕ) (h : ∀ a, off a + S128x128.size a ≤ S4096x512.size a) : FVec Ideal S128x128 .bf16 :=
  View.ld (Val := Elt Ideal) (e' := .bf16) X (Rect.unit (s := S4096x512) off S128x128.size h)

theorem rowLogit_congr {r r' : Fin 128} {f f' : Prop} [Decidable f] [Decidable f'] {q q' : Fin 64 → EReal} {kr kr' : Fin 128 → Fin 64 → EReal} {sl sl' : EReal}
    (hr : r = r') (hf : f ↔ f') (hq : ∀ d, q d = q' d) (hk : ∀ j d, kr j d = kr' j d) (hs : sl = sl') :
    rowLogit r f q kr sl = rowLogit r' f' q' kr' sl' := by
  obtain rfl := hr
  obtain rfl := hs
  obtain rfl : q = q' := funext hq
  obtain rfl : kr = kr' := funext fun j => funext (hk j)
  funext j
  unfold rowLogit
  simp only [hf]

section Block

variable (n : Fin 8) (x0 x1 : FVec Ideal S64 .f32) (x2 : FVec Ideal S4096x512 .bf16) (x3 x4 : FVec Ideal S4096x128 .bf16)

/-- The logits of a block's row for its head `g`. -/
def blockLogit (R : Fin 4096) (g : Fin 8) : Fin 128 → EReal :=
  rowLogit ⟨R.val % 128, by omega⟩ (R.val / 128 = 0) (fun d => x2 (ix2 R ⟨64 * g.val + d.val, by omega⟩))
    (fun j d => x3 (ix2 (keyRow R j) ⟨64 * (n.val % 2) + d.val, by omega⟩)) (x0 (ix1 ⟨8 * n.val + g.val, by omega⟩))

/-- A block's row for its head `g`, at the head's feature `d`. -/
def blockOut (R : Fin 4096) (g : Fin 8) (d : Fin 64) : EReal :=
  Row.rowOut (blockLogit n x0 x2 x3 R g) (x1 (ix1 ⟨8 * n.val + g.val, by omega⟩))
    fun j => x4 (ix2 (keyRow R j) ⟨64 * (n.val % 2) + d.val, by omega⟩)

/-- The row a trip's band reads at a fold position. -/
theorem band_tile (X : FVec Ideal S4096x128 .bf16) (k : Fin k0_t1_loop.trips) (r : Fin 128) (h1 h2) (v10 : BitVec 1) (hv : half v10 = 64 * (n.val % 2))
    (R : Fin 4096) (hR : R.val = 128 * k.val + r.val) (j : Fin 128) (d : Fin 64) :
    bandRow r v10 (tileK X (k0_off1 k) h1) (tileK X (k0_off2 k) h2) j d
      = X (ix2 (keyRow R j) ⟨64 * (n.val % 2) + d.val, by omega⟩) := by
  obtain ⟨o1, o2, -⟩ := offs k
  have hm : R.val % 128 = r.val := by omega
  have hd : R.val / 128 = k.val := by omega
  unfold bandRow band fold keyRow
  by_cases hf : r < j
  · have hf' : R.val % 128 < j.val := by rw [hm]; exact hf
    rw [if_pos hf, if_pos hf', dif_pos j.isLt]
    refine View.ld_unit_apply_of (Val := Elt Ideal) (e := .bf16) X _ _ _ _ _ fun a => ?_
    rw [show k0_off1 k a = _ from congrFun o1 a]
    fin_cases a
    · show 128 * (R.val / 128 - 1) + j.val = 128 * (k.val - 1) + j.val
      rw [hd]
    · show 64 * (n.val % 2) + d.val = 0 + (half v10 + d.val)
      omega
  · have hf' : ¬ R.val % 128 < j.val := by rw [hm]; exact hf
    rw [if_neg hf, if_neg hf', dif_neg (show ¬ 128 + j.val < 128 by omega)]
    refine View.ld_unit_apply_of (Val := Elt Ideal) (e := .bf16) X _ _ _ _ _ fun a => ?_
    rw [show k0_off2 k a = _ from congrFun o2 a]
    fin_cases a
    · show 128 * (R.val / 128) + j.val = 128 * k.val + (128 + j.val - 128)
      omega
    · show 64 * (n.val % 2) + d.val = 0 + (half v10 + d.val)
      omega

/-- A TILE A TRIP STORES is its row block's rows at the pair of heads `2p`, `2p + 1`. -/
theorem tile_apply (k : Fin k0_t1_loop.trips) (p : Fin 4) (h1 h2 h1' h2') (off : Fin 2 → ℕ) (ho : off = ![128 * k.val, 128 * p.val]) (h3) (v10 : BitVec 1) (hv : half v10 = 64 * (n.val % 2))
    (a b a' b' : EReal) (ha : a = x0 (ix1 ⟨8 * n.val + 2 * p.val, by omega⟩)) (hb : b = x1 (ix1 ⟨8 * n.val + 2 * p.val, by omega⟩))
    (ha' : a' = x0 (ix1 ⟨8 * n.val + (2 * p.val + 1), by omega⟩)) (hb' : b' = x1 (ix1 ⟨8 * n.val + (2 * p.val + 1), by omega⟩))
    (ht : ∀ R g, Row.Tame (blockLogit n x0 x2 x3 R g) (x1 (ix1 ⟨8 * n.val + g.val, by omega⟩)))
    (R : Fin 4096) (C : Fin 512) (x : S128x128.Idx) (hR : R.val = 128 * k.val + (x 0).val) (hC : C.val = 128 * p.val + (x 1).val) :
    pairOut v10 k (tileK x3 (k0_off1 k) h1) (tileK x3 (k0_off2 k) h2)
        (tileK x4 (k0_off1 k) h1') (tileK x4 (k0_off2 k) h2')
        (tileQ x2 off h3) a b a' b' x
      = blockOut n x0 x1 x2 x3 x4 R ⟨C.val / 64, by omega⟩ ⟨C.val % 64, by omega⟩ := by
  obtain ⟨r, l, rfl⟩ : ∃ (r l : Fin 128), x = ix2 r l := ⟨x 0, x 1, (eq_ix2 x)⟩
  replace hR : R.val = 128 * k.val + r.val := hR
  replace hC : C.val = 128 * p.val + l.val := hC
  have hm : (⟨R.val % 128, by omega⟩ : Fin 128) = r := Fin.ext (by show R.val % 128 = r.val; omega)
  have hk0 : k.val = 0 ↔ R.val / 128 = 0 := by rw [show R.val / 128 = k.val by omega]
  have hq : ∀ e : Fin 128, tileQ x2 off h3 (ix2 r e) = x2 (ix2 R ⟨128 * p.val + e.val, by omega⟩) := fun e =>
    View.ld_unit_apply_of (Val := Elt Ideal) (e := .bf16) x2 _ _ _ _ _ fun a => by
      rw [show off a = _ from congrFun ho a]; fin_cases a
      · exact hR
      · rfl
  have hlow : rowLogit r (k.val = 0) (fun d => tileQ x2 off h3 (ix2 r ⟨d.val, by omega⟩))
      (bandRow r v10 (tileK x3 (k0_off1 k) h1) (tileK x3 (k0_off2 k) h2)) a
      = blockLogit n x0 x2 x3 R ⟨2 * p.val, by omega⟩ := by
    unfold blockLogit
    refine rowLogit_congr hm.symm hk0 (fun d => ?_) (fun j d => band_tile n x3 k r h1 h2 v10 hv R hR j d) ha
    exact (hq _).trans (congrArg x2 (congrArg (ix2 R) (Fin.ext (show 128 * p.val + d.val = 64 * (2 * p.val) + d.val by omega))))
  have hhigh : rowLogit r (k.val = 0) (fun d => tileQ x2 off h3 (ix2 r ⟨64 + d.val, by omega⟩))
      (bandRow r v10 (tileK x3 (k0_off1 k) h1) (tileK x3 (k0_off2 k) h2)) a'
      = blockLogit n x0 x2 x3 R ⟨2 * p.val + 1, by omega⟩ := by
    unfold blockLogit
    refine rowLogit_congr hm.symm hk0 (fun d => ?_) (fun j d => band_tile n x3 k r h1 h2 v10 hv R hR j d) ha'
    exact (hq _).trans (congrArg x2 (congrArg (ix2 R) (Fin.ext (show 128 * p.val + (64 + d.val) = 64 * (2 * p.val + 1) + d.val by omega))))
  by_cases hl : l.val < 64
  · have hg : (⟨C.val / 64, by omega⟩ : Fin 8) = ⟨2 * p.val, by omega⟩ := Fin.ext (by show C.val / 64 = 2 * p.val; omega)
    have hd : (⟨C.val % 64, by omega⟩ : Fin 64) = ⟨l.val, hl⟩ := Fin.ext (by show C.val % 64 = l.val; omega)
    rw [hg, hd]
    refine (pair_low _ a b r v10 k _ _ _ _ a' b' (by rw [hhigh, hb']; exact ht R ⟨2 * p.val + 1, by omega⟩) ⟨l.val, hl⟩).trans ?_
    unfold blockOut
    rw [hlow, hb]
    exact congrArg _ (funext fun j => band_tile n x4 k r h1' h2' v10 hv R hR j ⟨l.val, hl⟩)
  · have hg : (⟨C.val / 64, by omega⟩ : Fin 8) = ⟨2 * p.val + 1, by omega⟩ := Fin.ext (by show C.val / 64 = 2 * p.val + 1; omega)
    have hd : (⟨C.val % 64, by omega⟩ : Fin 64) = ⟨l.val - 64, by omega⟩ := Fin.ext (by show C.val % 64 = l.val - 64; omega)
    rw [hg, hd]
    have hl' : (ix2 r l : S128x128.Idx) = ix2 r ⟨64 + (⟨l.val - 64, by omega⟩ : Fin 64).val, by show 64 + (l.val - 64) < 128; omega⟩ :=
      congrArg (ix2 r) (Fin.ext (show l.val = 64 + (l.val - 64) by omega))
    rw [hl']
    refine (pair_high _ a b r v10 k _ _ _ _ a' b' (by rw [hlow, hb]; exact ht R ⟨2 * p.val, by omega⟩) ⟨l.val - 64, by omega⟩).trans ?_
    unfold blockOut
    rw [hhigh, hb']
    exact congrArg _ (funext fun j => band_tile n x4 k r h1' h2' v10 hv R hR j ⟨l.val - 64, by omega⟩)

end Block

variable (c : Dev nD) (i : grid0.Coords) (arg2 : Memref sig .tc .smem S64 .f32) (harg2 : arg2.IsWhole) (arg3 : Memref sig .tc .smem S64 .f32) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x512 .bf16) (harg7 : arg7.IsWhole)
    (x0 x1 : FVec Ideal S64 .f32) (x2 : FVec Ideal S4096x512 .bf16) (x3 x4 : FVec Ideal S4096x128 .bf16)

/-- Every tile the loop stores is one of a trip's. -/
theorem mem_trips (N : ℕ) (hN : N ≤ k0_t1_loop.trips) (pc)
    (h : pc ∈ pb_k0_t1 (F := Ideal) Variants.none c none i arg2 harg2 arg3 harg3 arg4 harg4 arg5 harg5 arg6 harg6 arg7 harg7 (BitVec.ofNat 32 (i 1).val) (parity i) (harg2.unread x0) (harg3.unread x1) (harg4.unread x2) (harg5.unread x3) (harg6.unread x4) N) :
    ∃ k : Fin k0_t1_loop.trips, pc ∈ (trip_k0_t1 (F := Ideal) Variants.none c none i arg2 harg2 arg3 harg3 arg4 harg4 arg5 harg5 arg6 harg6 arg7 harg7 (BitVec.ofNat 32 (i 1).val) (parity i) (harg2.unread x0) (harg3.unread x1) (harg4.unread x2) (harg5.unread x3) (harg6.unread x4) k).1 := by
  induction N with
  | zero => exact absurd h List.not_mem_nil
  | succ N ih =>
    have e := pb_k0_t1_succ (F := Ideal) Variants.none c none i arg2 harg2 arg3 harg3 arg4 harg4 arg5 harg5 arg6 harg6 arg7 harg7 (BitVec.ofNat 32 (i 1).val) (parity i) (harg2.unread x0) (harg3.unread x1) (harg4.unread x2) (harg5.unread x3) (harg6.unread x4) ⟨N, hN⟩
    dsimp only at e
    rw [e] at h
    rcases List.mem_append.mp h with h | h
    · exact ⟨⟨N, hN⟩, h⟩
    · exact ih (Nat.le_of_succ_le hN) h

/-- THE BLOCK A GRID POINT LEAVES. -/
theorem out_apply (n : Fin 8) (hn : (i 1).val = n.val)
    (ht : ∀ R g, Row.Tame (blockLogit n x0 x2 x3 R g) (x1 (ix1 ⟨8 * n.val + g.val, by omega⟩)))
    (R : Fin 4096) (C : Fin 512) :
    out0_A_5 (F := Ideal) c i arg2 harg2 arg3 harg3 arg4 harg4 arg5 harg5 arg6 harg6 arg7 harg7 x0 x1 x2 x3 x4 (ix2 R C)
      = blockOut n x0 x1 x2 x3 x4 R ⟨C.val / 64, by omega⟩ ⟨C.val % 64, by omega⟩ := by
  unfold out0_A_5
  have hcov := cover0_A_5 (F := Ideal) c i arg2 harg2 arg3 harg3 arg4 harg4 arg5 harg5 arg6 harg6 arg7 harg7 x0 x1 x2 x3 x4
  rw [View.read_writes_eq_canon _ _ _ hcov]
  refine View.canon_eq_of_allAt _ _ _ (hcov _) ?_
  have hL : (kernelRun0_A (F := Ideal) c i arg2 harg2 arg3 harg3 arg4 harg4 arg5 harg5 arg6 harg6 arg7 harg7 x0 x1 x2 x3 x4).1
      = pb_k0_t1 (F := Ideal) Variants.none c none i arg2 harg2 arg3 harg3 arg4 harg4 arg5 harg5 arg6 harg6 arg7 harg7 (BitVec.ofNat 32 (i 1).val) (parity i) (harg2.unread x0) (harg3.unread x1) (harg4.unread x2) (harg5.unread x3) (harg6.unread x4) k0_t1_loop.trips := by
    unfold kernelRun0_A; dsimp only; try sl_unfold_words
    rfl
  intro pc hpc
  rw [hL] at hpc
  obtain ⟨k, hk⟩ := mem_trips c i arg2 harg2 arg3 harg3 arg4 harg4 arg5 harg5 arg6 harg6 arg7 harg7 x0 x1 x2 x3 x4 _ le_rfl pc hpc
  rw [trip_pieces] at hk
  have hv : half (parity i) = 64 * (n.val % 2) := by rw [half_parity, hn]
  have hs : ∀ (arg : Memref sig .tc .smem S64 .f32) (harg : arg.IsWhole) (x : FVec Ideal S64 .f32) (g : Fin 8),
      ldS i arg (harg.unread x) g = x (ix1 ⟨8 * n.val + g.val, by omega⟩) := by
    intro arg harg x g
    unfold ldS
    rw [View.readAt_eq_ld, harg.read_unread]
    refine View.ld_unit_apply_of (Val := Elt Ideal) (e := .f32) x _ _ _ _ _ fun a => ?_
    fin_cases a
    show 8 * n.val + g.val = k0_off7 i (BitVec.ofNat 32 g.val) 0 + 0
    rw [off7_apply, hn]; rfl
  obtain ⟨-, -, o3, o4, o5, o6⟩ := offs k
  have main : ∀ (p : Fin 4) (off : Fin 2 → ℕ) (ho : off = ![128 * k.val, 128 * p.val]) (inb) (inb') (x : S128x128.Idx),
      (Rect.unit (s := S4096x512) off S128x128.size inb).emb x = ix2 R C →
      pairAt i arg2 arg3 arg5 arg6 (parity i) (harg2.unread x0) (harg3.unread x1) (harg5.unread x3) (harg6.unread x4) k (ldQ arg4 (harg4.unread x2) off inb')
        ⟨2 * p.val, by omega⟩ ⟨2 * p.val + 1, by omega⟩ x = blockOut n x0 x1 x2 x3 x4 R ⟨C.val / 64, by omega⟩ ⟨C.val % 64, by omega⟩ := by
    intro p off ho inb inb' x hx
    unfold pairAt ldQ ldK
    simp only [View.readAt_eq_ld, harg4.read_unread, harg5.read_unread, harg6.read_unread]
    have hx0 := (Rect.idx_unit_val (s := S4096x512) off S128x128.size inb x 0).symm.trans (congrArg (fun z : S4096x512.Idx => (z 0).val) hx)
    have hx1 := (Rect.idx_unit_val (s := S4096x512) off S128x128.size inb x 1).symm.trans (congrArg (fun z : S4096x512.Idx => (z 1).val) hx)
    have e0 : off 0 = 128 * k.val := by rw [ho]; rfl
    have e1 : off 1 = 128 * p.val := by rw [ho]; rfl
    exact tile_apply n x0 x1 x2 x3 x4 k p _ _ _ _ off ho _ (parity i) hv _ _ _ _ (hs arg2 harg2 x0 _) (hs arg3 harg3 x1 _) (hs arg2 harg2 x0 _) (hs arg3 harg3 x1 _)
      ht R C x (hx0.symm.trans (congrArg (· + (x 0).val) e0)) (hx1.symm.trans (congrArg (· + (x 1).val) e1))
  rcases List.mem_cons.mp hk with rfl | hk
  · exact main 3 _ o6 (k0_off6_inb k) (k0_off6_inb k)
  rcases List.mem_cons.mp hk with rfl | hk
  · exact main 2 _ o5 (k0_off5_inb k) (k0_off5_inb k)
  rcases List.mem_cons.mp hk with rfl | hk
  · exact main 1 _ o4 (k0_off4_inb k) (k0_off4_inb k)
  rcases List.mem_cons.mp hk with rfl | hk
  · exact main 0 _ o3 (k0_off3_inb k) (k0_off3_inb k)
  · exact absurd hk List.not_mem_nil

end Cert.KernelIdeal.Swa

end
-- ==== Proof.SwaSpec.lean ====
/-
  The sliding-window attention as one function of its arrays: what every element of the result is, and that under the
  precondition each of its rows is one that `SwaRow` speaks of.
-/
module

public import proofs.«01_k».proof.Proof.SwaBlock
public import proofs.«01_k».proof.Defs

@[expose] public section

set_option maxRecDepth 16384

noncomputable section

namespace Cert.KernelIdeal.Swa

open Cert.KernelIdeal Cert.KernelIdeal.Gen Idealize.ShloMosaic

/-- A head's slope. -/
def slope (h : Fin 64) : EReal := Ideal.ofBits .f32 (lit0 h)

/-- The row of the whole array a fold position reads its key from. -/
def keyAt (R : Fin 8192) (j : Fin 128) : Fin 8192 :=
  ⟨4096 * (R.val / 4096) + (keyRow ⟨R.val % 4096, by omega⟩ j).val, by
    have := (keyRow ⟨R.val % 4096, by omega⟩ j).isLt; omega⟩

/-- A row's scores in one head. -/
def specLogit (X : FVec Ideal S8192x5120 .bf16) (R : Fin 8192) (h : Fin 64) : Fin 128 → EReal :=
  rowLogit ⟨R.val % 128, by omega⟩ (R.val % 4096 / 128 = 0) (fun d => X (ix2 R ⟨64 * h.val + d.val, by omega⟩))
    (fun j d => X (ix2 (keyAt R j) ⟨4096 + 64 * (h.val / 8) + d.val, by omega⟩)) (slope h)

/-- THE RESULT: row `R`, column `C`. -/
def spec (X : FVec Ideal S8192x5120 .bf16) (sk : FVec Ideal S64 .f32) (R : Fin 8192) (C : Fin 4096) : EReal :=
  Row.rowOut (specLogit X R ⟨C.val / 64, by omega⟩) (sk (ix1 ⟨C.val / 64, by omega⟩))
    fun j => X (ix2 (keyAt R j) ⟨4608 + 64 * (C.val / 64 / 8) + C.val % 64, by omega⟩)

/-! ## The rows are tame -/

/-- A value that is a real number. -/
def IsReal (x : EReal) : Prop := ∃ r : ℝ, x = r

theorem IsReal.mul {x y : EReal} : IsReal x → IsReal y → IsReal (x * y)
  | ⟨a, ha⟩, ⟨b, hb⟩ => ⟨a * b, by rw [ha, hb, EReal.coe_mul]⟩

theorem IsReal.sub {x y : EReal} : IsReal x → IsReal y → IsReal (x - y)
  | ⟨a, ha⟩, ⟨b, hb⟩ => ⟨a - b, by rw [ha, hb, EReal.coe_sub]⟩

theorem IsReal.sum {n : ℕ} {f : Fin n → EReal} (h : ∀ d, IsReal (f d)) : IsReal (∑ d, f d) := by
  choose g hg using h
  exact ⟨∑ d, g d, by rw [Row.coe_sum_real]; exact Finset.sum_congr rfl fun d _ => hg d⟩

/-- A word whose exponent is not all ones is a real number. -/
theorem ofBits_real (b : BitVec 32) (h : (b.extractLsb' 23 8).toNat ≠ 255) : IsReal (Ideal.ofBits .f32 b) := by
  unfold Ideal.ofBits Ideal.ieee
  dsimp only
  rw [if_neg (by simpa using h)]
  split
  · exact ⟨_, rfl⟩
  · exact ⟨_, rfl⟩

theorem slope_real (h : Fin 64) : IsReal (slope h) :=
  ofBits_real _ ((by decide +kernel : ∀ h : Fin 64, ((lit0 h).extractLsb' 23 8).toNat ≠ 255) h)

/-- What the precondition says: the queries and keys are real numbers, no sink is `⊤`. -/
structure Finite (X : FVec Ideal S8192x5120 .bf16) (sk : FVec Ideal S64 .f32) : Prop where
  real : ∀ (R : Fin 8192) (C : Fin 5120), C.val < 4608 → IsReal (X (ix2 R C))
  sink : ∀ h : Fin 64, sk (ix1 h) ≠ ⊤

theorem spec_tame {X : FVec Ideal S8192x5120 .bf16} {sk : FVec Ideal S64 .f32} (h : Finite X sk) (R : Fin 8192) (g : Fin 64) :
    Row.Tame (specLogit X R g) (sk (ix1 g)) := by
  have hr : ∀ j, IsReal ((∑ d : Fin 64, X (ix2 R ⟨64 * g.val + d.val, by omega⟩)
      * X (ix2 (keyAt R j) ⟨4096 + 64 * (g.val / 8) + d.val, by omega⟩)) * Ideal.ofBits .f32 0x3E000000#32
      - slope g * ((dist ⟨R.val % 128, by omega⟩ j : ℝ) : EReal)) := fun j =>
    ((IsReal.sum fun d => (h.real _ _ (by have := d.isLt; have := g.isLt; show 64 * g.val + d.val < 4608; omega)).mul
      (h.real _ _ (by have := d.isLt; have := g.isLt; show 4096 + 64 * (g.val / 8) + d.val < 4608; omega))).mul
      (ofBits_real _ (by decide))).sub ((slope_real g).mul ⟨_, rfl⟩)
  refine ⟨⟨⟨R.val % 128, by omega⟩, ?_⟩, fun j => ?_, h.sink g⟩
  · unfold specLogit rowLogit
    rw [if_neg (fun hh => lt_irrefl _ hh.1)]
    obtain ⟨r, e⟩ := hr ⟨R.val % 128, by omega⟩
    rw [e]
    exact EReal.coe_ne_bot r
  · unfold specLogit rowLogit
    split
    · exact bot_ne_top
    · obtain ⟨r, e⟩ := hr j
      rw [e]
      exact EReal.coe_ne_top r

end Cert.KernelIdeal.Swa

end
-- ==== Proof.SwaValue.lean ====
/-
  The sliding-window attention kernel's array: each grid point writes its batch and key-value head's block of the result,
  and the blocks are the specification's.
-/
module

public import proofs.«01_k».proof.Proof.SwaSpec
public import Idealize.ShloMosaic.Lib.Pipeline.ValueKit

@[expose] public section

set_option maxRecDepth 16384

noncomputable section

namespace Cert.KernelIdeal.Swa

open Cert.KernelIdeal Cert.KernelIdeal.Gen Cert.KernelIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The windows' block indices at a point: batch and key-value head. -/
theorem blocks_at : ∀ t : Fin cfg0.N,
    (grid0.coords t 1).val = t.val % 8
    ∧ win0_0.index t (0 : Fin 1) = 0 ∧ win0_1.index t (0 : Fin 1) = 0
    ∧ win0_2.index t (0 : Fin 2) = t.val / 8 ∧ win0_2.index t (1 : Fin 2) = t.val % 8
    ∧ win0_3.index t (0 : Fin 2) = t.val / 8 ∧ win0_3.index t (1 : Fin 2) = 32 + t.val % 8 / 2
    ∧ win0_4.index t (0 : Fin 2) = t.val / 8 ∧ win0_4.index t (1 : Fin 2) = 36 + t.val % 8 / 2
    ∧ win0_5.index t (0 : Fin 2) = t.val / 8 ∧ win0_5.index t (1 : Fin 2) = t.val % 8 :=
  (by decide +kernel : ∀ t : Fin grid0.N, _)

abbrev X : FVec Ideal S8192x5120 .bf16 := m ((c : Thread nD τ).loc main_arg0)
abbrev SK : FVec Ideal S64 .f32 := m ((c : Thread nD τ).loc main_arg1)

abbrev blk0 (t : Fin cfg0.N) : FVec Ideal S64 .f32 := iblk m c 0 t
abbrev blk1 (t : Fin cfg0.N) : FVec Ideal S64 .f32 := iblk m c 1 t
abbrev blk2 (t : Fin cfg0.N) : FVec Ideal S4096x512 .bf16 := iblk m c 2 t
abbrev blk3 (t : Fin cfg0.N) : FVec Ideal S4096x128 .bf16 := iblk m c 3 t
abbrev blk4 (t : Fin cfg0.N) : FVec Ideal S4096x128 .bf16 := iblk m c 4 t

theorem V_cst : V m c main_cst = fun i : S64.Idx => Ideal.ofBits .f32 (lit0 (S64.rowMajor i)) := by
  show StableHlo.after hostOps0 _ (Proc.devRef .tc main_cst) = _
  after_results
  rfl

theorem blk0_apply (t : Fin cfg0.N) (h : Fin 64) : blk0 m c t (ix1 h) = slope h := by
  unfold blk0 iblk
  rw [View.read_apply]
  show V m c main_cst _ = _
  rw [V_cst]
  have e : ((cfg0.win 0).blk t).view.emb (ix1 h) = ix1 h := by
    funext a; apply Fin.ext
    obtain ⟨-, e0, -⟩ := blocks_at t
    match a with
    | ⟨0, _⟩ =>
      show win0_0.index t 0 * 64 + 1 * h.val = h.val
      rw [e0]; omega
  unfold slope
  show Ideal.ofBits .f32 (lit0 (S64.rowMajor (((cfg0.win 0).blk t).view.emb (ix1 h)))) = _
  rw [e]
  congr 2
  exact Fin.ext ((by decide +kernel : ∀ h : Fin 64, (S64.rowMajor (ix1 h)).val = h.val) h)

theorem blk1_apply (t : Fin cfg0.N) (h : Fin 64) : blk1 m c t (ix1 h) = SK m c (ix1 h) := by
  unfold blk1 iblk
  rw [View.read_apply]
  show V m c main_arg1 _ = _
  rw [V_main_arg1]
  congr 1; funext a; apply Fin.ext
  obtain ⟨-, -, e0, -⟩ := blocks_at t
  match a with
  | ⟨0, _⟩ =>
    show win0_1.index t 0 * 64 + 1 * h.val = h.val
    rw [e0]; omega

theorem blk2_apply (t : Fin cfg0.N) (r : Fin 4096) (k : Fin 512) (R : Fin 8192) (C : Fin 5120)
    (hR : R.val = t.val / 8 * 4096 + r.val) (hC : C.val = t.val % 8 * 512 + k.val) :
    blk2 m c t (ix2 r k) = X m c (ix2 R C) := by
  unfold blk2 iblk
  rw [View.read_apply]
  show V m c main_arg0 _ = _
  rw [V_main_arg0]
  congr 1; funext a; apply Fin.ext
  obtain ⟨-, -, -, e0, e1, -⟩ := blocks_at t
  match a with
  | ⟨0, _⟩ =>
    show win0_2.index t 0 * 4096 + 1 * r.val = R.val
    rw [e0]; omega
  | ⟨1, _⟩ =>
    show win0_2.index t 1 * 512 + 1 * k.val = C.val
    rw [e1]; omega

theorem blk3_apply (t : Fin cfg0.N) (r : Fin 4096) (k : Fin 128) (R : Fin 8192) (C : Fin 5120)
    (hR : R.val = t.val / 8 * 4096 + r.val) (hC : C.val = (32 + t.val % 8 / 2) * 128 + k.val) :
    blk3 m c t (ix2 r k) = X m c (ix2 R C) := by
  unfold blk3 iblk
  rw [View.read_apply]
  show V m c main_arg0 _ = _
  rw [V_main_arg0]
  congr 1; funext a; apply Fin.ext
  obtain ⟨-, -, -, -, -, e0, e1, -⟩ := blocks_at t
  match a with
  | ⟨0, _⟩ =>
    show win0_3.index t 0 * 4096 + 1 * r.val = R.val
    rw [e0]; omega
  | ⟨1, _⟩ =>
    show win0_3.index t 1 * 128 + 1 * k.val = C.val
    rw [e1]; omega

theorem blk4_apply (t : Fin cfg0.N) (r : Fin 4096) (k : Fin 128) (R : Fin 8192) (C : Fin 5120)
    (hR : R.val = t.val / 8 * 4096 + r.val) (hC : C.val = (36 + t.val % 8 / 2) * 128 + k.val) :
    blk4 m c t (ix2 r k) = X m c (ix2 R C) := by
  unfold blk4 iblk
  rw [View.read_apply]
  show V m c main_arg0 _ = _
  rw [V_main_arg0]
  congr 1; funext a; apply Fin.ext
  obtain ⟨-, -, -, -, -, -, -, e0, e1, -⟩ := blocks_at t
  match a with
  | ⟨0, _⟩ =>
    show win0_4.index t 0 * 4096 + 1 * r.val = R.val
    rw [e0]; omega
  | ⟨1, _⟩ =>
    show win0_4.index t 1 * 128 + 1 * k.val = C.val
    rw [e1]; omega

/-- The array's row behind a block's key row. -/
theorem keyAt_val (t : Fin cfg0.N) (r : Fin 4096) (R : Fin 8192) (hR : R.val = t.val / 8 * 4096 + r.val) (j : Fin 128) :
    (keyAt R j).val = t.val / 8 * 4096 + (keyRow r j).val := by
  have hr := r.isLt
  have e : (⟨R.val % 4096, by omega⟩ : Fin 4096) = r := Fin.ext (by show R.val % 4096 = r.val; omega)
  show 4096 * (R.val / 4096) + (keyRow ⟨R.val % 4096, by omega⟩ j).val = _
  rw [show (keyRow ⟨R.val % 4096, by omega⟩ j).val = (keyRow r j).val from congrArg (fun x => (keyRow x j).val) e]
  omega

/-- A point's scores are the specification's. -/
theorem logit_eq (t : Fin cfg0.N) (n : Fin 8) (hn : t.val % 8 = n.val) (r : Fin 4096) (g : Fin 8) (R : Fin 8192) (h : Fin 64)
    (hR : R.val = t.val / 8 * 4096 + r.val) (hh : h.val = 8 * n.val + g.val) :
    blockLogit n (blk0 m c t) (blk2 m c t) (blk3 m c t) r g = specLogit (X m c) R h := by
  have hr := r.isLt; have hg := g.isLt
  unfold blockLogit specLogit
  refine rowLogit_congr (Fin.ext ?_) ?_ (fun d => ?_) (fun j d => ?_) ?_
  · show r.val % 128 = R.val % 128; omega
  · constructor <;> intro e <;> omega
  · refine blk2_apply m c t _ _ _ _ hR ?_
    show 64 * h.val + d.val = t.val % 8 * 512 + (64 * g.val + d.val); omega
  · refine blk3_apply m c t _ _ _ _ (keyAt_val t r R hR j) ?_
    show 4096 + 64 * (h.val / 8) + d.val = (32 + t.val % 8 / 2) * 128 + (64 * (n.val % 2) + d.val); omega
  · refine (blk0_apply m c t _).trans (congrArg slope (Fin.ext hh.symm))

/-- The block a point leaves is the specification's. -/
theorem point_apply (hf : Finite (X m c) (SK m c)) (t : Fin cfg0.N) (r : Fin 4096) (k : Fin 512) (R : Fin 8192) (C : Fin 4096)
    (hR : R.val = t.val / 8 * 4096 + r.val) (hC : C.val = t.val % 8 * 512 + k.val) :
    (show FVec Ideal S4096x512 .bf16 from outsAt0 m c t) (ix2 r k) = spec (X m c) (SK m c) R C := by
  have hk := k.isLt
  have hr := r.isLt
  have hl : ∀ (r : Fin 4096) (R : Fin 8192) (g : Fin 8) (h : Fin 64), R.val = t.val / 8 * 4096 + r.val → h.val = 8 * (t.val % 8) + g.val →
      blockLogit ⟨t.val % 8, by omega⟩ (blk0 m c t) (blk2 m c t) (blk3 m c t) r g = specLogit (X m c) R h := fun r R g h e e' =>
    logit_eq m c t ⟨t.val % 8, by omega⟩ rfl r g R h e e'
  have hN : t.val < 16 := lt_of_lt_of_eq t.isLt (by decide +kernel : cfg0.N = 16)
  refine (out_apply c (grid0.coords t) (ms0_0 t) (hs0_0 t) (ms0_1 t) (hs0_1 t) (ms0_2 t) (hs0_2 t) (ms0_3 t) (hs0_3 t) (ms0_4 t) (hs0_4 t)
    (ms0_5 t) (hs0_5 t) (blk0 m c t) (blk1 m c t) (blk2 m c t) (blk3 m c t) (blk4 m c t) ⟨t.val % 8, by omega⟩ (blocks_at t).1
    (fun r' g => ?_) r k).trans ?_
  · have hr' := r'.isLt
    have hg := g.isLt
    rw [hl r' ⟨t.val / 8 * 4096 + r'.val, by omega⟩ g ⟨8 * (t.val % 8) + g.val, by omega⟩ rfl rfl, blk1_apply]
    exact spec_tame hf _ _
  · unfold blockOut spec
    have hh : (⟨8 * (t.val % 8) + k.val / 64, by omega⟩ : Fin 64) = ⟨C.val / 64, by omega⟩ := Fin.ext (by
      show 8 * (t.val % 8) + k.val / 64 = C.val / 64; omega)
    rw [hl r R ⟨k.val / 64, by omega⟩ ⟨C.val / 64, by omega⟩ hR (by show C.val / 64 = 8 * (t.val % 8) + k.val / 64; omega), blk1_apply]
    have hv : ∀ j, blk4 m c t (ix2 (keyRow r j) ⟨64 * (t.val % 8 % 2) + k.val % 64, by omega⟩)
        = X m c (ix2 (keyAt R j) ⟨4608 + 64 * (C.val / 64 / 8) + C.val % 64, by omega⟩) := fun j =>
      blk4_apply m c t _ _ _ _ (keyAt_val t r R hR j) (by
        show 4608 + 64 * (C.val / 64 / 8) + C.val % 64 = (36 + t.val % 8 / 2) * 128 + (64 * (t.val % 8 % 2) + k.val % 64)
        omega)
    exact (congrArg (fun h => Row.rowOut _ (SK m c (ix1 h)) _) hh).trans (congrArg (Row.rowOut _ _) (funext hv))

/-- THE ARRAY THE KERNEL LEAVES. -/
theorem result_eq (hf : Finite (X m c) (SK m c)) :
    (dats m 0 c).arrAt 5 cfg0.N = fun i : S8192x4096.Idx => spec (X m c) (SK m c) (i 0) (i 1) := by
  refine (dats m 0 c).arrAt_eq_of_covers 5 _ (by decide +kernel) fun t hfl y => ?_
  obtain ⟨e0, -, -, -, -, -, -, -, -, e5, e6⟩ := blocks_at t
  blk_simp
  rw [after0_5]
  change S4096x512.Idx at y
  rw [eq_ix2 y]
  refine point_apply m c hf t (y 0) (y 1) _ _ ?_ ?_
  · show win0_5.index t 0 * 4096 + 1 * (y 0).val = _
    rw [e5]; omega
  · show win0_5.index t 1 * 512 + 1 * (y 1).val = _
    rw [e6]; omega

end Cert.KernelIdeal.Swa

end
-- ==== Proof.SwaRefStages.lean ====
/-
  The attention reference's term in stages, each read at an index: the keys and values in 256-row bands, the scores, their
  softmax over the band and the sink, and the weighted sum.
-/
module

public import proofs.«01_k».proof.Proof.Gen.ReferenceIdeal.Run
public import Idealize.ShloMosaic.Lib.Pointwise

@[expose] public section

set_option maxRecDepth 16384

noncomputable section

namespace Cert.ReferenceIdeal.Swa

open Cert.ReferenceIdeal Cert.ReferenceIdeal.Gen Cert.ReferenceIdeal.Value Idealize.ShloMosaic Idealize.ShloMosaic.TcCoe

variable (X : FVec Ideal S8192x5120 .bf16) (sk : FVec Ideal S64 .f32)

/-- Batches of rows, widened. -/
def rows : FVec Ideal S2x4096x5120 .f32 := shapeCast _ (extf .f32 X bitsLt_bf16_f32) shapeCasts_S8192x5120_S2x4096x5120

/-- Queries by batch, row block, row, key-value head, head of the group, feature. -/
def query : FVec Ideal S2x32x128x8x8x64 .f32 :=
  shapeCast _ (extractStridedSlice S2x4096x4096 ![0, 0, 0] (rows X) slices_S2x4096x5120_S2x4096x4096_0_0_0) shapeCasts_S2x4096x4096_S2x32x128x8x8x64

def keys : FVec Ideal S2x32x128x8x64 .f32 :=
  shapeCast _ (extractStridedSlice S2x4096x512 ![0, 0, 4096] (rows X) slices_S2x4096x5120_S2x4096x512_0_0_4096) shapeCasts_S2x4096x512_S2x32x128x8x64

def vals : FVec Ideal S2x32x128x8x64 .f32 :=
  shapeCast _ (extractStridedSlice S2x4096x512 ![0, 0, 4608] (rows X) slices_S2x4096x5120_S2x4096x512_0_0_4608) shapeCasts_S2x4096x512_S2x32x128x8x64

/-- A row block's band: the block before it (zeros before the first), then the block. -/
def bandOf (x : FVec Ideal S2x32x128x8x64 .f32) : FVec Ideal S2x32x256x8x64 .f32 :=
  concatenate S2x32x256x8x64 2 [⟨S2x32x128x8x64, (extractStridedSlice S2x32x128x8x64 ![0, 0, 0, 0, 0]
      (pad S2x33x128x8x64 ![0, 1, 0, 0, 0] ![0, 0, 0, 0, 0] ![0, 0, 0, 0, 0] x (sitofp .f32 (constantI S_ 32 0#32))
        pads_S2x32x128x8x64_S2x33x128x8x64_000_100_000_000_000 h_S_) slices_S2x33x128x8x64_S2x32x128x8x64_0_0_0_0_0)⟩,
    ⟨S2x32x128x8x64, x⟩] concatenates_S2x32x128x8x64_S2x32x128x8x64_S2x32x256x8x64_d2

/-- How far back a band row lies. -/
def back : IVec S128x256 32 :=
  subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- Which band rows a query sees. -/
def seen : IVec S32x128x256 1 :=
  andi (broadcastInDim S32x128x256 ![0, 1, 2] bcast_S1x128x256_S32x128x256_0_1_2 (broadcastInDim S1x128x256 ![1, 2] bcast_S128x256_S1x128x256_1_2
      (andi (cmpi .sge back (broadcastInDim S128x256 ![] bcast_S_S128x256 (constantI S_ 32 0#32)))
        (cmpi .slt back (broadcastInDim S128x256 ![] bcast_S_S128x256 (constantI S_ 32 128#32))))))
    (broadcastInDim S32x128x256 ![0, 1, 2] bcast_S32x1x256_S32x128x256_0_1_2
      (cmpi .sge (subi (addi
          (broadcastInDim S32x1x256 ![0, 1, 2] bcast_S32x1x1_S32x1x256_0_1_2 (muli (broadcastInDim S32x1x1 ![0] bcast_S32_S32x1x1_0 (iotaInDim S32 32 0))
            (broadcastInDim S32x1x1 ![] bcast_S_S32x1x1 (constantI S_ 32 128#32))))
          (broadcastInDim S32x1x256 ![0, 1, 2] bcast_S1x1x256_S32x1x256_0_1_2 (broadcastInDim S1x1x256 ![1, 2] bcast_S1x256_S1x1x256_1_2
            (broadcastInDim S1x256 ![1] bcast_S256_S1x256_1 (iotaInDim S256 32 0)))))
          (broadcastInDim S32x1x256 ![] bcast_S_S32x1x256 (constantI S_ 32 128#32)))
        (broadcastInDim S32x1x256 ![] bcast_S_S32x1x256 (constantI S_ 32 0#32))))

/-- The distance penalty. -/
def bias : FVec Ideal S8x8x128x256 .f32 :=
  mulf (broadcastInDim S8x8x128x256 ![0, 1, 2, 3] bcast_S8x8x1x1_S8x8x128x256_0_1_2_3 (Host.negf (broadcastInDim S8x8x1x1 ![0, 1] bcast_S8x8_S8x8x1x1_0_1
      (shapeCast _ (fun i => FloatOps.ofBits (F := Ideal) .f32 (lit0 (S64.rowMajor i)) : FVec Ideal S64 .f32) shapeCasts_S64_S8x8))))
    (broadcastInDim S8x8x128x256 ![0, 1, 2, 3] bcast_S1x1x128x256_S8x8x128x256_0_1_2_3
      (broadcastInDim S1x1x128x256 ![2, 3] bcast_S128x256_S1x1x128x256_2_3 (sitofp .f32 back)))

/-- Scaled products of a band and the queries, less the penalty, masked. -/
def scores (kb : FVec Ideal S2x32x256x8x64 .f32) (q : FVec Ideal S2x32x128x8x8x64 .f32) (b : FVec Ideal S8x8x128x256 .f32)
    (s : IVec S32x128x256 1) : FVec Ideal S2x32x8x8x128x256 .f32 :=
  select (broadcastInDim S2x32x8x8x128x256 ![0, 1, 2, 3, 4, 5] bcast_S1x32x1x1x128x256_S2x32x8x8x128x256_0_1_2_3_4_5
      (broadcastInDim S1x32x1x1x128x256 ![1, 4, 5] bcast_S32x128x256_S1x32x1x1x128x256_1_4_5 s))
    (addf (mulf (transpose S2x32x8x8x128x256 [0, 1, 2, 5, 4, 3] (Host.dotGeneral dot_S2x32x256x8x64_S2x32x128x8x8x64_S2x32x8x256x128x8_4_5_2_24_013_013 none kb q)
          transposes_S2x32x8x256x128x8_S2x32x8x8x128x256_0_1_2_5_4_3)
        (broadcastInDim S2x32x8x8x128x256 ![] bcast_S_S2x32x8x8x128x256 (constant S_ .f32 0x3E000000#32)))
      (broadcastInDim S2x32x8x8x128x256 ![0, 1, 2, 3, 4, 5] bcast_S1x1x8x8x128x256_S2x32x8x8x128x256_0_1_2_3_4_5
        (broadcastInDim S1x1x8x8x128x256 ![2, 3, 4, 5] bcast_S8x8x128x256_S1x1x8x8x128x256_2_3_4_5 b)))
    (broadcastInDim S2x32x8x8x128x256 ![] bcast_S_S2x32x8x8x128x256 (constant S_ .f32 0xFF800000#32))

/-- The scores with the sink behind. -/
def withSink (s : FVec Ideal S2x32x8x8x128x256 .f32) : FVec Ideal S2x32x8x8x128x257 .f32 :=
  concatenate S2x32x8x8x128x257 5 [⟨S2x32x8x8x128x256, s⟩, ⟨S2x32x8x8x128x1,
    broadcastInDim S2x32x8x8x128x1 ![0, 1, 2, 3, 4, 5] bcast_S1x1x8x8x1x1_S2x32x8x8x128x1_0_1_2_3_4_5
      (broadcastInDim S1x1x8x8x1x1 ![2, 3] bcast_S8x8_S1x1x8x8x1x1_2_3 (shapeCast _ sk shapeCasts_S64_S8x8))⟩]
    concatenates_S2x32x8x8x128x256_S2x32x8x8x128x1_S2x32x8x8x128x257_d5

/-- A row's greatest score. -/
def maxOf (s : FVec Ideal S2x32x8x8x128x257 .f32) : FVec Ideal S2x32x8x8x128 .f32 :=
  Host.reduce FloatOps.maximumf s (constant S_ .f32 0xFF800000#32) reducesTo_S2x32x8x8x128x257_S2x32x8x8x128_d5 h_S_

/-- A row's exponentials, over the greatest score. -/
def expsOf (s : FVec Ideal S2x32x8x8x128x257 .f32) (M : FVec Ideal S2x32x8x8x128 .f32) : FVec Ideal S2x32x8x8x128x257 .f32 :=
  Host.exp (subf s (broadcastInDim S2x32x8x8x128x257 ![0, 1, 2, 3, 4, 5] bcast_S2x32x8x8x128x1_S2x32x8x8x128x257_0_1_2_3_4_5
    (broadcastInDim S2x32x8x8x128x1 ![0, 1, 2, 3, 4] bcast_S2x32x8x8x128_S2x32x8x8x128x1_0_1_2_3_4
      (maximumf (broadcastInDim S2x32x8x8x128 ![] bcast_S_S2x32x8x8x128 (constant S_ .f32 0xFF800000#32)) M))))

/-- A row's sum of exponentials. -/
def sumOf (e : FVec Ideal S2x32x8x8x128x257 .f32) : FVec Ideal S2x32x8x8x128 .f32 :=
  Host.reduceAdd e (constant S_ .f32 0x00000000#32) reducesTo_S2x32x8x8x128x257_S2x32x8x8x128_d5 h_S_

/-- A row's weights on its band. -/
def weightsOf (e : FVec Ideal S2x32x8x8x128x257 .f32) (D : FVec Ideal S2x32x8x8x128 .f32) : FVec Ideal S2x32x8x8x128x256 .f32 :=
  extractStridedSlice S2x32x8x8x128x256 ![0, 0, 0, 0, 0, 0]
    (Host.divf e (broadcastInDim S2x32x8x8x128x257 ![0, 1, 2, 3, 4, 5] bcast_S2x32x8x8x128x1_S2x32x8x8x128x257_0_1_2_3_4_5
      (broadcastInDim S2x32x8x8x128x1 ![0, 1, 2, 3, 4] bcast_S2x32x8x8x128_S2x32x8x8x128x1_0_1_2_3_4 D)))
    slices_S2x32x8x8x128x257_S2x32x8x8x128x256_0_0_0_0_0_0

/-- The softmax of a row of scores and sink, on the band. -/
def softOf (s : FVec Ideal S2x32x8x8x128x257 .f32) : FVec Ideal S2x32x8x8x128x256 .f32 :=
  weightsOf (expsOf s (maxOf s)) (sumOf (expsOf s (maxOf s)))

/-- The weighted band, rows in launch order. -/
def outOf (vb : FVec Ideal S2x32x256x8x64 .f32) (w : FVec Ideal S2x32x8x8x128x256 .f32) : FVec Ideal S8192x4096 .bf16 :=
  truncf .bf16 (shapeCast _ (transpose S2x32x128x8x8x64 [0, 1, 5, 2, 4, 3]
    (Host.dotGeneral dot_S2x32x256x8x64_S2x32x8x8x128x256_S2x32x8x64x8x128_2_5_4_34_013_012 none vb w) transposes_S2x32x8x64x8x128_S2x32x128x8x8x64_0_1_5_2_4_3)
    shapeCasts_S2x32x128x8x8x64_S8192x4096) bitsLt_bf16_f32

theorem res_eq (m : (ℓ : Loc nD τ sig) → Buf (Elt Ideal) ℓ) (c : Dev nD) :
    res_main_v80 m c = outOf (bandOf (vals (m ((c.tc : Thread nD τ).loc main_arg0))))
      (softOf (withSink (m ((c.tc : Thread nD τ).loc main_arg1))
        (scores (bandOf (keys (m ((c.tc : Thread nD τ).loc main_arg0)))) (query (m ((c.tc : Thread nD τ).loc main_arg0))) bias seen))) := by
  rfl

end Cert.ReferenceIdeal.Swa

end
-- ==== Proof.SwaRefRead.lean ====
/-
  The attention reference's stages at an index.
-/
module

public import proofs.«01_k».proof.Proof.SwaRefStages
public import Idealize.ShloMosaic.Lib.KernelVsHost

@[expose] public section

set_option maxRecDepth 16384

noncomputable section

namespace Cert.ReferenceIdeal.Swa

open Cert.ReferenceIdeal Cert.ReferenceIdeal.Gen Cert.ReferenceIdeal.Value Idealize.ShloMosaic Idealize.ShloMosaic.TcCoe

variable (X : FVec Ideal S8192x5120 .bf16) (sk : FVec Ideal S64 .f32)
variable (B : Fin 2) (N : Fin 32) (r : Fin 128) (n g : Fin 8)

theorem query_apply (d : Fin 64) : query X (ix6 B N r n g d) = X (ix2 ⟨4096 * B.val + 128 * N.val + r.val, by omega⟩ ⟨512 * n.val + 64 * g.val + d.val, by omega⟩) := by
  unfold query rows
  simp only [pointwise]
  refine congrArg X (congrArg₂ ix2 (Fin.ext ?_) (Fin.ext ?_))
  · show (0 + B.val) * 4096 + (0 + (N.val * 128 + r.val)) = 4096 * B.val + 128 * N.val + r.val
    omega
  · show 0 + (n.val * 512 + g.val * 64 + d.val) = 512 * n.val + 64 * g.val + d.val
    omega

theorem keys_apply (d : Fin 64) : keys X (ix5 B N r n d) = X (ix2 ⟨4096 * B.val + 128 * N.val + r.val, by omega⟩ ⟨4096 + 64 * n.val + d.val, by omega⟩) := by
  unfold keys rows
  simp only [pointwise]
  refine congrArg X (congrArg₂ ix2 (Fin.ext ?_) (Fin.ext ?_))
  · show (0 + B.val) * 4096 + (0 + (N.val * 128 + r.val)) = 4096 * B.val + 128 * N.val + r.val
    omega
  · show 4096 + (n.val * 64 + d.val) = 4096 + 64 * n.val + d.val
    omega

theorem vals_apply (d : Fin 64) : vals X (ix5 B N r n d) = X (ix2 ⟨4096 * B.val + 128 * N.val + r.val, by omega⟩ ⟨4608 + 64 * n.val + d.val, by omega⟩) := by
  unfold vals rows
  simp only [pointwise]
  refine congrArg X (congrArg₂ ix2 (Fin.ext ?_) (Fin.ext ?_))
  · show (0 + B.val) * 4096 + (0 + (N.val * 128 + r.val)) = 4096 * B.val + 128 * N.val + r.val
    omega
  · show 4608 + (n.val * 64 + d.val) = 4608 + 64 * n.val + d.val
    omega

/-- A band's rows, past the first block. -/
theorem band_low (x : FVec Ideal S2x32x128x8x64 .f32) (hN : 0 < N.val) (j : Fin 128) (d : Fin 64) :
    bandOf x (ix5 B N ⟨j.val, by omega⟩ n d) = x (ix5 B ⟨N.val - 1, by omega⟩ j n d) := by
  unfold bandOf
  refine (concatenate_pair_apply_left (t := S2x32x256x8x64) (s₁ := S2x32x128x8x64) (s₂ := S2x32x128x8x64) (2 : Fin 5) _ x _ (ix5 B N ⟨j.val, by omega⟩ n d)
    rfl (ix5 B N j n d) ?_).trans ?_
  · intro a
    match a with
    | ⟨0, _⟩ => rfl
    | ⟨1, _⟩ => rfl
    | ⟨2, _⟩ => rfl
    | ⟨3, _⟩ => rfl
    | ⟨4, _⟩ => rfl
  · refine pad_apply_of_inside _ _ _ x _ _ _ _ _ fun a => ?_
    match a with
    | ⟨0, _⟩ => show 0 + B.val = 0 + B.val * 1; omega
    | ⟨1, _⟩ => show 0 + N.val = 1 + (N.val - 1) * 1; omega
    | ⟨2, _⟩ => show 0 + j.val = 0 + j.val * 1; omega
    | ⟨3, _⟩ => show 0 + n.val = 0 + n.val * 1; omega
    | ⟨4, _⟩ => show 0 + d.val = 0 + d.val * 1; omega

theorem band_high (x : FVec Ideal S2x32x128x8x64 .f32) (j : Fin 128) (d : Fin 64) :
    bandOf x (ix5 B N ⟨128 + j.val, by omega⟩ n d) = x (ix5 B N j n d) := by
  unfold bandOf
  refine concatenate_pair_apply_right (t := S2x32x256x8x64) (s₁ := S2x32x128x8x64) (s₂ := S2x32x128x8x64) (2 : Fin 5) _ x _ (ix5 B N ⟨128 + j.val, by omega⟩ n d)
    rfl rfl (ix5 B N j n d) ?_ ?_
  · intro a ha
    match a, ha with
    | ⟨0, _⟩, _ => rfl
    | ⟨1, _⟩, _ => rfl
    | ⟨2, _⟩, h => exact absurd rfl h
    | ⟨3, _⟩, _ => rfl
    | ⟨4, _⟩, _ => rfl
  · show j.val + 128 = 128 + j.val
    omega

theorem scores_apply (kb : FVec Ideal S2x32x256x8x64 .f32) (q : FVec Ideal S2x32x128x8x8x64 .f32) (b : FVec Ideal S8x8x128x256 .f32)
    (s : IVec S32x128x256 1) (κ : Fin 256) : scores kb q b s (ix6 B N n g r κ)
    = Scalar.select (s (ix3 N r κ)) ((0 + ∑ k, kb (ix5 B N κ n k) * q (ix6 B N r n g k)) * Ideal.ofBits .f32 0x3E000000#32 + b (ix4 n g r κ)) ⊥ := by
  unfold scores
  simp only [pointwise]
  rw [show Ideal.ofBits .f32 0xFF800000#32 = ⊥ by simp [Ideal.ofBits, Ideal.ieee]]
  rfl

theorem sink_apply (s : FVec Ideal S2x32x8x8x128x256 .f32) (κ : Fin 257) : withSink sk s (ix6 B N n g r κ)
    = if h : κ.val < 256 then s (ix6 B N n g r ⟨κ.val, h⟩) else sk (ix1 ⟨8 * n.val + g.val, by omega⟩) := by
  unfold withSink
  simp only [pointwise]
  by_cases h : κ.val < 256
  · rw [dif_pos h, dif_pos h]
  · rw [dif_neg h, dif_neg h]
    refine congrArg sk (congrArg ix1 (Fin.ext ?_))
    show n.val * 8 + g.val = 8 * n.val + g.val
    omega

theorem lift6 (h : S2x32x8x8x128x257.Reduces [5] S2x32x8x8x128) (κ : Fin 257) : h.lift (ix5 B N n g r) κ = ix6 B N n g r κ := by
  funext a
  apply Fin.ext
  match a with
  | ⟨0, _⟩ => rfl
  | ⟨1, _⟩ => rfl
  | ⟨2, _⟩ => rfl
  | ⟨3, _⟩ => rfl
  | ⟨4, _⟩ => rfl
  | ⟨5, _⟩ => rfl

theorem max_apply (s : FVec Ideal S2x32x8x8x128x257 .f32) :
    maxOf s (ix5 B N n g r) = Finset.univ.fold max ⊥ fun κ : Fin 257 => s (ix6 B N n g r κ) := by
  have h : S2x32x8x8x128x257.Reduces [5] S2x32x8x8x128 := by decide
  unfold maxOf
  rw [Host.reduce_eq_fold, Shape.ReducesTo.drop_eq_drop _ h]
  refine (h.fold_filter_drop_single _ _ s _).trans ?_
  show Finset.univ.fold max (Ideal.ofBits .f32 0xFF800000#32) (s ∘ h.lift (ix5 B N n g r)) = _
  rw [show Ideal.ofBits .f32 0xFF800000#32 = ⊥ by simp [Ideal.ofBits, Ideal.ieee]]
  exact congrArg (Finset.univ.fold max ⊥) (funext fun κ => congrArg s (lift6 B N r n g h κ))

theorem sum_apply (e : FVec Ideal S2x32x8x8x128x257 .f32) :
    sumOf e (ix5 B N n g r) = 0 + ∑ κ : Fin 257, e (ix6 B N n g r κ) := by
  have h : S2x32x8x8x128x257.Reduces [5] S2x32x8x8x128 := by decide
  unfold sumOf
  rw [ValueIdx.hostReduceAdd_apply, Ideal.hostReduceAdd_single _ h]
  refine congrArg₂ (fun a b : EReal => a + b) ?_ (Finset.sum_congr rfl fun κ _ => congrArg e (lift6 B N r n g h κ))
  show Ideal.ofBits .f32 0x00000000#32 = 0
  simp [Ideal.ofBits, Ideal.ieee]

theorem exps_apply (s : FVec Ideal S2x32x8x8x128x257 .f32) (M : FVec Ideal S2x32x8x8x128 .f32) (κ : Fin 257) :
    expsOf s M (ix6 B N n g r κ) = Ideal.exp (s (ix6 B N n g r κ) - max ⊥ (M (ix5 B N n g r))) := by
  unfold expsOf
  simp only [pointwise]
  rw [show Ideal.ofBits .f32 0xFF800000#32 = ⊥ by simp [Ideal.ofBits, Ideal.ieee]]
  rfl

theorem weights_apply (s : FVec Ideal S2x32x8x8x128x257 .f32) (D : FVec Ideal S2x32x8x8x128 .f32) (κ : Fin 256) :
    weightsOf s D (ix6 B N n g r κ) = Ideal.div (s (ix6 B N n g r ⟨κ.val, by omega⟩)) (D (ix5 B N n g r)) := by
  unfold weightsOf
  simp only [pointwise]
  refine congrArg₂ Ideal.div (congrArg s (congr (congr (congr (congr (congr (congrArg ix6 (Fin.ext (Nat.zero_add _))) (Fin.ext (Nat.zero_add _)))
    (Fin.ext (Nat.zero_add _))) (Fin.ext (Nat.zero_add _))) (Fin.ext (Nat.zero_add _))) (Fin.ext (Nat.zero_add _))))
    (congrArg D (congr (congr (congr (congr (congrArg ix5 (Fin.ext (Nat.zero_add _))) (Fin.ext (Nat.zero_add _)))
    (Fin.ext (Nat.zero_add _))) (Fin.ext (Nat.zero_add _))) (Fin.ext (Nat.zero_add _))))

theorem out_apply (vb : FVec Ideal S2x32x256x8x64 .f32) (w : FVec Ideal S2x32x8x8x128x256 .f32) (R : Fin 8192) (C : Fin 4096) :
    outOf vb w (ix2 R C) = 0 + ∑ κ : Fin 256,
      vb (ix5 ⟨R.val / 4096, by omega⟩ ⟨R.val / 128 % 32, by omega⟩ κ ⟨C.val / 512, by omega⟩ ⟨C.val % 64, by omega⟩)
      * w (ix6 ⟨R.val / 4096, by omega⟩ ⟨R.val / 128 % 32, by omega⟩ ⟨C.val / 512, by omega⟩ ⟨C.val / 64 % 8, by omega⟩ ⟨R.val % 128, by omega⟩ κ) := by
  unfold outOf
  simp only [pointwise]

theorem back_apply (κ : Fin 256) : back (ix2 r κ) = BitVec.ofInt 32 (r.val + 128 - κ.val) := by
  unfold back
  simp only [pointwise]
  show BitVec.ofNat 32 r.val + 128#32 - BitVec.ofNat 32 κ.val = _
  have hr := r.isLt
  have hκ := κ.isLt
  refine BitVec.eq_of_toNat_eq ?_
  rw [BitVec.toNat_sub, BitVec.toNat_add, BitVec.toNat_ofNat, BitVec.toNat_ofNat, BitVec.toNat_ofNat, BitVec.toNat_ofInt]
  omega

theorem back_toInt (κ : Fin 256) : (back (ix2 r κ)).toInt = r.val + 128 - κ.val := by
  rw [back_apply, BitVec.toInt_ofInt]
  have hr := r.isLt
  have hκ := κ.isLt
  exact Int.bmod_eq_of_le (by omega) (by omega)

theorem bias_apply (κ : Fin 256) : bias (ix4 n g r κ)
    = -Ideal.ofBits .f32 (lit0 ⟨8 * n.val + g.val, by omega⟩) * (((r.val + 128 - κ.val : ℤ) : ℝ) : EReal) := by
  unfold bias
  simp only [pointwise]
  show -Ideal.ofBits .f32 (lit0 (S64.rowMajor (ix1 ⟨n.val * 8 + g.val, _⟩))) * (((back (ix2 r κ)).toInt : ℝ) : EReal) = _
  rw [back_toInt]
  refine congrArg (fun z => -Ideal.ofBits .f32 (lit0 z) * _) (Fin.ext ?_)
  refine ((by decide +kernel : ∀ h : Fin 64, (S64.rowMajor (ix1 h)).val = h.val) _).trans ?_
  show n.val * 8 + g.val = 8 * n.val + g.val
  omega

theorem seen_apply (κ : Fin 256) : seen (ix3 N r κ)
    = IntOp.andi (if r.val < κ.val ∧ κ.val ≤ r.val + 128 then 1#1 else 0#1) (if 128 ≤ 128 * N.val + κ.val then 1#1 else 0#1) := by
  unfold seen
  simp only [pointwise]
  show IntOp.andi (IntOp.andi (IntOp.cmpi CmpIPredicate.sge (back (ix2 r κ)) 0#32) (IntOp.cmpi CmpIPredicate.slt (back (ix2 r κ)) 128#32))
    (IntOp.cmpi CmpIPredicate.sge (IntOp.subi (IntOp.addi (IntOp.muli (BitVec.ofNat 32 N.val) 128#32) (BitVec.ofNat 32 κ.val)) 128#32) 0#32) = _
  rw [back_apply]
  have hr := r.isLt
  have hκ := κ.isLt
  have hN := N.isLt
  refine congrArg₂ IntOp.andi ?_ ?_
  · have hz : ∃ z : Fin 384, (z.val : ℤ) - 128 = r.val + 128 - κ.val := ⟨⟨r.val + 256 - κ.val, by omega⟩, by
      show ((r.val + 256 - κ.val : ℕ) : ℤ) - 128 = _; omega⟩
    obtain ⟨z, hz⟩ := hz
    rw [← hz, (by decide +kernel : ∀ z : Fin 384, IntOp.andi (IntOp.cmpi CmpIPredicate.sge (BitVec.ofInt 32 (z.val - 128)) 0#32)
      (IntOp.cmpi CmpIPredicate.slt (BitVec.ofInt 32 (z.val - 128)) 128#32) = if 128 ≤ z.val ∧ z.val < 256 then 1#1 else 0#1) z]
    have e : (128 ≤ z.val ∧ z.val < 256) ↔ (r.val < κ.val ∧ κ.val ≤ r.val + 128) := by omega
    simp only [e]
  · have hw : BitVec.ofNat 32 N.val * 128#32 + BitVec.ofNat 32 κ.val = BitVec.ofNat 32 (128 * N.val + κ.val) := by
      refine BitVec.eq_of_toNat_eq ?_
      rw [BitVec.toNat_add, BitVec.toNat_mul, BitVec.toNat_ofNat, BitVec.toNat_ofNat, BitVec.toNat_ofNat, BitVec.toNat_ofNat]
      omega
    show IntOp.cmpi CmpIPredicate.sge (BitVec.ofNat 32 N.val * 128#32 + BitVec.ofNat 32 κ.val - 128#32) 0#32 = _
    rw [hw]
    exact (by decide +kernel : ∀ w : Fin 4224, IntOp.cmpi CmpIPredicate.sge (BitVec.ofNat 32 w.val - 128#32) 0#32 = if 128 ≤ w.val then 1#1 else 0#1)
      ⟨128 * N.val + κ.val, by omega⟩

end Cert.ReferenceIdeal.Swa

end
-- ==== Proof.SwaRef.lean ====
/-
  The attention reference's result is the specification: a query's row over its 256-row band, half of it outside the
  window, is the row over the 128 rows the window keeps.
-/
module

public import proofs.«01_k».proof.Proof.SwaRefRead
public import proofs.«01_k».proof.Proof.SwaSpec

@[expose] public section

set_option maxRecDepth 16384

noncomputable section

namespace Cert.ReferenceIdeal.Swa

open Cert.ReferenceIdeal Cert.ReferenceIdeal.Gen Cert.ReferenceIdeal.Value Idealize.ShloMosaic Idealize.ShloMosaic.TcCoe
open Cert.KernelIdeal.Swa (specLogit spec slope keyAt keyRow rowLogit Finite spec_tame dist)

variable (X : FVec Ideal S8192x5120 .bf16) (sk : FVec Ideal S64 .f32)

/-- The scores the reference takes the softmax of. -/
abbrev allScores : FVec Ideal S2x32x8x8x128x256 .f32 := scores (bandOf (keys X)) (query X) bias seen

variable (B : Fin 2) (N : Fin 32) (r : Fin 128) (n g : Fin 8) (R : Fin 8192) (h : Fin 64)
variable (hR : R.val = 4096 * B.val + 128 * N.val + r.val) (hh : h.val = 8 * n.val + g.val)

include hR in
theorem key_far (j : Fin 128) (hj : r.val < j.val) (hN : 0 < N.val) :
    (keyAt R j).val = 4096 * B.val + 128 * (N.val - 1) + j.val := by
  have hr := r.isLt
  have hN' := N.isLt
  unfold keyAt keyRow
  dsimp only
  rw [if_pos (by omega)]
  show 4096 * (R.val / 4096) + (128 * (R.val % 4096 / 128 - 1) + j.val) = _
  omega

include hR in
theorem key_near (j : Fin 128) (hj : ¬ r.val < j.val) : (keyAt R j).val = 4096 * B.val + 128 * N.val + j.val := by
  have hr := r.isLt
  have hN' := N.isLt
  unfold keyAt keyRow
  dsimp only
  rw [if_neg (by omega)]
  show 4096 * (R.val / 4096) + (128 * (R.val % 4096 / 128) + j.val) = _
  omega

/-- Two ways to write a score. -/
theorem score_eq (q k q' k' : Fin 64 → EReal) (c s s' : EReal) (δ δ' : ℤ) (hq : ∀ d, q d = q' d) (hk : ∀ d, k d = k' d) (hs : s = s') (hδ : δ = δ') :
    (0 + ∑ d, k d * q d) * c + -s * ((δ : ℝ) : EReal) = (∑ d, q' d * k' d) * c - s' * ((δ' : ℝ) : EReal) := by
  subst hs hδ
  rw [zero_add, EReal.neg_mul, sub_eq_add_neg]
  refine congrArg (fun z : EReal => z * c + _) (Finset.sum_congr rfl fun d _ => ?_)
  rw [hq, hk, mul_comm]

theorem slope_eq (i : Fin 64) (e : i.val = h.val) : Ideal.ofBits .f32 (Cert.ReferenceIdeal.lit0 i) = slope h := by
  obtain rfl : i = h := Fin.ext e
  rfl

include hR hh in
theorem low_scores (j : Fin 128) :
    allScores X (ix6 B N n g r ⟨j.val, by omega⟩) = if r < j then specLogit X R h j else ⊥ := by
  have hr := r.isLt
  have hj := j.isLt
  have hN' := N.isLt
  have hg := g.isLt
  rw [allScores, scores_apply, seen_apply]
  by_cases hf : r < j
  · rw [if_pos hf, if_pos (by show r.val < j.val ∧ j.val ≤ r.val + 128; exact ⟨hf, by omega⟩)]
    unfold specLogit rowLogit
    have e0 : (⟨R.val % 128, by omega⟩ : Fin 128) = r := Fin.ext (by show R.val % 128 = r.val; omega)
    by_cases hN : 0 < N.val
    · rw [if_pos (by show 128 ≤ 128 * N.val + j.val; omega), if_neg (fun hc => by have := hc.2; omega),
        show IntOp.andi (1#1) 1#1 = 1#1 from by decide, ValueIdx.select_one, bias_apply]
      refine score_eq _ _ _ _ _ _ _ _ _ (fun d => ?_) (fun d => ?_) (slope_eq h _ hh.symm) ?_
      · rw [query_apply]
        refine congrArg X (congrArg₂ ix2 (Fin.ext hR.symm) (Fin.ext ?_))
        show 512 * n.val + 64 * g.val + d.val = 64 * h.val + d.val
        omega
      · rw [band_low B N n _ hN, keys_apply]
        refine congrArg X (congrArg₂ ix2 (Fin.ext ((key_far B N r R hR j hf hN).symm)) (Fin.ext ?_))
        show 4096 + 64 * n.val + d.val = 4096 + 64 * (h.val / 8) + d.val
        omega
      · rw [e0]; unfold Cert.KernelIdeal.Swa.dist; rw [if_pos hf]
    · rw [if_neg (by show ¬ 128 ≤ 128 * N.val + j.val; omega), if_pos (by rw [e0]; exact ⟨hf, by omega⟩),
        show IntOp.andi (1#1) 0#1 = 0#1 from by decide, ValueIdx.select_zero]
  · rw [if_neg hf, if_neg (by show ¬ (r.val < j.val ∧ j.val ≤ r.val + 128); exact fun hc => hf hc.1),
      show ∀ x, IntOp.andi (0#1) x = 0#1 from by decide, ValueIdx.select_zero]

include hR hh in
theorem high_scores (j : Fin 128) :
    allScores X (ix6 B N n g r ⟨128 + j.val, by omega⟩) = if r < j then ⊥ else specLogit X R h j := by
  have hr := r.isLt
  have hj := j.isLt
  have hN' := N.isLt
  have hg := g.isLt
  rw [allScores, scores_apply, seen_apply]
  by_cases hf : r < j
  · rw [if_pos hf, if_neg (by
        show ¬ (r.val < 128 + j.val ∧ 128 + j.val ≤ r.val + 128)
        have : r.val < j.val := hf
        omega),
      show ∀ x, IntOp.andi (0#1) x = 0#1 from by decide, ValueIdx.select_zero]
  · have hf' : ¬ r.val < j.val := hf
    rw [if_neg hf, if_pos (by show r.val < 128 + j.val ∧ 128 + j.val ≤ r.val + 128; omega),
      if_pos (by show 128 ≤ 128 * N.val + (128 + j.val); omega), show IntOp.andi (1#1) 1#1 = 1#1 from by decide, ValueIdx.select_one, bias_apply]
    unfold specLogit rowLogit
    have e0 : (⟨R.val % 128, by omega⟩ : Fin 128) = r := Fin.ext (by show R.val % 128 = r.val; omega)
    rw [if_neg (by rw [e0]; exact fun hc => hf hc.1)]
    refine score_eq _ _ _ _ _ _ _ _ _ (fun d => ?_) (fun d => ?_) (slope_eq h _ hh.symm) ?_
    · rw [query_apply]
      refine congrArg X (congrArg₂ ix2 (Fin.ext hR.symm) (Fin.ext ?_))
      show 512 * n.val + 64 * g.val + d.val = 64 * h.val + d.val
      omega
    · rw [band_high B N n, keys_apply]
      refine congrArg X (congrArg₂ ix2 (Fin.ext ((key_near B N r R hR j hf').symm)) (Fin.ext ?_))
      show 4096 + 64 * n.val + d.val = 4096 + 64 * (h.val / 8) + d.val
      omega
    · rw [e0]; unfold Cert.KernelIdeal.Swa.dist; rw [if_neg hf]
      show (r.val : ℤ) + 128 - ((128 + j.val : ℕ) : ℤ) = _
      omega

/-- THE REFERENCE'S RESULT. -/
theorem result_eq (hf : Finite X sk) (R : Fin 8192) (C : Fin 4096) :
    outOf (bandOf (vals X)) (softOf (withSink sk (allScores X))) (ix2 R C) = spec X sk R C := by
  rw [out_apply, zero_add]
  unfold spec
  have hC := C.isLt
  have hR := R.isLt
  have hRe : R.val = 4096 * (R.val / 4096) + 128 * (R.val / 128 % 32) + R.val % 128 := by omega
  have hhe : C.val / 64 = 8 * (C.val / 512) + C.val / 64 % 8 := by omega
  rw [← Row.row_full (spec_tame hf R ⟨C.val / 64, by omega⟩) (fun j => X (ix2 (keyAt R j) ⟨4608 + 64 * (C.val / 64 / 8) + C.val % 64, by omega⟩))
    (fun j => (⟨R.val % 128, by omega⟩ : Fin 128) < j)
    (fun κ => withSink sk (allScores X) (ix6 ⟨R.val / 4096, by omega⟩ ⟨R.val / 128 % 32, by omega⟩ ⟨C.val / 512, by omega⟩ ⟨C.val / 64 % 8, by omega⟩ ⟨R.val % 128, by omega⟩ κ))
    (fun κ => bandOf (vals X) (ix5 ⟨R.val / 4096, by omega⟩ ⟨R.val / 128 % 32, by omega⟩ κ ⟨C.val / 512, by omega⟩ ⟨C.val % 64, by omega⟩))
    (fun j => by
      have hj := j.isLt
      rw [sink_apply, dif_pos (by show j.val < 256; omega)]
      exact low_scores X _ _ _ _ _ R ⟨C.val / 64, by omega⟩ hRe hhe j)
    (fun j => by
      have hj := j.isLt
      rw [sink_apply, dif_pos (by show 128 + j.val < 256; omega)]
      exact high_scores X _ _ _ _ _ R ⟨C.val / 64, by omega⟩ hRe hhe j)
    (by
      rw [sink_apply, dif_neg (by decide)]
      exact congrArg sk (congrArg ix1 (Fin.ext hhe.symm)))
    (fun j hs => by
      by_cases hfar : (⟨R.val % 128, by omega⟩ : Fin 128) < j
      · have hN : 0 < R.val / 128 % 32 := by
          by_contra hc
          refine hs ?_
          unfold specLogit rowLogit
          rw [if_pos ⟨hfar, by omega⟩]
        rw [if_pos hfar, band_low _ _ _ _ hN, vals_apply]
        refine congrArg X (congrArg₂ ix2 (Fin.ext (key_far _ _ _ R hRe j hfar hN)) (Fin.ext ?_))
        show 4608 + 64 * (C.val / 64 / 8) + C.val % 64 = 4608 + 64 * (C.val / 512) + C.val % 64
        omega
      · rw [if_neg hfar, band_high, vals_apply]
        refine congrArg X (congrArg₂ ix2 (Fin.ext (key_near _ _ _ R hRe j hfar)) (Fin.ext ?_))
        show 4608 + 64 * (C.val / 64 / 8) + C.val % 64 = 4608 + 64 * (C.val / 512) + C.val % 64
        omega)
    _ _ rfl rfl]
  refine Finset.sum_congr rfl fun κ _ => ?_
  unfold softOf
  rw [weights_apply, sum_apply, exps_apply, max_apply]
  simp only [exps_apply, max_apply]

end Cert.ReferenceIdeal.Swa

end
-- ==== Proof.SwaClaims.lean ====
/-
  The sliding-window attention's claims: what the precondition says of the queries, keys, values and sinks, and
  the pair that, from memories that satisfy it and agree on the arguments, leaves the same array.
-/
module

public import proofs.«01_k».proof.Defs
public import proofs.«01_k».proof.Proof.Gen.Pre_tame
public import proofs.«01_k».proof.Proof.SwaValue
public import proofs.«01_k».proof.Proof.SwaRef

@[expose] public section

set_option maxRecDepth 16384

noncomputable section

namespace Cert.Proof

open Idealize.ShloMosaic Idealize.ShloMosaic.TcCoe Idealize.SL.Sem
open Cert.KernelIdeal.Swa (IsReal Finite)

theorem bits_top : Ideal.ofBits .f32 0x7F800000#32 = ⊤ := by simp [Ideal.ofBits, Ideal.ieee]

/-- A value under infinity compares so only when it is not infinity. -/
theorem ne_top_of_cmp {x : EReal} (h : Ideal.cmp .olt x (Ideal.ofBits .f32 0x7F800000#32) = 1#1) : x ≠ ⊤ := by
  rintro rfl
  rw [bits_top] at h
  simp [Ideal.cmp] at h

/-- A value whose magnitude is under infinity is a real number. -/
theorem real_of_cmp {x : EReal} (h : Ideal.cmp .olt (max x (-x)) (Ideal.ofBits .f32 0x7F800000#32) = 1#1) :
    IsReal x := by
  have hn := ne_top_of_cmp h
  refine ⟨x.toReal, (EReal.coe_toReal ?_ ?_).symm⟩
  · rintro rfl; simp at hn
  · rintro rfl; simp at hn

/-- The precondition makes every query, key and value a real number and every sink other than infinity. -/
theorem finite_of_tame (X : FVec Ideal Cert.Pre_tame.S8192x5120 .bf16) (sk : FVec Ideal Cert.Pre_tame.S64 .f32)
    (h : (Cert.Pre_tame.fn (F := Ideal) X sk).1 = (fun _ => 1#1)
      ∧ (Cert.Pre_tame.fn (F := Ideal) X sk).2 = (fun _ => 1#1)) :
    Finite X sk := by
  refine ⟨fun R C hC => real_of_cmp ?_, fun k => ne_top_of_cmp ?_⟩
  · have e := congrFun h.1 (ix2 R (⟨C.val, hC⟩ : Fin 4608))
    have hX : X (ix2 R C) = extractStridedSlice Cert.Pre_tame.S8192x4608 ![0, 0] X
        Cert.Pre_tame.Facts.slices_S8192x5120_S8192x4608_0_0 (ix2 R (⟨C.val, hC⟩ : Fin 4608)) := by
      refine congrArg X (funext fun a => Fin.ext ?_)
      match a with
      | ⟨0, _⟩ => exact (Nat.zero_add _).symm
      | ⟨1, _⟩ => exact (Nat.zero_add _).symm
    rw [hX]
    exact e
  · exact congrFun h.2 (ix1 k)

/-- Sliding-window attention. -/
theorem algebraic_swa : Cert.algebraic_KernelIdeal_ReferenceIdeal_pre_tame := fun m g m' g' hpre hag =>
  ⟨fun c => fun i => Cert.KernelIdeal.Swa.spec (Cert.KernelIdeal.Swa.X m c) (Cert.KernelIdeal.Swa.SK m c) (i 0) (i 1),
    (θ_run _ _ _).mono (fun _ h c => ⟨(h c).1.trans
        (Cert.KernelIdeal.Swa.result_eq m c (finite_of_tame _ _ (hpre c))), (h c).2⟩)
      (Cert.KernelIdeal.Value.run_blocks m g),
    (θ_run _ _ _).mono (fun _ h c => ⟨(h c).1.trans (by
        obtain ⟨h0, h1⟩ := hag c
        rw [Cert.ReferenceIdeal.Swa.res_eq, h0, h1]
        funext i
        rw [ValueIdx.eq_ix2 i]
        exact Cert.ReferenceIdeal.Swa.result_eq _ _ (finite_of_tame _ _ (hpre c)) (i 0) (i 1)), (h c).2⟩)
      (Cert.ReferenceIdeal.Value.run m' g')⟩

end Cert.Proof

end
-- ==== Proof.FfnInStep.lean ====
/-
What one step of the FFN input kernel does to its two scratch buffers and to the output tile, as plain
functions: the cast of a weight column to the multiplier's format, the product of the tile's 128-row slabs
with it, and the three-tap convolution with its gate over the rows of the step before.
-/
module

public import proofs.«01_k».proof.Proof.Gen.FfnInIdeal.Frame
public import proofs.«01_k».proof.Proof.Gen.FfnInIdeal.Skeleton
public import Idealize.ShloMosaic.Lib.Pipeline.ValueKit
public import Idealize.ShloMosaic.Lib.ValueIdx
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pure step -/

/-- The weight column a column's first step casts: the gate's 256 lanes beside the up-projection's. -/
def castW (x1 x2 : Vec F S1x4096x256 .f32) : Vec F S4096x512 .bf16 := fun y =>
  if h : (y 1).val < 256 then k0_pay5 x1 (ValueIdx.ix2 (y 0) ⟨(y 1).val, h⟩)
  else k0_pay6 x2 (ValueIdx.ix2 (y 0) ⟨(y 1).val - 256, by have : (y 1).val < 512 := (y 1).isLt; omega⟩)

/-- The hidden buffer with its eight rows before the tile zeroed: a sequence starts. -/
def zeroHalo (hb : Vec F S1032x512 .f32) : Vec F S1032x512 .f32 := fun y =>
  if h : (y 0).val < 8 then k0_pay7 (F := F) (ValueIdx.ix2 ⟨(y 0).val, h⟩ (y 1)) else hb y

/-- Slab `k` of the input tile: its rows `128 k …`. -/
def xRows (x0 : Vec F S1024x4096 .bf16) (k : Fin 8) : Vec F S128x4096 .bf16 := fun y =>
  x0 (ValueIdx.ix2 ⟨128 * k.val + (y 0).val, by have : (y 0).val < 128 := (y 0).isLt; omega⟩ (y 1))

/-- The 128 rows of the hidden buffer from row `o + 128 k`, `o` at most 8. -/
def hRows (hb : Vec F S1032x512 .f32) (o : Fin 9) (k : Fin 8) : Vec F S128x512 .f32 := fun y =>
  hb (ValueIdx.ix2 ⟨o.val + 128 * k.val + (y 0).val, by have : (y 0).val < 128 := (y 0).isLt; omega⟩ (y 1))

/-- The hidden buffer's last eight rows, the next tile's rows before. -/
def hTail (hb : Vec F S1032x512 .f32) : Vec F S8x512 .f32 := fun y =>
  hb (ValueIdx.ix2 ⟨1024 + (y 0).val, by have : (y 0).val < 8 := (y 0).isLt; omega⟩ (y 1))

/-- The hidden buffer a step leaves: the old tile's last eight rows, then this tile's product, slab by slab. -/
def newH (hb : Vec F S1032x512 .f32) (x0 : Vec F S1024x4096 .bf16) (wb : Vec F S4096x512 .bf16) : Vec F S1032x512 .f32 := fun y =>
  if h : (y 0).val < 8 then k0_pay2 (hTail hb) (ValueIdx.ix2 ⟨(y 0).val, h⟩ (y 1))
  else k0_pay16 (xRows x0 ⟨((y 0).val - 8) / 128, by have : (y 0).val < 1032 := (y 0).isLt; omega⟩) wb
    (ValueIdx.ix2 ⟨((y 0).val - 8) % 128, by omega⟩ (y 1))

/-- The output tile a step leaves, from the rows the hidden buffer held: convolution and gate, slab by slab. -/
def convOut (hb : Vec F S1032x512 .f32) (v50 v51 v52 v53 : FVec F S1x512 .f32) : Vec F S1024x256 .bf16 := fun y =>
  k0_pay15 v50 v51 v52 v53 (hRows hb 8 ⟨(y 0).val / 128, by have : (y 0).val < 1024 := (y 0).isLt; omega⟩)
    (hRows hb 7 ⟨(y 0).val / 128, by have : (y 0).val < 1024 := (y 0).isLt; omega⟩)
    (hRows hb 6 ⟨(y 0).val / 128, by have : (y 0).val < 1024 := (y 0).isLt; omega⟩)
    (ValueIdx.ix2 ⟨(y 0).val % 128, by omega⟩ (y 1))

/-! ## A rectangle's load and its place in the step's functions -/

/-- A load of an input slab is the slab. -/
theorem readAt_xRows (a : Memref sig .tc .vmem S1024x4096 .bf16) (ha : a.IsWhole) (x0 : Vec F S1024x4096 .bf16) (k : Fin 8) (inb) :
    View.readAt (Elt F) a.view (Rect.unit (s := S1024x4096) ![128 * k.val, 0] S128x4096.size inb).toLoadRect (ha.unread x0) = xRows x0 k := by
  refine (View.readAt_eq_ld _ _ _).trans ?_
  rw [ha.read_unread]
  funext y
  refine View.ld_unit_apply_of (Val := Elt F) (e := .bf16) x0 _ _ _ _ _ fun a => ?_
  fin_cases a
  · rfl
  · exact (Nat.zero_add _).symm

/-- A load of 128 hidden rows is those rows. -/
theorem readAt_hRows (a : Memref sig .tc .vmem S1032x512 .f32) (ha : a.IsWhole) (hb : Vec F S1032x512 .f32) (o : Fin 9) (k : Fin 8) (inb) :
    View.readAt (Elt F) a.view (Rect.unit (s := S1032x512) ![o.val + 128 * k.val, 0] S128x512.size inb).toLoadRect (ha.unread hb) = hRows hb o k := by
  refine (View.readAt_eq_ld _ _ _).trans ?_
  rw [ha.read_unread]
  funext y
  refine View.ld_unit_apply_of (Val := Elt F) (e := .f32) hb _ _ _ _ _ fun a => ?_
  fin_cases a
  · rfl
  · exact (Nat.zero_add _).symm

/-- A load of the last eight hidden rows is those rows. -/
theorem readAt_hTail (a : Memref sig .tc .vmem S1032x512 .f32) (ha : a.IsWhole) (hb : Vec F S1032x512 .f32) (inb) :
    View.readAt (Elt F) a.view (Rect.unit (s := S1032x512) ![1024, 0] S8x512.size inb).toLoadRect (ha.unread hb) = hTail hb := by
  refine (View.readAt_eq_ld _ _ _).trans ?_
  rw [ha.read_unread]
  funext y
  refine View.ld_unit_apply_of (Val := Elt F) (e := .f32) hb _ _ _ _ _ fun a => ?_
  fin_cases a
  · rfl
  · exact (Nat.zero_add _).symm

/-- A load of the whole weight buffer is the buffer. -/
theorem readAt_wb (a : Memref sig .tc .vmem S4096x512 .bf16) (ha : a.IsWhole) (wb : Vec F S4096x512 .bf16) (inb) :
    View.readAt (Elt F) a.view (Rect.unit (s := S4096x512) ![0, 0] S4096x512.size inb).toLoadRect (ha.unread wb) = wb := by
  refine (View.readAt_eq_ld _ _ _).trans ?_
  rw [ha.read_unread]
  exact View.ld_unit_zero (by funext a; fin_cases a <;> rfl) _ _

/-- The hidden buffer after a step, at a place of slab `k`. -/
theorem newH_slab (hb : Vec F S1032x512 .f32) (x0 : Vec F S1024x4096 .bf16) (wb : Vec F S4096x512 .bf16) (k : Fin 8) (inb)
    (x : (Rect.unit (s := S1032x512) ![8 + 128 * k.val, 0] S128x512.size inb).shape.Idx) :
    newH hb x0 wb ((Rect.unit (s := S1032x512) ![8 + 128 * k.val, 0] S128x512.size inb).emb x) = k0_pay16 (xRows x0 k) wb x := by
  have hx : (x 0).val < 128 := (x 0).isLt
  have h0 : ((Rect.unit (s := S1032x512) ![8 + 128 * k.val, 0] S128x512.size inb).emb x 0).val = 8 + 128 * k.val + (x 0).val :=
    Rect.idx_unit_val (s := S1032x512) _ _ inb x 0
  have h1 : ((Rect.unit (s := S1032x512) ![8 + 128 * k.val, 0] S128x512.size inb).emb x 1).val = (x 1).val :=
    (Rect.idx_unit_val (s := S1032x512) _ _ inb x 1).trans (Nat.zero_add _)
  unfold newH
  rw [dif_neg (by rw [h0]; omega)]
  congr 1
  · congr 1; apply Fin.ext; show (_ - 8) / 128 = k.val; rw [h0]; omega
  · refine (congrArg₂ ValueIdx.ix2 (Fin.ext ?_) (Fin.ext ?_)).trans (ValueIdx.eq_ix2 x).symm
    · show (_ - 8) % 128 = (x 0).val; rw [h0]; omega
    · exact h1

/-- … and at a place of the eight rows before the tile. -/
theorem newH_tail (hb : Vec F S1032x512 .f32) (x0 : Vec F S1024x4096 .bf16) (wb : Vec F S4096x512 .bf16) (inb)
    (x : (Rect.unit (s := S1032x512) ![0, 0] S8x512.size inb).shape.Idx) :
    newH hb x0 wb ((Rect.unit (s := S1032x512) ![0, 0] S8x512.size inb).emb x) = k0_pay2 (hTail hb) x := by
  have hx : (x 0).val < 8 := (x 0).isLt
  have h0 : ((Rect.unit (s := S1032x512) ![0, 0] S8x512.size inb).emb x 0).val = (x 0).val :=
    (Rect.idx_unit_val (s := S1032x512) _ _ inb x 0).trans (Nat.zero_add _)
  have h1 : ((Rect.unit (s := S1032x512) ![0, 0] S8x512.size inb).emb x 1).val = (x 1).val :=
    (Rect.idx_unit_val (s := S1032x512) _ _ inb x 1).trans (Nat.zero_add _)
  unfold newH
  rw [dif_pos (by rw [h0]; exact hx)]
  congr 1
  exact (congrArg₂ ValueIdx.ix2 (Fin.ext h0) (Fin.ext h1)).trans (ValueIdx.eq_ix2 x).symm

/-- The output tile at a place of slab `k`. -/
theorem convOut_slab (hb : Vec F S1032x512 .f32) (v50 v51 v52 v53 : FVec F S1x512 .f32) (k : Fin 8) (inb)
    (x : (Rect.unit (s := S1024x256) ![128 * k.val, 0] S128x256.size inb).shape.Idx) :
    convOut hb v50 v51 v52 v53 ((Rect.unit (s := S1024x256) ![128 * k.val, 0] S128x256.size inb).emb x)
      = k0_pay15 v50 v51 v52 v53 (hRows hb 8 k) (hRows hb 7 k) (hRows hb 6 k) x := by
  have hx : (x 0).val < 128 := (x 0).isLt
  have h0 : ((Rect.unit (s := S1024x256) ![128 * k.val, 0] S128x256.size inb).emb x 0).val = 128 * k.val + (x 0).val :=
    Rect.idx_unit_val (s := S1024x256) _ _ inb x 0
  have h1 : ((Rect.unit (s := S1024x256) ![128 * k.val, 0] S128x256.size inb).emb x 1).val = (x 1).val :=
    (Rect.idx_unit_val (s := S1024x256) _ _ inb x 1).trans (Nat.zero_add _)
  have hk : ∀ h, (⟨((Rect.unit (s := S1024x256) ![128 * k.val, 0] S128x256.size inb).emb x 0).val / 128, h⟩ : Fin 8) = k := fun h =>
    Fin.ext (by show _ / 128 = k.val; rw [h0]; omega)
  unfold convOut
  rw [hk]
  congr 1
  refine (congrArg₂ ValueIdx.ix2 (Fin.ext ?_) (Fin.ext h1)).trans (ValueIdx.eq_ix2 x).symm
  show _ % 128 = (x 0).val; rw [h0]; omega

/-- What a slab's store writes is the step's hidden buffer there. -/
theorem slab_piece (a1 : Memref sig .tc .vmem S1024x4096 .bf16) (h1 : a1.IsWhole) (a9 : Memref sig .tc .vmem S4096x512 .bf16) (h9 : a9.IsWhole)
    (hb : Vec F S1032x512 .f32) (x0 : Vec F S1024x4096 .bf16) (wb : Vec F S4096x512 .bf16) (k : Fin 8) (ox oh : Fin 2 → ℕ)
    (ex : ox = ![128 * k.val, 0]) (eh : oh = ![8 + 128 * k.val, 0]) (inbx inbw inb)
    (x : (Rect.unit (s := S1032x512) oh S128x512.size inb).shape.Idx) :
    k0_pay16 (View.readAt (Elt F) a1.view (Rect.unit (s := S1024x4096) ox S128x4096.size inbx).toLoadRect (h1.unread x0))
        (View.readAt (Elt F) a9.view (Rect.unit (s := S4096x512) ![0, 0] S4096x512.size inbw).toLoadRect (h9.unread wb)) x
      = newH hb x0 wb ((Rect.unit (s := S1032x512) oh S128x512.size inb).emb x) := by
  subst ex eh
  rw [readAt_xRows, readAt_wb, newH_slab]

/-- What the tail's store writes is the step's hidden buffer there. -/
theorem tail_piece (a10 : Memref sig .tc .vmem S1032x512 .f32) (h10 : a10.IsWhole)
    (hb : Vec F S1032x512 .f32) (x0 : Vec F S1024x4096 .bf16) (wb : Vec F S4096x512 .bf16) (inbt inb)
    (x : (Rect.unit (s := S1032x512) ![0, 0] S8x512.size inb).shape.Idx) :
    k0_pay2 (View.readAt (Elt F) a10.view (Rect.unit (s := S1032x512) ![1024, 0] S8x512.size inbt).toLoadRect (h10.unread hb)) x
      = newH hb x0 wb ((Rect.unit (s := S1032x512) ![0, 0] S8x512.size inb).emb x) := by
  rw [readAt_hTail, newH_tail]

/-- What a slab's output store writes is the step's output tile there. -/
theorem conv_piece (a10 : Memref sig .tc .vmem S1032x512 .f32) (h10 : a10.IsWhole)
    (hb : Vec F S1032x512 .f32) (v50 v51 v52 v53 : FVec F S1x512 .f32) (k : Fin 8) (o8 o7 o6 oo : Fin 2 → ℕ)
    (e8 : o8 = ![8 + 128 * k.val, 0]) (e7 : o7 = ![7 + 128 * k.val, 0]) (e6 : o6 = ![6 + 128 * k.val, 0]) (eo : oo = ![128 * k.val, 0])
    (inb8 inb7 inb6 inb) (x : (Rect.unit (s := S1024x256) oo S128x256.size inb).shape.Idx) :
    k0_pay15 v50 v51 v52 v53
        (View.readAt (Elt F) a10.view (Rect.unit (s := S1032x512) o8 S128x512.size inb8).toLoadRect (h10.unread hb))
        (View.readAt (Elt F) a10.view (Rect.unit (s := S1032x512) o7 S128x512.size inb7).toLoadRect (h10.unread hb))
        (View.readAt (Elt F) a10.view (Rect.unit (s := S1032x512) o6 S128x512.size inb6).toLoadRect (h10.unread hb)) x
      = convOut hb v50 v51 v52 v53 ((Rect.unit (s := S1024x256) oo S128x256.size inb).emb x) := by
  subst e8 e7 e6 eo
  rw [convOut_slab]
  have e8 := readAt_hRows a10 h10 hb 8 k inb8
  have e7 := readAt_hRows a10 h10 hb 7 k inb7
  have e6 := readAt_hRows a10 h10 hb 6 k inb6
  exact congrFun (by rw [← e8, ← e7, ← e6]; rfl) x

end Cert.FfnInIdeal.Hand

end
-- ==== Proof.FfnInHead.lean ====
/-
The FFN input kernel's three conditions and what each branch does: at the grid's first point the hidden
buffer is zeroed, at a column's first point the weights are cast, where a sequence starts the eight rows
before the tile are zeroed.
-/
module

public import proofs.«01_k».proof.Proof.Gen.FfnInIdeal.Frame
public import proofs.«01_k».proof.Proof.Gen.FfnInIdeal.Skeleton
public import proofs.«01_k».proof.Proof.FfnInStep
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1024x4096 .bf16) (harg1 : arg1.IsWhole) (arg2 : Memref sig .tc .vmem S1x4096x256 .f32) (harg2 : arg2.IsWhole) (arg3 : Memref sig .tc .vmem S1x4096x256 .f32) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .bf16) (harg8 : arg8.IsWhole) (arg9 : Memref sig .tc .vmem S4096x512 .bf16) (harg9 : arg9.IsWhole) (arg10 : Memref sig .tc .vmem S1032x512 .f32) (harg10 : arg10.IsWhole)

/-- The remainder the body takes of the step's number by 8, as its scalar operations spell it. -/
abbrev remEight (a : BitVec 32) : BitVec 32 :=
  let d := Scalar.select (Scalar.cmpi .eq 8#32 0#32) 1#32 8#32
  Scalar.select (Scalar.andi (Scalar.xori (Scalar.cmpi .slt (Scalar.remsi a d) 0#32) (Scalar.cmpi .slt d 0#32)) (Scalar.cmpi .ne (Scalar.remsi a d) 0#32))
    (Scalar.addi (Scalar.remsi a d) d) (Scalar.remsi a d)

/-- The grid's first point. -/
abbrev cond0 : Prop := Scalar.cmpi .ne (Scalar.extui (Scalar.cmpi .eq (BitVec.ofNat 32 (i 0).val) 0#32)) 0#32 = 1#1
/-- A column's first point. -/
abbrev cond1 : Prop := Scalar.cmpi .ne (Scalar.extui (Scalar.cmpi .eq (remEight (BitVec.ofNat 32 (i 0).val)) 0#32)) 0#32 = 1#1

/-- What the first part hands the second: the divisor 4, the tile's remainder by it, and the two comparisons of that remainder. -/
abbrev head1 (i : grid0.Coords) : Σ' (v29 : BitVec 32) (v30 : BitVec 32) (v31 : BitVec 1) (v32 : BitVec 1), BitVec 32 :=
  let d := Scalar.select (Scalar.cmpi .eq 4#32 0#32) 1#32 4#32
  let r := Scalar.remsi (remEight (Scalar.maxsi (Scalar.subi (BitVec.ofNat 32 (i 0).val) 1#32) 0#32)) d
  ⟨d, r, Scalar.cmpi .ne r 0#32, Scalar.cmpi .slt r 0#32, 0#32⟩

/-- The third condition over what the first part hands on. -/
abbrev cond2' (v29 v30 : BitVec 32) (v31 v32 : BitVec 1) (z : BitVec 32) : Prop :=
  Scalar.cmpi .ne (Scalar.extui (Scalar.cmpi .eq (Scalar.select (Scalar.andi (Scalar.xori v32 (Scalar.cmpi .slt v29 z)) v31) (Scalar.addi v30 v29) v30) 0#32)) 0#32 = 1#1

/-- A sequence's first tile. -/
abbrev cond2 : Prop := cond2' (head1 i).1 (head1 i).2.1 (head1 i).2.2.1 (head1 i).2.2.2.1 (head1 i).2.2.2.2

/-! ## The first part -/

/-- The two stores of a column's first point leave the weight buffer at the cast column. -/
theorem cast_read (a2 : Memref sig .tc .vmem S1x4096x256 .f32) (h2 : a2.IsWhole) (a3 : Memref sig .tc .vmem S1x4096x256 .f32) (h3 : a3.IsWhole)
    (a9 : Memref sig .tc .vmem S4096x512 .bf16) (x1 x2 : Vec F S1x4096x256 .f32) (f) (i1 i2 i3 i4) :
    a9.view.read (Elt F) (a9.view.writes (Elt F) f
      [⟨Rect.unit (s := S4096x512) ![0, 256] S4096x256.size i1, k0_pay6 (View.readAt (Elt F) a3.view (Rect.unit (s := S1x4096x256) ![0, 0, 0] S1x4096x256.size i2).toLoadRect (h3.unread x2))⟩,
       ⟨Rect.unit (s := S4096x512) ![0, 0] S4096x256.size i3, k0_pay5 (View.readAt (Elt F) a2.view (Rect.unit (s := S1x4096x256) ![0, 0, 0] S1x4096x256.size i4).toLoadRect (h2.unread x1))⟩]) = castW x1 x2 := by
  have e : ∀ (a : Memref sig .tc .vmem S1x4096x256 .f32) (h : a.IsWhole) (x : Vec F S1x4096x256 .f32) (inb),
      View.readAt (Elt F) a.view (Rect.unit (s := S1x4096x256) ![0, 0, 0] S1x4096x256.size inb).toLoadRect (h.unread x) = x := by
    intro a h x inb
    refine (View.readAt_eq_ld _ _ _).trans ?_
    rw [h.read_unread]
    exact View.ld_unit_zero (by funext a; fin_cases a <;> rfl) _ _
  rw [e, e]
  funext y
  refine View.read_writes_apply_of_pieces (v := a9.view) _ (castW x1 x2) _ ?_ y (View.cover_of_tiledL (s := S4096x512) _ S4096x256.size (by sl_kernel_rfl) y)
  refine List.forall_mem_cons.2 ⟨fun x => ?_, List.forall_mem_cons.2 ⟨fun x => ?_, fun _ h => absurd h List.not_mem_nil⟩⟩
  · have e0 : ((Rect.unit (s := S4096x512) ![0, 256] S4096x256.size i1).emb x 0).val = (x 0).val :=
      (Rect.idx_unit_val (s := S4096x512) _ _ i1 x 0).trans (Nat.zero_add _)
    have e1 : ((Rect.unit (s := S4096x512) ![0, 256] S4096x256.size i1).emb x 1).val = 256 + (x 1).val := Rect.idx_unit_val (s := S4096x512) _ _ i1 x 1
    show k0_pay6 x2 x = castW x1 x2 _
    unfold castW
    rw [dif_neg (by rw [e1]; omega)]
    congr 1
    exact (ValueIdx.eq_ix2 x).trans (congrArg₂ ValueIdx.ix2 (Fin.ext e0.symm) (Fin.ext (by show _ = _ - 256; rw [e1]; omega)))
  · have hx : (x 1).val < 256 := (x 1).isLt
    have e0 : ((Rect.unit (s := S4096x512) ![0, 0] S4096x256.size i3).emb x 0).val = (x 0).val :=
      (Rect.idx_unit_val (s := S4096x512) _ _ i3 x 0).trans (Nat.zero_add _)
    have e1 : ((Rect.unit (s := S4096x512) ![0, 0] S4096x256.size i3).emb x 1).val = (x 1).val :=
      (Rect.idx_unit_val (s := S4096x512) _ _ i3 x 1).trans (Nat.zero_add _)
    show k0_pay5 x1 x = castW x1 x2 _
    unfold castW
    rw [dif_pos (by rw [e1]; exact hx)]
    congr 1
    exact (ValueIdx.eq_ix2 x).trans (congrArg₂ ValueIdx.ix2 (Fin.ext e0.symm) (Fin.ext e1.symm))

/-- A store of the whole hidden buffer leaves what it stored. -/
theorem zero_read (a : Memref sig .tc .vmem S1032x512 .f32) (f) (x : Vec F S1032x512 .f32) (inb) :
    a.view.read (Elt F) (a.view.writes (Elt F) f [⟨Rect.unit (s := S1032x512) ![0, 0] S1032x512.size inb, x⟩]) = x := by
  funext y
  refine View.read_writes_apply_of_pieces (v := a.view) _ x _ ?_ y (View.cover_of_tiledL (s := S1032x512) _ S1032x512.size (by sl_kernel_rfl) y)
  refine List.forall_mem_cons.2 ⟨fun z => ?_, fun _ h => absurd h List.not_mem_nil⟩
  refine congrArg x ((ValueIdx.eq_ix2 z).trans ?_)
  refine Eq.trans ?_ (ValueIdx.eq_ix2 _).symm
  exact congrArg₂ ValueIdx.ix2 (Fin.ext ((Rect.idx_unit_val (s := S1032x512) _ _ inb z 0).trans (Nat.zero_add _)).symm)
    (Fin.ext ((Rect.idx_unit_val (s := S1032x512) _ _ inb z 1).trans (Nat.zero_add _)).symm)

/-- A store of zeros over the first eight rows leaves the buffer with its halo zeroed. -/
theorem halo_read (a : Memref sig .tc .vmem S1032x512 .f32) (ha : a.IsWhole) (hb : Vec F S1032x512 .f32) (inb) :
    a.view.read (Elt F) (a.view.writes (Elt F) (ha.unread hb) [⟨Rect.unit (s := S1032x512) ![0, 0] S8x512.size inb, k0_pay7 (F := F)⟩]) = zeroHalo hb := by
  funext y
  unfold zeroHalo
  by_cases h : (y 0).val < 8
  · rw [dif_pos h]
    have hy : (Rect.unit (s := S1032x512) ![0, 0] S8x512.size inb).emb (ValueIdx.ix2 ⟨(y 0).val, h⟩ (y 1)) = y := by
      refine (ValueIdx.eq_ix2 _).trans (Eq.trans ?_ (ValueIdx.eq_ix2 y).symm)
      exact congrArg₂ ValueIdx.ix2 (Fin.ext ((Rect.idx_unit_val (s := S1032x512) _ _ inb _ 0).trans (Nat.zero_add _)))
        (Fin.ext ((Rect.idx_unit_val (s := S1032x512) _ _ inb _ 1).trans (Nat.zero_add _)))
    conv_lhs => rw [← hy]
    exact View.read_writes_cons_emb _ _ _ _ _ _
  · rw [dif_neg h]
    refine (View.read_writes_cons_miss_of_axis _ _ _ _ y 0 0 8 rfl rfl rfl (Or.inr (by omega))).trans ?_
    exact congrFun (ha.read_unread hb) y

/-- A load of 128 rows from row `o` on of a buffer that holds `hb` is those rows of `hb`. -/
theorem readAt_rows (a : Memref sig .tc .vmem S1032x512 .f32) (f) (hb : Vec F S1032x512 .f32) (hf : a.view.read (Elt F) f = hb) (o : Fin 9) (off : Fin 2 → ℕ)
    (ho : off = ![o.val, 0]) (inb) :
    View.readAt (Elt F) a.view (Rect.unit (s := S1032x512) off S128x512.size inb).toLoadRect f = hRows hb o 0 := by
  subst ho
  refine (View.readAt_eq_ld _ _ _).trans ?_
  rw [hf]
  funext y
  refine View.ld_unit_apply_of (Val := Elt F) (e := .f32) hb _ _ _ _ _ fun a => ?_
  fin_cases a
  · rfl
  · exact (Nat.zero_add _).symm

/-- Zeroing the rows before the tile leaves the tile's rows. -/
theorem hRows_zeroHalo (hb : Vec F S1032x512 .f32) : hRows (zeroHalo hb) 8 0 = hRows hb 8 0 := by
  funext y
  unfold hRows zeroHalo
  exact dif_neg (by show ¬ 8 + 128 * 0 + (y 0).val < 8; omega)

/-- A load of a whole buffer of rank three is what it holds. -/
theorem readAt_whole {n1 n2 : ℕ} (a : Memref sig .tc .vmem ⟨3, ![1, n1, n2]⟩ .f32) (h : a.IsWhole) (x : Vec F ⟨3, ![1, n1, n2]⟩ .f32) (inb) :
    View.readAt (Elt F) a.view (Rect.unit (s := ⟨3, ![1, n1, n2]⟩) ![0, 0, 0] (⟨3, ![1, n1, n2]⟩ : Shape).size inb).toLoadRect (h.unread x) = x := by
  refine (View.readAt_eq_ld _ _ _).trans ?_
  rw [h.read_unread]
  exact View.ld_unit_zero (by funext a; fin_cases a <;> rfl) _ _

/-- What the second part returns, from what it loaded. -/
theorem ret_congr {x3 x4 a3 a4 : Vec F S1x3x256 .f32} {x5 x6 a5 a6 : Vec F S1x1x256 .f32} {b8 b7 b6 c8 c7 c6 : Vec F S128x512 .f32}
    (h3 : a3 = x3) (h4 : a4 = x4) (h5 : a5 = x5) (h6 : a6 = x6) (h8 : b8 = c8) (h7 : b7 = c7) (hb6 : b6 = c6) :
    (⟨k0_pay9 a5 a6, k0_pay10 a3 a4, k0_pay11 a3 a4, k0_pay12 a3 a4, k0_pay13 a3 a4 a5 a6 b8 b7 b6⟩ :
        Σ' (_ : FVec F S1x512 .f32) (_ : FVec F S1x512 .f32) (_ : FVec F S1x512 .f32) (_ : FVec F S1x512 .f32), FVec F S128x256 .f32)
      = ⟨k0_pay9 x5 x6, k0_pay10 x3 x4, k0_pay11 x3 x4, k0_pay12 x3 x4, k0_pay13 x3 x4 x5 x6 c8 c7 c6⟩ := by
  subst h3 h4 h5 h6 h8 h7 hb6; rfl

set_option maxHeartbeats 1000000 in
/-- At the grid's first point: the hidden buffer zeroed, the weights cast. -/
theorem part1_A (hc0 : cond0 i) (hc1 : cond1 i) (x1 x2 : Vec F S1x4096x256 .f32) (wb : Vec F S4096x512 .bf16) (hb : Vec F S1032x512 .f32) (E : Set ℕ) (K : _ → sProp 𝕄) :
    iprop(owns (c : Thread nD τ) arg2 fullShare x1 ∗ owns (c : Thread nD τ) arg3 fullShare x2 ∗ owns (c : Thread nD τ) arg9 fullShare wb ∗ owns (c : Thread nD τ) arg10 fullShare hb
        ∗ (iprop(owns (c : Thread nD τ) arg2 fullShare x1 ∗ owns (c : Thread nD τ) arg3 fullShare x2 ∗ owns (c : Thread nD τ) arg9 fullShare (castW x1 x2) ∗ owns (c : Thread nD τ) arg10 fullShare k0_pay4) -∗ K (head1 i)))
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10) K := by
  simp only [k0_part1_eq_skeleton]; unfold k0_part1_skel
  unfold owns
  iintro ⟨⟨%f1, %hf1, H1⟩, ⟨%f2, %hf2, H2⟩, ⟨%f3, %hf3, H3⟩, ⟨%f4, %hf4, H4⟩, Hk⟩
  obtain rfl := harg2.eq_unread hf1; obtain rfl := harg3.eq_unread hf2; obtain rfl := harg9.eq_unread hf3; obtain rfl := harg10.eq_unread hf4
  sl_exec (disch := first | sl_exact hc0 | sl_exact hc1)
  sl_step
  have key : K (head1 i) ⊢ K ⟨4#32, ⟨part1_A.sl.v30 i, ⟨part1_A.sl.v31 i, ⟨part1_A.sl.v32 i, 0#32⟩⟩⟩⟩ := .rfl
  iapply key
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    exact cast_read arg2 harg2 arg3 harg3 arg9 x1 x2 _ _ _ _ _
  iexists _; isplitr
  swap; · iexact H4
  ipureintro
  exact zero_read arg10 _ _ _

set_option maxHeartbeats 1000000 in
/-- At another column's first point: the weights cast. -/
theorem part1_B (hc0 : ¬cond0 i) (hc1 : cond1 i) (x1 x2 : Vec F S1x4096x256 .f32) (wb : Vec F S4096x512 .bf16) (hb : Vec F S1032x512 .f32) (E : Set ℕ) (K : _ → sProp 𝕄) :
    iprop(owns (c : Thread nD τ) arg2 fullShare x1 ∗ owns (c : Thread nD τ) arg3 fullShare x2 ∗ owns (c : Thread nD τ) arg9 fullShare wb ∗ owns (c : Thread nD τ) arg10 fullShare hb
        ∗ (iprop(owns (c : Thread nD τ) arg2 fullShare x1 ∗ owns (c : Thread nD τ) arg3 fullShare x2 ∗ owns (c : Thread nD τ) arg9 fullShare (castW x1 x2) ∗ owns (c : Thread nD τ) arg10 fullShare hb) -∗ K (head1 i)))
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10) K := by
  simp only [k0_part1_eq_skeleton]; unfold k0_part1_skel
  unfold owns
  iintro ⟨⟨%f1, %hf1, H1⟩, ⟨%f2, %hf2, H2⟩, ⟨%f3, %hf3, H3⟩, ⟨%f4, %hf4, H4⟩, Hk⟩
  obtain rfl := harg2.eq_unread hf1; obtain rfl := harg3.eq_unread hf2; obtain rfl := harg9.eq_unread hf3; obtain rfl := harg10.eq_unread hf4
  sl_exec (disch := first | sl_exact hc0 | sl_exact hc1)
  sl_step
  have key : K (head1 i) ⊢ K ⟨4#32, ⟨part1_B.sl.v30 i, ⟨part1_B.sl.v31 i, ⟨part1_B.sl.v32 i, 0#32⟩⟩⟩⟩ := .rfl
  iapply key
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    exact cast_read arg2 harg2 arg3 harg3 arg9 x1 x2 _ _ _ _ _
  iexists _; isplitr
  swap; · iexact H4
  ipureintro
  exact harg10.read_unread _

set_option maxHeartbeats 1000000 in
/-- Elsewhere: nothing. -/
theorem part1_N (hc0 : ¬cond0 i) (hc1 : ¬cond1 i) (x1 x2 : Vec F S1x4096x256 .f32) (wb : Vec F S4096x512 .bf16) (hb : Vec F S1032x512 .f32) (E : Set ℕ) (K : _ → sProp 𝕄) :
    iprop(owns (c : Thread nD τ) arg2 fullShare x1 ∗ owns (c : Thread nD τ) arg3 fullShare x2 ∗ owns (c : Thread nD τ) arg9 fullShare wb ∗ owns (c : Thread nD τ) arg10 fullShare hb
        ∗ (iprop(owns (c : Thread nD τ) arg2 fullShare x1 ∗ owns (c : Thread nD τ) arg3 fullShare x2 ∗ owns (c : Thread nD τ) arg9 fullShare wb ∗ owns (c : Thread nD τ) arg10 fullShare hb) -∗ K (head1 i)))
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10) K := by
  simp only [k0_part1_eq_skeleton]; unfold k0_part1_skel
  unfold owns
  iintro ⟨⟨%f1, %hf1, H1⟩, ⟨%f2, %hf2, H2⟩, ⟨%f3, %hf3, H3⟩, ⟨%f4, %hf4, H4⟩, Hk⟩
  obtain rfl := harg2.eq_unread hf1; obtain rfl := harg3.eq_unread hf2; obtain rfl := harg9.eq_unread hf3; obtain rfl := harg10.eq_unread hf4
  sl_exec (disch := first | sl_exact hc0 | sl_exact hc1)
  sl_step
  have key : K (head1 i) ⊢ K ⟨4#32, ⟨part1_N.sl.v30 i, ⟨part1_N.sl.v31 i, ⟨part1_N.sl.v32 i, 0#32⟩⟩⟩⟩ := .rfl
  iapply key
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    exact harg9.read_unread _
  iexists _; isplitr
  swap; · iexact H4
  ipureintro
  exact harg10.read_unread _

end Cert.FfnInIdeal.Hand

end
-- ==== Proof.FfnInHeadB.lean ====
/-
The second part of the FFN input kernel's body: where a sequence starts it zeroes the eight rows before the tile,
then it reads the convolution's operands.
-/
module

public import proofs.«01_k».proof.Proof.Gen.FfnInIdeal.Frame
public import proofs.«01_k».proof.Proof.Gen.FfnInIdeal.Skeleton
public import proofs.«01_k».proof.Proof.FfnInHead
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1024x4096 .bf16) (harg1 : arg1.IsWhole) (arg2 : Memref sig .tc .vmem S1x4096x256 .f32) (harg2 : arg2.IsWhole) (arg3 : Memref sig .tc .vmem S1x4096x256 .f32) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .bf16) (harg8 : arg8.IsWhole) (arg9 : Memref sig .tc .vmem S4096x512 .bf16) (harg9 : arg9.IsWhole) (arg10 : Memref sig .tc .vmem S1032x512 .f32) (harg10 : arg10.IsWhole)

set_option maxHeartbeats 1000000 in
/-- Where a sequence starts: the eight rows before the tile zeroed, then the convolution's operands read. -/
theorem part2_Z (v29 v30 : BitVec 32) (v31 v32 : BitVec 1) (z : BitVec 32) (hc2 : cond2' v29 v30 v31 v32 z) (x3 x4 : Vec F S1x3x256 .f32) (x5 x6 : Vec F S1x1x256 .f32) (hb : Vec F S1032x512 .f32) (E : Set ℕ) (K : _ → sProp 𝕄) :
    iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare hb
        ∗ (iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (zeroHalo hb)) -∗ K ⟨k0_pay9 x5 x6, k0_pay10 x3 x4, k0_pay11 x3 x4, k0_pay12 x3 x4, k0_pay13 x3 x4 x5 x6 (hRows (zeroHalo hb) 8 0) (hRows (zeroHalo hb) 7 0) (hRows (zeroHalo hb) 6 0)⟩))
      ⊢ wp frame (wpE (defs₀ (F := F)) Variants.none c none) E (k0_part2 (F := F) i arg1 harg1 arg2 harg2 arg3 harg3 arg4 harg4 arg5 harg5 arg6 harg6 arg7 harg7 arg8 harg8 arg9 harg9 arg10 harg10 v29 v30 v31 v32 z) K := by
  rw [← ret_congr (readAt_whole arg4 harg4 x3 inb_S1x3x256_S1x3x256_0_0_0) (readAt_whole arg5 harg5 x4 inb_S1x3x256_S1x3x256_0_0_0)
    (readAt_whole arg6 harg6 x5 inb_S1x1x256_S1x1x256_0_0_0) (readAt_whole arg7 harg7 x6 inb_S1x1x256_S1x1x256_0_0_0)
    ((readAt_rows arg10 _ _ (harg10.read_unread hb) 8 ![8, 0] rfl inb_S1032x512_S128x512_8_0).trans (hRows_zeroHalo hb).symm) (readAt_rows arg10 _ _ (halo_read arg10 harg10 hb inb_S1032x512_S8x512_0_0) 7 ![7, 0] rfl inb_S1032x512_S128x512_7_0)
    (readAt_rows arg10 _ _ (halo_read arg10 harg10 hb inb_S1032x512_S8x512_0_0) 6 ![6, 0] rfl inb_S1032x512_S128x512_6_0)]
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg4.eq_unread hf1; obtain rfl := harg5.eq_unread hf2; obtain rfl := harg6.eq_unread hf3; obtain rfl := harg7.eq_unread hf4; obtain rfl := harg10.eq_unread hf5
  sl_exec (disch := sl_exact hc2)
  sl_step
  have key : K ⟨k0_pay9 (View.readAt (Elt F) arg6.view (Rect.unit (s := S1x1x256) ![0, 0, 0] S1x1x256.size inb_S1x1x256_S1x1x256_0_0_0).toLoadRect (harg6.unread x5)) (View.readAt (Elt F) arg7.view (Rect.unit (s := S1x1x256) ![0, 0, 0] S1x1x256.size inb_S1x1x256_S1x1x256_0_0_0).toLoadRect (harg7.unread x6)), k0_pay10 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)), k0_pay11 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)), k0_pay12 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)), k0_pay13 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)) (View.readAt (Elt F) arg6.view (Rect.unit (s := S1x1x256) ![0, 0, 0] S1x1x256.size inb_S1x1x256_S1x1x256_0_0_0).toLoadRect (harg6.unread x5)) (View.readAt (Elt F) arg7.view (Rect.unit (s := S1x1x256) ![0, 0, 0] S1x1x256.size inb_S1x1x256_S1x1x256_0_0_0).toLoadRect (harg7.unread x6)) (View.readAt (Elt F) arg10.view (Rect.unit (s := S1032x512) ![8, 0] S128x512.size inb_S1032x512_S128x512_8_0).toLoadRect (harg10.unread hb)) (View.readAt (Elt F) arg10.view (Rect.unit (s := S1032x512) ![7, 0] S128x512.size inb_S1032x512_S128x512_7_0).toLoadRect (arg10.view.writes (Elt F) (harg10.unread hb) [⟨Rect.unit (s := S1032x512) ![0, 0] S8x512.size inb_S1032x512_S8x512_0_0, k0_pay7 (F := F)⟩])) (View.readAt (Elt F) arg10.view (Rect.unit (s := S1032x512) ![6, 0] S128x512.size inb_S1032x512_S128x512_6_0).toLoadRect (arg10.view.writes (Elt F) (harg10.unread hb) [⟨Rect.unit (s := S1032x512) ![0, 0] S8x512.size inb_S1032x512_S8x512_0_0, k0_pay7 (F := F)⟩]))⟩ ⊢ K ⟨k0_pay9 (View.readAt (Elt F) arg6.view (Rect.unit (s := S1x1x256) ![0, 0, 0] S1x1x256.size inb_S1x1x256_S1x1x256_0_0_0).toLoadRect (harg6.unread x5)) (View.readAt (Elt F) arg7.view (Rect.unit (s := S1x1x256) ![0, 0, 0] S1x1x256.size inb_S1x1x256_S1x1x256_0_0_0).toLoadRect (harg7.unread x6)), k0_pay10 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)), k0_pay11 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)), k0_pay12 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)), k0_pay13 (View.readAt (Elt F) arg4.view (Rect.unit (s := S1x3x256) ![0, 0, 0] S1x3x256.size inb_S1x3x256_S1x3x256_0_0_0).toLoadRect (harg4.unread x3)) (View.readAt (Elt F) arg5.view (Rect.unit (s := S1x3x256) ![0, 0, 0] S1x3x256.size inb_S1x3x256_S1x3x256_0_0_0).toLoadRect (harg5.unread x4)) (View.readAt (Elt F) arg6.view (Rect.unit (s := S1x1x256) ![0, 0, 0] S1x1x256.size inb_S1x1x256_S1x1x256_0_0_0).toLoadRect (harg6.unread x5)) (View.readAt (Elt F) arg7.view (Rect.unit (s := S1x1x256) ![0, 0, 0] S1x1x256.size inb_S1x1x256_S1x1x256_0_0_0).toLoadRect (harg7.unread x6)) (part2_Z.sl.v54 c arg10 harg10 hb) (View.readAt (Elt F) arg10.view (Rect.unit (s := S1032x512) ![7, 0] S128x512.size inb_S1032x512_S128x512_7_0).toLoadRect (arg10.view.writes (Elt F) (harg10.unread hb) part2_Z.sl.H5_1)) (View.readAt (Elt F) arg10.view (Rect.unit (s := S1032x512) ![6, 0] S128x512.size inb_S1032x512_S128x512_6_0).toLoadRect (arg10.view.writes (Elt F) (harg10.unread hb) part2_Z.sl.H5_1))⟩ := .rfl
  iapply key
  iapply Hk
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  exact halo_read arg10 harg10 hb inb_S1032x512_S8x512_0_0

set_option maxHeartbeats 1000000 in
/-- Elsewhere: the convolution's operands read. -/
theorem part2_N (v29 v30 : BitVec 32) (v31 v32 : BitVec 1) (z : BitVec 32) (hc2 : ¬cond2' v29 v30 v31 v32 z) (x3 x4 : Vec F S1x3x256 .f32) (x5 x6 : Vec F S1x1x256 .f32) (hb : Vec F S1032x512 .f32) (E : Set ℕ) (K : _ → sProp 𝕄) :
    iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare hb
        ∗ (iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare hb) -∗ K ⟨k0_pay9 x5 x6, k0_pay10 x3 x4, k0_pay11 x3 x4, k0_pay12 x3 x4, k0_pay13 x3 x4 x5 x6 (hRows hb 8 0) (hRows hb 7 0) (hRows hb 6 0)⟩))
      ⊢ wp frame (wpE (defs₀ (F := F)) Variants.none c none) E (k0_part2 (F := F) i arg1 harg1 arg2 harg2 arg3 harg3 arg4 harg4 arg5 harg5 arg6 harg6 arg7 harg7 arg8 harg8 arg9 harg9 arg10 harg10 v29 v30 v31 v32 z) K := by
  rw [← ret_congr (readAt_whole arg4 harg4 x3 inb_S1x3x256_S1x3x256_0_0_0) (readAt_whole arg5 harg5 x4 inb_S1x3x256_S1x3x256_0_0_0)
    (readAt_whole arg6 harg6 x5 inb_S1x1x256_S1x1x256_0_0_0) (readAt_whole arg7 harg7 x6 inb_S1x1x256_S1x1x256_0_0_0)
    (readAt_rows arg10 _ _ (harg10.read_unread hb) 8 ![8, 0] rfl inb_S1032x512_S128x512_8_0) (readAt_rows arg10 _ _ (harg10.read_unread hb) 7 ![7, 0] rfl inb_S1032x512_S128x512_7_0)
    (readAt_rows arg10 _ _ (harg10.read_unread hb) 6 ![6, 0] rfl inb_S1032x512_S128x512_6_0)]
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg4.eq_unread hf1; obtain rfl := harg5.eq_unread hf2; obtain rfl := harg6.eq_unread hf3; obtain rfl := harg7.eq_unread hf4; obtain rfl := harg10.eq_unread hf5
  sl_exec (disch := sl_exact hc2)
  sl_step
  iapply Hk
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  exact harg10.read_unread hb

end Cert.FfnInIdeal.Hand

end
-- ==== Proof.FfnInRest.lean ====
/-
The FFN input kernel's body run once after its three conditions: from a hidden buffer and a weight buffer
at any contents it leaves the output tile and the hidden buffer the step's functions name.
-/
module

public import proofs.«01_k».proof.Proof.Gen.FfnInIdeal.Frame
public import proofs.«01_k».proof.Proof.Gen.FfnInIdeal.Skeleton
public import proofs.«01_k».proof.Proof.FfnInStep
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1024x4096 .bf16) (harg1 : arg1.IsWhole) (arg2 : Memref sig .tc .vmem S1x4096x256 .f32) (harg2 : arg2.IsWhole) (arg3 : Memref sig .tc .vmem S1x4096x256 .f32) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .bf16) (harg8 : arg8.IsWhole) (arg9 : Memref sig .tc .vmem S4096x512 .bf16) (harg9 : arg9.IsWhole) (arg10 : Memref sig .tc .vmem S1032x512 .f32) (harg10 : arg10.IsWhole)

/-- The body after its three conditions: the parts that always run. -/
def rest (v50 v51 v52 v53 : FVec F S1x512 .f32) (v71 : FVec F S128x256 .f32) : Prog (TpuEff nD τ sig (Elt F) Λ₀ .tc) PUnit := do
  let ⟨v100, v101, v104, v105⟩ : Σ' (v100 : Vec F S128x512 .f32) (v101 : Vec F S128x512 .f32) (v104 : FVec F S128x512 .f32), FVec F S128x512 .f32 ← k0_part3 i arg1 harg1 arg2 harg2 arg3 harg3 arg4 harg4 arg5 harg5 arg6 harg6 arg7 harg7 arg8 harg8 arg9 harg9 arg10 harg10 v50 v51 v52 v53 v71
  k0_part4 i arg1 harg1 arg2 harg2 arg3 harg3 arg4 harg4 arg5 harg5 arg6 harg6 arg7 harg7 arg8 harg8 arg9 harg9 arg10 harg10 v50 v51 v52 v53 v100 v101 v104 v105
  let v178 : Vec F S128x512 .f32 ← k0_part5 i arg1 harg1 arg2 harg2 arg3 harg3 arg4 harg4 arg5 harg5 arg6 harg6 arg7 harg7 arg8 harg8 arg9 harg9 arg10 harg10 v50 v51 v52 v53
  let ⟨v216, v217⟩ : Σ' (v216 : FVec F S128x512 .f32), FVec F S128x256 .f32 ← k0_part6 i arg1 harg1 arg2 harg2 arg3 harg3 arg4 harg4 arg5 harg5 arg6 harg6 arg7 harg7 arg8 harg8 arg9 harg9 arg10 harg10 v50 v51 v52 v53 v178
  let v252 : FVec F S128x512 .f32 ← k0_part7 i arg1 harg1 arg2 harg2 arg3 harg3 arg4 harg4 arg5 harg5 arg6 harg6 arg7 harg7 arg8 harg8 arg9 harg9 arg10 harg10 v50 v51 v52 v53 v216 v217
  let v253 : Vec F S128x512 .f32 ← Prog.lift (.load arg10 (Rect.unit (s := S1032x512) ![776, 0] S128x512.size inb_S1032x512_S128x512_776_0).toLoadRect (View.loadsAt_vmem h_S128x512))
  Prog.lift (.store arg10 (Rect.unit (s := S1032x512) ![776, 0] S128x512.size inb_S1032x512_S128x512_776_0) (k0_pay1 v252) Finset.univ (View.stores_vmem_bits_univ h_S128x512 rfl) (.inl rfl))
  let v256 : Vec F S8x512 .f32 ← Prog.lift (.load arg10 (Rect.unit (s := S1032x512) ![1024, 0] S8x512.size inb_S1032x512_S8x512_1024_0).toLoadRect (View.loadsAt_vmem h_S8x512))
  let v257 : Vec F S8x512 .f32 ← Prog.lift (.load arg10 (Rect.unit (s := S1032x512) ![0, 0] S8x512.size inb_S1032x512_S8x512_0_0).toLoadRect (View.loadsAt_vmem h_S8x512))
  Prog.lift (.store arg10 (Rect.unit (s := S1032x512) ![0, 0] S8x512.size inb_S1032x512_S8x512_0_0) (k0_pay2 v256) Finset.univ (View.stores_vmem_bits_univ h_S8x512 rfl) (.inl rfl))
  let v260 : Vec F S128x4096 .bf16 ← Prog.lift (.load arg1 (Rect.unit (s := S1024x4096) ![896, 0] S128x4096.size inb_S1024x4096_S128x4096_896_0).toLoadRect (View.loadsAt_vmem h_S128x4096))
  let v261 : Vec F S4096x512 .bf16 ← Prog.lift (.load arg9 (Rect.unit (s := S4096x512) ![0, 0] S4096x512.size inb_S4096x512_S4096x512_0_0).toLoadRect (View.loadsAt_vmem h_S4096x512))
  let v263 : Vec F S128x512 .f32 ← Prog.lift (.load arg10 (Rect.unit (s := S1032x512) ![904, 0] S128x512.size inb_S1032x512_S128x512_904_0).toLoadRect (View.loadsAt_vmem h_S128x512))
  Prog.lift (.store arg10 (Rect.unit (s := S1032x512) ![904, 0] S128x512.size inb_S1032x512_S128x512_904_0) (k0_pay3 v260 v261) Finset.univ (View.stores_vmem_bits_univ h_S128x512 rfl) (.inl rfl))
  pure ⟨⟩

set_option maxHeartbeats 4000000 in
/-- The parts that always run, over any hidden buffer, weight buffer and input tile. -/
theorem rest_run (x0 : Vec F S1024x4096 .bf16) (wb : Vec F S4096x512 .bf16) (hb : Vec F S1032x512 .f32)
    (v50 v51 v52 v53 : FVec F S1x512 .f32) (v71 : FVec F S128x256 .f32)
    (hv : k0_pay14 v71 = k0_pay15 v50 v51 v52 v53 (hRows hb 8 0) (hRows hb 7 0) (hRows hb 6 0)) (E : Set ℕ) (K : PUnit → sProp 𝕄) :
    iprop(owns (c : Thread nD τ) arg1 fullShare x0 ∗ (∃ d, owns (c : Thread nD τ) arg8 fullShare d) ∗ owns (c : Thread nD τ) arg9 fullShare wb ∗ owns (c : Thread nD τ) arg10 fullShare hb
        ∗ (iprop(owns (c : Thread nD τ) arg1 fullShare x0 ∗ owns (c : Thread nD τ) arg8 fullShare (convOut hb v50 v51 v52 v53) ∗ owns (c : Thread nD τ) arg9 fullShare wb ∗ owns (c : Thread nD τ) arg10 fullShare (newH hb x0 wb)) -∗ K ⟨⟩))
      ⊢ wp frame (wpE (defs₀ (F := F)) Variants.none c none) E (rest i arg1 harg1 arg2 harg2 arg3 harg3 arg4 harg4 arg5 harg5 arg6 harg6 arg7 harg7 arg8 harg8 arg9 harg9 arg10 harg10 v50 v51 v52 v53 v71) K := by
  unfold rest
  simp only [k0_part3_eq_skeleton, k0_part4_eq_skeleton, k0_part5_eq_skeleton, k0_part6_eq_skeleton, k0_part7_eq_skeleton]
  unfold k0_part3_skel k0_part4_skel k0_part5_skel k0_part6_skel k0_part7_skel
  unfold owns
  iintro ⟨⟨%f0, %hf0, H0⟩, ⟨%d2, %f2, -, H2⟩, ⟨%f3, %hf3, H3⟩, ⟨%f4, %hf4, H4⟩, Hk⟩
  obtain rfl := harg1.eq_unread hf0; obtain rfl := harg9.eq_unread hf3; obtain rfl := harg10.eq_unread hf4
  sl_exec
  sl_step
  iapply Hk
  isplitl [H0]
  · iexists _; isplitr; · ipureintro; exact harg1.read_unread _
    iexact H0
  isplitl [H2]
  · iexists _; isplitr
    swap; · iexact H2
    ipureintro
    funext y
    refine View.read_writes_apply_of_pieces (v := arg8.view) _ (convOut hb v50 v51 v52 v53) _ ?_ y (View.cover_of_tiledL (s := S1024x256) _ S128x256.size (by sl_kernel_rfl) y)
    refine List.forall_mem_cons.2 ⟨fun x => conv_piece arg10 harg10 hb v50 v51 v52 v53 7 ![904, 0] ![903, 0] ![902, 0] ![896, 0] rfl rfl rfl rfl inb_S1032x512_S128x512_904_0 inb_S1032x512_S128x512_903_0 inb_S1032x512_S128x512_902_0 inb_S1024x256_S128x256_896_0 x, ?_⟩
    refine List.forall_mem_cons.2 ⟨fun x => conv_piece arg10 harg10 hb v50 v51 v52 v53 6 ![776, 0] ![775, 0] ![774, 0] ![768, 0] rfl rfl rfl rfl inb_S1032x512_S128x512_776_0 inb_S1032x512_S128x512_775_0 inb_S1032x512_S128x512_774_0 inb_S1024x256_S128x256_768_0 x, ?_⟩
    refine List.forall_mem_cons.2 ⟨fun x => conv_piece arg10 harg10 hb v50 v51 v52 v53 5 ![648, 0] ![647, 0] ![646, 0] ![640, 0] rfl rfl rfl rfl inb_S1032x512_S128x512_648_0 inb_S1032x512_S128x512_647_0 inb_S1032x512_S128x512_646_0 inb_S1024x256_S128x256_640_0 x, ?_⟩
    refine List.forall_mem_cons.2 ⟨fun x => conv_piece arg10 harg10 hb v50 v51 v52 v53 4 ![520, 0] ![519, 0] ![518, 0] ![512, 0] rfl rfl rfl rfl inb_S1032x512_S128x512_520_0 inb_S1032x512_S128x512_519_0 inb_S1032x512_S128x512_518_0 inb_S1024x256_S128x256_512_0 x, ?_⟩
    refine List.forall_mem_cons.2 ⟨fun x => conv_piece arg10 harg10 hb v50 v51 v52 v53 3 ![392, 0] ![391, 0] ![390, 0] ![384, 0] rfl rfl rfl rfl inb_S1032x512_S128x512_392_0 inb_S1032x512_S128x512_391_0 inb_S1032x512_S128x512_390_0 inb_S1024x256_S128x256_384_0 x, ?_⟩
    refine List.forall_mem_cons.2 ⟨fun x => conv_piece arg10 harg10 hb v50 v51 v52 v53 2 ![264, 0] ![263, 0] ![262, 0] ![256, 0] rfl rfl rfl rfl inb_S1032x512_S128x512_264_0 inb_S1032x512_S128x512_263_0 inb_S1032x512_S128x512_262_0 inb_S1024x256_S128x256_256_0 x, ?_⟩
    refine List.forall_mem_cons.2 ⟨fun x => conv_piece arg10 harg10 hb v50 v51 v52 v53 1 ![136, 0] ![135, 0] ![134, 0] ![128, 0] rfl rfl rfl rfl inb_S1032x512_S128x512_136_0 inb_S1032x512_S128x512_135_0 inb_S1032x512_S128x512_134_0 inb_S1024x256_S128x256_128_0 x, ?_⟩
    refine List.forall_mem_cons.2 ⟨fun x => (congrFun hv x).trans (convOut_slab hb v50 v51 v52 v53 0 inb_S1024x256_S128x256_0_0 x).symm, ?_⟩
    exact fun _ h => absurd h List.not_mem_nil
  isplitl [H3]
  · iexists _; isplitr; · ipureintro; exact harg9.read_unread _
    iexact H3
  iexists _; isplitr
  swap; · iexact H4
  ipureintro
  funext y
  refine View.read_writes_apply_of_pieces (v := arg10.view) _ (newH hb x0 wb) _ ?_ y (View.cover_of_tiledBy (s := S1032x512) _ ![8, 512] (by sl_kernel_rfl) y)
  refine List.forall_mem_cons.2 ⟨fun x => slab_piece arg1 harg1 arg9 harg9 hb x0 wb 7 ![896, 0] ![904, 0] rfl rfl inb_S1024x4096_S128x4096_896_0 inb_S4096x512_S4096x512_0_0 inb_S1032x512_S128x512_904_0 x, ?_⟩
  refine List.forall_mem_cons.2 ⟨fun x => tail_piece arg10 harg10 hb x0 wb inb_S1032x512_S8x512_1024_0 inb_S1032x512_S8x512_0_0 x, ?_⟩
  refine List.forall_mem_cons.2 ⟨fun x => slab_piece arg1 harg1 arg9 harg9 hb x0 wb 6 ![768, 0] ![776, 0] rfl rfl inb_S1024x4096_S128x4096_768_0 inb_S4096x512_S4096x512_0_0 inb_S1032x512_S128x512_776_0 x, ?_⟩
  refine List.forall_mem_cons.2 ⟨fun x => slab_piece arg1 harg1 arg9 harg9 hb x0 wb 5 ![640, 0] ![648, 0] rfl rfl inb_S1024x4096_S128x4096_640_0 inb_S4096x512_S4096x512_0_0 inb_S1032x512_S128x512_648_0 x, ?_⟩
  refine List.forall_mem_cons.2 ⟨fun x => slab_piece arg1 harg1 arg9 harg9 hb x0 wb 4 ![512, 0] ![520, 0] rfl rfl inb_S1024x4096_S128x4096_512_0 inb_S4096x512_S4096x512_0_0 inb_S1032x512_S128x512_520_0 x, ?_⟩
  refine List.forall_mem_cons.2 ⟨fun x => slab_piece arg1 harg1 arg9 harg9 hb x0 wb 3 ![384, 0] ![392, 0] rfl rfl inb_S1024x4096_S128x4096_384_0 inb_S4096x512_S4096x512_0_0 inb_S1032x512_S128x512_392_0 x, ?_⟩
  refine List.forall_mem_cons.2 ⟨fun x => slab_piece arg1 harg1 arg9 harg9 hb x0 wb 2 ![256, 0] ![264, 0] rfl rfl inb_S1024x4096_S128x4096_256_0 inb_S4096x512_S4096x512_0_0 inb_S1032x512_S128x512_264_0 x, ?_⟩
  refine List.forall_mem_cons.2 ⟨fun x => slab_piece arg1 harg1 arg9 harg9 hb x0 wb 1 ![128, 0] ![136, 0] rfl rfl inb_S1024x4096_S128x4096_128_0 inb_S4096x512_S4096x512_0_0 inb_S1032x512_S128x512_136_0 x, ?_⟩
  refine List.forall_mem_cons.2 ⟨fun x => slab_piece arg1 harg1 arg9 harg9 hb x0 wb 0 ![0, 0] ![8, 0] rfl rfl inb_S1024x4096_S128x4096_0_0 inb_S4096x512_S4096x512_0_0 inb_S1032x512_S128x512_8_0 x, ?_⟩
  exact fun _ h => absurd h List.not_mem_nil

end Cert.FfnInIdeal.Hand

end
-- ==== Proof.FfnInBody.lean ====
/-
The FFN input kernel's body at a step: its three conditions in terms of the step's number, and the body run
as a whole, its three parts one after the other.
-/
module

public import proofs.«01_k».proof.Proof.Gen.FfnInIdeal.Frame
public import proofs.«01_k».proof.Proof.Gen.FfnInIdeal.Skeleton
public import proofs.«01_k».proof.Proof.FfnInHeadB
public import proofs.«01_k».proof.Proof.FfnInRest
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight buffer a step multiplies by. -/
def wbHead (n : ℕ) (x1 x2 : Vec F S1x4096x256 .f32) (wb : Vec F S4096x512 .bf16) : Vec F S4096x512 .bf16 :=
  if n % 8 = 0 then castW x1 x2 else wb

/-- The hidden buffer a step convolves over. -/
def hbHead (n : ℕ) (hb : Vec F S1032x512 .f32) : Vec F S1032x512 .f32 :=
  if (n - 1) % 8 % 4 = 0 then zeroHalo (if n = 0 then k0_pay4 else hb) else if n = 0 then k0_pay4 else hb

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ (t.val - 1) % 8 % 4 = 0 :=
  (by decide +kernel : ∀ t : Fin grid0.N, cond2 (grid0.coords t) ↔ (t.val - 1) % 8 % 4 = 0)

variable (c : Dev nD) (i : grid0.Coords) (arg1 : Memref sig .tc .vmem S1024x4096 .bf16) (harg1 : arg1.IsWhole) (arg2 : Memref sig .tc .vmem S1x4096x256 .f32) (harg2 : arg2.IsWhole) (arg3 : Memref sig .tc .vmem S1x4096x256 .f32) (harg3 : arg3.IsWhole) (arg4 : Memref sig .tc .vmem S1x3x256 .f32) (harg4 : arg4.IsWhole) (arg5 : Memref sig .tc .vmem S1x3x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1024x256 .bf16) (harg8 : arg8.IsWhole) (arg9 : Memref sig .tc .vmem S4096x512 .bf16) (harg9 : arg9.IsWhole) (arg10 : Memref sig .tc .vmem S1032x512 .f32) (harg10 : arg10.IsWhole)

/-- The body is its first part, its second, and the rest. -/
theorem body_eq : cc0_ffn_in (F := F) i arg1 harg1 arg2 harg2 arg3 harg3 arg4 harg4 arg5 harg5 arg6 harg6 arg7 harg7 arg8 harg8 arg9 harg9 arg10 harg10
    = (k0_part1 i arg1 harg1 arg2 harg2 arg3 harg3 arg4 harg4 arg5 harg5 arg6 harg6 arg7 harg7 arg8 harg8 arg9 harg9 arg10 harg10 >>= fun r =>
        k0_part2 i arg1 harg1 arg2 harg2 arg3 harg3 arg4 harg4 arg5 harg5 arg6 harg6 arg7 harg7 arg8 harg8 arg9 harg9 arg10 harg10 r.1 r.2.1 r.2.2.1 r.2.2.2.1 r.2.2.2.2 >>= fun s =>
          rest i arg1 harg1 arg2 harg2 arg3 harg3 arg4 harg4 arg5 harg5 arg6 harg6 arg7 harg7 arg8 harg8 arg9 harg9 arg10 harg10 s.1 s.2.1 s.2.2.1 s.2.2.2.1 s.2.2.2.2) := rfl

/-- The first part at a step. -/
theorem part1_run (n : ℕ) (e0 : cond0 i ↔ n = 0) (e1 : cond1 i ↔ n % 8 = 0) (x1 x2 : Vec F S1x4096x256 .f32) (wb : Vec F S4096x512 .bf16) (hb : Vec F S1032x512 .f32) (E : Set ℕ) (K : _ → sProp 𝕄) :
    iprop(owns (c : Thread nD τ) arg2 fullShare x1 ∗ owns (c : Thread nD τ) arg3 fullShare x2 ∗ owns (c : Thread nD τ) arg9 fullShare wb ∗ owns (c : Thread nD τ) arg10 fullShare hb
        ∗ (iprop(owns (c : Thread nD τ) arg2 fullShare x1 ∗ owns (c : Thread nD τ) arg3 fullShare x2 ∗ owns (c : Thread nD τ) arg9 fullShare (wbHead n x1 x2 wb) ∗ owns (c : Thread nD τ) arg10 fullShare (if n = 0 then k0_pay4 else hb)) -∗ K (head1 i)))
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10) K := by
  unfold wbHead
  by_cases h0 : n = 0
  · have h1 : n % 8 = 0 := by omega
    rw [if_pos h0, if_pos h1]
    exact part1_A c i arg1 harg1 arg2 harg2 arg3 harg3 arg4 harg4 arg5 harg5 arg6 harg6 arg7 harg7 arg8 harg8 arg9 harg9 arg10 harg10 (e0.mpr h0) (e1.mpr h1) x1 x2 wb hb E K
  · rw [if_neg h0]
    by_cases h1 : n % 8 = 0
    · rw [if_pos h1]
      exact part1_B c i arg1 harg1 arg2 harg2 arg3 harg3 arg4 harg4 arg5 harg5 arg6 harg6 arg7 harg7 arg8 harg8 arg9 harg9 arg10 harg10 (fun h => h0 (e0.mp h)) (e1.mpr h1) x1 x2 wb hb E K
    · rw [if_neg h1]
      exact part1_N c i arg1 harg1 arg2 harg2 arg3 harg3 arg4 harg4 arg5 harg5 arg6 harg6 arg7 harg7 arg8 harg8 arg9 harg9 arg10 harg10 (fun h => h0 (e0.mp h)) (fun h => h1 (e1.mp h)) x1 x2 wb hb E K

/-- The second part at a step. -/
theorem part2_run (n : ℕ) (e2 : cond2 i ↔ (n - 1) % 8 % 4 = 0) (x3 x4 : Vec F S1x3x256 .f32) (x5 x6 : Vec F S1x1x256 .f32) (hb : Vec F S1032x512 .f32) (E : Set ℕ) (K : _ → sProp 𝕄) :
    iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (if n = 0 then k0_pay4 else hb)
        ∗ (iprop(owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg10 fullShare (hbHead n hb)) -∗ K ⟨k0_pay9 x5 x6, k0_pay10 x3 x4, k0_pay11 x3 x4, k0_pay12 x3 x4, k0_pay13 x3 x4 x5 x6 (hRows (hbHead n hb) 8 0) (hRows (hbHead n hb) 7 0) (hRows (hbHead n hb) 6 0)⟩))
      ⊢ wp frame (wpE (defs₀ (F := F)) Variants.none c none) E (k0_part2 (F := F) i arg1 harg1 arg2 harg2 arg3 harg3 arg4 harg4 arg5 harg5 arg6 harg6 arg7 harg7 arg8 harg8 arg9 harg9 arg10 harg10 (head1 i).1 (head1 i).2.1 (head1 i).2.2.1 (head1 i).2.2.2.1 (head1 i).2.2.2.2) K := by
  unfold hbHead
  by_cases h2 : (n - 1) % 8 % 4 = 0
  · rw [if_pos h2]
    exact part2_Z c i arg1 harg1 arg2 harg2 arg3 harg3 arg4 harg4 arg5 harg5 arg6 harg6 arg7 harg7 arg8 harg8 arg9 harg9 arg10 harg10 _ _ _ _ _ (e2.mpr h2) x3 x4 x5 x6 _ E K
  · rw [if_neg h2]
    exact part2_N c i arg1 harg1 arg2 harg2 arg3 harg3 arg4 harg4 arg5 harg5 arg6 harg6 arg7 harg7 arg8 harg8 arg9 harg9 arg10 harg10 _ _ _ _ _ (fun h => h2 (e2.mp h)) x3 x4 x5 x6 _ E K

/-- THE BODY AT A STEP: the inputs kept, the output tile and both scratch buffers at what the step's functions give. -/
theorem body_run (n : ℕ) (e0 : cond0 i ↔ n = 0) (e1 : cond1 i ↔ n % 8 = 0) (e2 : cond2 i ↔ (n - 1) % 8 % 4 = 0)
    (x0 : Vec F S1024x4096 .bf16) (x1 x2 : Vec F S1x4096x256 .f32) (x3 x4 : Vec F S1x3x256 .f32) (x5 x6 : Vec F S1x1x256 .f32)
    (wb : Vec F S4096x512 .bf16) (hb : Vec F S1032x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare wb ∗ owns (c : Thread nD τ) arg10 fullShare hb
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (convOut (hbHead n hb) (k0_pay9 x5 x6) (k0_pay10 x3 x4) (k0_pay11 x3 x4) (k0_pay12 x3 x4))
            ∗ owns (c : Thread nD τ) arg9 fullShare (wbHead n x1 x2 wb) ∗ owns (c : Thread nD τ) arg10 fullShare (newH (hbHead n hb) x0 (wbHead n x1 x2 wb))) -∗ K ⟨⟩))
      ⊢ wp frame (wpE (defs₀ (F := F)) Variants.none c none) E (cc0_ffn_in (F := F) i arg1 harg1 arg2 harg2 arg3 harg3 arg4 harg4 arg5 harg5 arg6 harg6 arg7 harg7 arg8 harg8 arg9 harg9 arg10 harg10) K := by
  rw [body_eq, wp_bind]
  iintro ⟨H1, H2, H3, H4, H5, H6, H7, H8, H9, H10, Hk⟩
  iapply (part1_run c i arg1 harg1 arg2 harg2 arg3 harg3 arg4 harg4 arg5 harg5 arg6 harg6 arg7 harg7 arg8 harg8 arg9 harg9 arg10 harg10 n e0 e1 x1 x2 wb hb E _)
  isplitl [H2]; · iexact H2
  isplitl [H3]; · iexact H3
  isplitl [H9]; · iexact H9
  isplitl [H10]; · iexact H10
  iintro ⟨H2, H3, H9, H10⟩
  rw [wp_bind]
  iapply (part2_run c i arg1 harg1 arg2 harg2 arg3 harg3 arg4 harg4 arg5 harg5 arg6 harg6 arg7 harg7 arg8 harg8 arg9 harg9 arg10 harg10 n e2 x3 x4 x5 x6 hb E _)
  isplitl [H4]; · iexact H4
  isplitl [H5]; · iexact H5
  isplitl [H6]; · iexact H6
  isplitl [H7]; · iexact H7
  isplitl [H10]; · iexact H10
  iintro ⟨H4, H5, H6, H7, H10⟩
  iapply (rest_run c i arg1 harg1 arg2 harg2 arg3 harg3 arg4 harg4 arg5 harg5 arg6 harg6 arg7 harg7 arg8 harg8 arg9 harg9 arg10 harg10 x0 (wbHead n x1 x2 wb) (hbHead n hb) (k0_pay9 x5 x6) (k0_pay10 x3 x4) (k0_pay11 x3 x4) (k0_pay12 x3 x4) _ rfl E K)
  isplitl [H1]; · iexact H1
  isplitl [H8]; · iexact H8
  isplitl [H9]; · iexact H9
  isplitl [H10]; · iexact H10
  iintro ⟨H1, H8, H9, H10⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.FfnInIdeal.Hand

end
-- ==== Proof.FfnInFrame.lean ====
/-
The FFN input kernel run over its grid: what its two scratch buffers hold after every step, the pipeline's
proof data, and the frame. Stated over any arithmetic, so that the kernel's own frame is this one at the
machine's numbers.
-/
module

public import proofs.«01_k».proof.Proof.Gen.FfnInIdeal.Frame
public import proofs.«01_k».proof.Proof.Gen.FfnInIdeal.Skeleton
public import proofs.«01_k».proof.Proof.FfnInBody
public import proofs.«01_k».proof.Proof.Gen.FfnInIdeal.Launch
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at a step. -/
abbrev ms0 (t : Fin cfg0.N) : Memref sig .tc .vmem S1024x4096 .bf16 := win0_0.stage (cfg0.slots t 0)
abbrev ms1 (t : Fin cfg0.N) : Memref sig .tc .vmem S1x4096x256 .f32 := win0_1.stage (cfg0.slots t 1)
abbrev ms2 (t : Fin cfg0.N) : Memref sig .tc .vmem S1x4096x256 .f32 := win0_2.stage (cfg0.slots t 2)
abbrev ms3 (t : Fin cfg0.N) : Memref sig .tc .vmem S1x3x256 .f32 := win0_3.stage (cfg0.slots t 3)
abbrev ms4 (t : Fin cfg0.N) : Memref sig .tc .vmem S1x3x256 .f32 := win0_4.stage (cfg0.slots t 4)
abbrev ms5 (t : Fin cfg0.N) : Memref sig .tc .vmem S1x1x256 .f32 := win0_5.stage (cfg0.slots t 5)
abbrev ms6 (t : Fin cfg0.N) : Memref sig .tc .vmem S1x1x256 .f32 := win0_6.stage (cfg0.slots t 6)
abbrev ms7 (t : Fin cfg0.N) : Memref sig .tc .vmem S1024x256 .bf16 := win0_7.stage (cfg0.slots t 7)

abbrev sc0 : Memref sig .tc .vmem S4096x512 .bf16 := Memref.whole cc0_scratch0
abbrev sc1 : Memref sig .tc .vmem S1032x512 .f32 := Memref.whole cc0_scratch1

/-- What the launch hands the pipeline, the two scratch buffers as memrefs. -/
theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The two scratch buffers, step by step -/

/-- The weight buffer after step `n`, from what the step found. -/
def wbStep (c : Dev nD) (t : Fin cfg0.N) (wb : Vec F S4096x512 .bf16) : Vec F S4096x512 .bf16 :=
  wbHead t.val (iblk m c 1 t) (iblk m c 2 t) wb

/-- The hidden buffer after step `n`, from what the step found. -/
def hbStep (c : Dev nD) (t : Fin cfg0.N) (wb : Vec F S4096x512 .bf16) (hb : Vec F S1032x512 .f32) : Vec F S1032x512 .f32 :=
  newH (hbHead t.val hb) (iblk m c 0 t) (wbStep m c t wb)

/-- Both after step `n`; what they held before the first step does not matter. -/
def stAt (c : Dev nD) : (n : ℕ) → n < cfg0.N → Vec F S4096x512 .bf16 × Vec F S1032x512 .f32
  | 0, h => (wbStep m c ⟨0, h⟩ (castW (iblk m c 1 ⟨0, h⟩) (iblk m c 2 ⟨0, h⟩)), hbStep m c ⟨0, h⟩ (castW (iblk m c 1 ⟨0, h⟩) (iblk m c 2 ⟨0, h⟩)) k0_pay4)
  | n + 1, h => (wbStep m c ⟨n + 1, h⟩ (stAt c n (Nat.lt_of_succ_lt h)).1, hbStep m c ⟨n + 1, h⟩ (stAt c n (Nat.lt_of_succ_lt h)).1 (stAt c n (Nat.lt_of_succ_lt h)).2)

/-- The hidden buffer step `n` found. -/
def hbFound (c : Dev nD) : (n : ℕ) → n < cfg0.N → Vec F S1032x512 .f32
  | 0, _ => k0_pay4
  | n + 1, h => (stAt m c n (Nat.lt_of_succ_lt h)).2

/-- The output tile a step leaves. -/
def outAt (c : Dev nD) (t : Fin cfg0.N) : Vec F S1024x256 .bf16 :=
  convOut (hbHead t.val (hbFound m c t.val t.isLt)) (k0_pay9 (iblk m c 5 t) (iblk m c 6 t)) (k0_pay10 (iblk m c 3 t) (iblk m c 4 t)) (k0_pay11 (iblk m c 3 t) (iblk m c 4 t)) (k0_pay12 (iblk m c 3 t) (iblk m c 4 t))

theorem wbHead_zero (x1 x2 : Vec F S1x4096x256 .f32) (wb wb' : Vec F S4096x512 .bf16) : wbHead 0 x1 x2 wb = wbHead 0 x1 x2 wb' := rfl
theorem hbHead_zero (hb hb' : Vec F S1032x512 .f32) : hbHead 0 hb = hbHead 0 hb' := rfl

/-- What the pipeline holds before step `n`: at first the scratch buffers at anything, then at what the step before left. -/
def PhiS (c : Dev nD) : (n : ℕ) → n ≤ cfg0.N → sProp 𝕄
  | 0, _ => Pipeline.ΦA spec0 c
  | n + 1, h => iprop(iprop(owns (c : Thread nD τ) sc0 fullShare (stAt m c n h).1 ∗ owns (c : Thread nD τ) sc1 fullShare (stAt m c n h).2) ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body at a step -/

/-- What the body is called with at a step, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- The body at a step, the scratch buffers at what it finds there. -/
theorem body_at (c : Dev nD) (t : Fin cfg0.N) (wb : Vec F S4096x512 .bf16) (hb : Vec F S1032x512 .f32)
    (ew : wbStep m c t wb = (stAt m c t.val t.isLt).1) (eh : hbStep m c t wb hb = (stAt m c t.val t.isLt).2)
    (eo : hbHead t.val hb = hbHead t.val (hbFound m c t.val t.isLt)) :
    iprop(iprop(iprop(owns (c : Thread nD τ) sc0 fullShare wb ∗ owns (c : Thread nD τ) sc1 fullShare hb) ∗ (∃ r, prngReg c r)) ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
      ⊢ wp frame (wpE (defs₀ (F := F)) Variants.none c none) Set.univ (bodyAt0 t) (fun _ => bodyPost m c t) := by
  unfold bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = iprop(iprop(owns (c : Thread nD τ) sc0 fullShare (stAt m c t.val t.isLt).1 ∗ owns (c : Thread nD τ) sc1 fullShare (stAt m c t.val t.isLt).2) ∗ (∃ r, prngReg c r)) from rfl, ← ew, ← eh]
  unfold outAt
  rw [← eo]
  unfold hbStep wbStep
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) sc0 (Memref.isWhole_whole _) sc1 (Memref.isWhole_whole _) t.val (hcond0 t) (hcond1 t) (hcond2 t)
    (iblk m c 0 t) (iblk m c 1 t) (iblk m c 2 t) (iblk m c 3 t) (iblk m c 4 t) (iblk m c 5 t) (iblk m c 6 t) wb hb Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre
  rw [PhiS_castSucc]
  obtain ⟨n, hn⟩ := t
  cases n with
  | zero =>
    rw [show PhiS m c (⟨0, hn⟩ : Fin cfg0.N).val (Nat.le_of_lt (⟨0, hn⟩ : Fin cfg0.N).isLt) = Pipeline.ΦA spec0 c from rfl, PhiA0_eq]
    iintro ⟨⟨⟨⟨%wb, HS0⟩, ⟨%hb, HS1⟩⟩, Hg⟩, Hr⟩
    iapply (body_at m c ⟨0, hn⟩ wb hb rfl rfl rfl)
    isplitl [HS0 HS1 Hg]
    · isplitl [HS0 HS1]
      · isplitl [HS0]; · iexact HS0
        iexact HS1
      iexact Hg
    iexact Hr
  | succ n => exact body_at m c ⟨n + 1, hn⟩ _ _ rfl rfl rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = iprop(iprop(owns (c : Thread nD τ) sc0 fullShare (stAt m c 448 (by decide +kernel)).1 ∗ owns (c : Thread nD τ) sc1 fullShare (stAt m c 448 (by decide +kernel)).2) ∗ (∃ r, prngReg c r)) from rfl, PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
/-- The launch: every array of the pipeline ends at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: every execution ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnInIdeal.Hand

end
-- ==== Proof.FfnInSpec.lean ====
/-
  What the FFN input call computes, row by row: the hidden product, the causal convolution of its last three rows
  within a sequence of 4096 rows, and the gate.
-/
module

public import Idealize.ShloMosaic.Lib.ValueIdx
public import Idealize.ShloMosaic.PureOps.Ideal.Laws

@[expose] public section

noncomputable section

namespace Cert.FfnInSpec

open Idealize.ShloMosaic

variable (x : FVec Ideal ⟨2, ![8192, 4096]⟩ .bf16) (w : FVec Ideal ⟨3, ![4, 4096, 28672]⟩ .f32)
  (cw : FVec Ideal ⟨3, ![4, 3, 28672]⟩ .f32) (cb : FVec Ideal ⟨2, ![4, 28672]⟩ .f32)

/-- The hidden product at a row and a column: `x @ w[1]`. -/
def hid (R : ℕ) (C : Fin 28672) : EReal :=
  if h : R < 8192 then ∑ k : Fin 4096, (x (ValueIdx.ix2 ⟨R, h⟩ k) : EReal) * w (ValueIdx.ix3 1 k C) else 0

/-- The hidden row `d` rows back in the same sequence, zero before the sequence begins. -/
def past (R d : ℕ) (C : Fin 28672) : EReal := if R % 4096 < d then 0 else hid x w (R - d) C

/-- The convolution at a row and a column, the bias first and the oldest row first. -/
def conv (R : ℕ) (C : Fin 28672) : EReal :=
  (((cb (ValueIdx.ix2 1 C) : EReal) + cw (ValueIdx.ix3 1 0 C) * past x w R 2 C) + cw (ValueIdx.ix3 1 1 C) * past x w R 1 C)
    + cw (ValueIdx.ix3 1 2 C) * past x w R 0 C

/-- The gated result. -/
def spec (R : ℕ) (C : Fin 14336) : EReal :=
  (conv x w cw cb R ⟨C.val, by omega⟩ * Ideal.logistic (conv x w cw cb R ⟨C.val, by omega⟩))
    * conv x w cw cb R ⟨14336 + C.val, by omega⟩

end Cert.FfnInSpec

end
-- ==== Proof.FfnInRef.lean ====
/-
  The FFN input call's reference leaves the specification.
-/
module

public import proofs.«01_k».proof.Proof.FfnInSpec
public import proofs.«01_k».proof.Proof.Gen.FfnInRefIdeal.Read
public import Idealize.ShloMosaic.Lib.KernelVsHost

@[expose] public section

set_option maxRecDepth 16384

noncomputable section

namespace Cert.FfnInRefIdeal.Read

open Cert.FfnInRefIdeal Cert.FfnInRefIdeal.Gen Idealize.ShloMosaic Idealize.ShloMosaic.TcCoe
open Cert.FfnInSpec

variable (x : FVec Ideal S8192x4096 .bf16) (w : FVec Ideal S4x4096x28672 .f32) (cw : FVec Ideal S4x3x28672 .f32)
  (cb : FVec Ideal S4x28672 .f32)

/-- The reference's product. -/
theorem hid_eq (i : S2x4096x28672.Idx) :
    val_main_v8 (F := Ideal) x w i = hid x w (4096 * (i 0).val + (i 1).val) ⟨(i 2).val, (i 2).isLt⟩ := by
  have h0 : (i 0).val < 2 := (i 0).isLt
  have h1 : (i 1).val < 4096 := (i 1).isLt
  have h2 : (i 2).val < 28672 := (i 2).isLt
  rw [val_main_v8_apply]
  unfold hid
  rw [dif_pos (by omega)]
  refine Finset.sum_congr rfl fun k _ => ?_
  have hk := k.isLt
  rw [val_main_v7_apply, val_main_v6_apply, val_main_v1_apply, val_main_v0_apply]
  refine congrArg₂ (fun a b : EReal => a * b) (congrArg x (funext fun a => Fin.ext ?_)) (congrArg w (funext fun a => Fin.ext ?_))
  · match a with
    | ⟨0, _⟩ => show (((i 0).val * 4096 + (i 1).val) * 4096 + k.val) / 4096 = 4096 * (i 0).val + (i 1).val; omega
    | ⟨1, _⟩ => show (((i 0).val * 4096 + (i 1).val) * 4096 + k.val) % 4096 = k.val; omega
  · match a with
    | ⟨0, _⟩ => rfl
    | ⟨1, _⟩ => show (k.val * 28672 + (i 2).val) / 28672 % 4096 = k.val; omega
    | ⟨2, _⟩ => show (k.val * 28672 + (i 2).val) % 28672 = (i 2).val; omega

/-- The padded product, two rows of zeros before each sequence. -/
theorem past_eq (i : S2x4098x28672.Idx) (d t : ℕ) (hd : d ≤ 2) (ht : t < 4096) (h1 : (i 1).val = t + (2 - d)) :
    val_main_v9 (F := Ideal) x w i = past x w (4096 * (i 0).val + t) d ⟨(i 2).val, (i 2).isLt⟩ := by
  have h0 : (i 0).val < 2 := (i 0).isLt
  unfold val_main_v9 past
  by_cases h : t < d
  · rw [if_pos (by omega)]
    rw [pad_apply_of_not_inside _ _ _ _ _ _ _ i 1 (by
      show ¬(2 ≤ (i 1).val ∧ _)
      omega)]
    rw [val_main_call0_v0_apply, val_main_c_apply]
    show ((((0#32 : BitVec 32).toInt : ℝ)) : EReal) = 0
    simp
  · rw [if_neg (by omega)]
    have h2 : (i 2).val < 28672 := (i 2).isLt
    have h3 : t - d < 4096 := by omega
    let k : S2x4096x28672.Idx := ValueIdx.ix3 (⟨(i 0).val, h0⟩ : Fin 2) (⟨t - d, h3⟩ : Fin 4096) (⟨(i 2).val, h2⟩ : Fin 28672)
    refine (pad_apply_of_inside (s := S2x4096x28672) _ _ _ _ _ _ _ i k (fun a => by
      match a with
      | ⟨0, _⟩ => show (i 0).val = 0 + (i 0).val * 1; omega
      | ⟨1, _⟩ => show (i 1).val = 2 + (t - d) * 1; omega
      | ⟨2, _⟩ => show (i 2).val = 0 + (i 2).val * 1; omega)).trans ?_
    rw [hid_eq]
    exact congrArg (fun R => hid x w R _) (show 4096 * (i 0).val + (t - d) = 4096 * (i 0).val + t - d by omega)

/-- The reference's convolution. -/
theorem conv_eq (i : S2x4096x28672.Idx) :
    val_main_v32 (F := Ideal) x w cw cb i = conv x w cw cb (4096 * (i 0).val + (i 1).val) ⟨(i 2).val, (i 2).isLt⟩ := by
  have h1 : (i 1).val < 4096 := (i 1).isLt
  have h2 : (i 2).val < 28672 := (i 2).isLt
  rw [val_main_v32_apply, val_main_v31_apply, val_main_v25_apply, val_main_v24_apply, val_main_v18_apply, val_main_v15_apply,
    val_main_v28_apply, val_main_v21_apply, val_main_v12_apply,
    past_eq x w (idx_main_v28 i) 0 (i 1).val (by omega) h1 (by show 2 + (i 1).val = _; omega),
    past_eq x w (idx_main_v21 i) 1 (i 1).val (by omega) h1 (by show 1 + (i 1).val = _; omega),
    past_eq x w (idx_main_v12 i) 2 (i 1).val (by omega) h1 (by show (i 1).val = _; omega),
    val_main_v14_apply, val_main_v13_apply, val_main_v11_apply, val_main_v10_apply, val_main_v3_apply, val_main_v2_apply,
    val_main_v17_apply, val_main_v16_apply, val_main_v5_apply, val_main_v4_apply,
    val_main_v23_apply, val_main_v22_apply, val_main_v20_apply, val_main_v19_apply, val_main_v3_apply, val_main_v2_apply,
    val_main_v30_apply, val_main_v29_apply, val_main_v27_apply, val_main_v26_apply, val_main_v3_apply, val_main_v2_apply]
  unfold conv
  refine congrArg₂ (fun a b : EReal => a + b) (congrArg₂ (fun a b : EReal => a + b) (congrArg₂ (fun a b : EReal => a + b)
    (congrArg cb (funext fun a => Fin.ext ?_)) (congrArg (fun a : EReal => a * _) (congrArg cw (funext fun a => Fin.ext ?_))))
    (congrArg (fun a : EReal => a * _) (congrArg cw (funext fun a => Fin.ext ?_))))
    (congrArg (fun a : EReal => a * _) (congrArg cw (funext fun a => Fin.ext ?_)))
  · match a with
    | ⟨0, _⟩ => rfl
    | ⟨1, _⟩ => show (i 2).val % 28672 = (i 2).val; omega
  · match a with
    | ⟨0, _⟩ => rfl
    | ⟨1, _⟩ => show (0 * 28672 + (i 2).val % 28672) / 28672 % 3 = 0; omega
    | ⟨2, _⟩ => show (0 * 28672 + (i 2).val % 28672) % 28672 = (i 2).val; omega
  · match a with
    | ⟨0, _⟩ => rfl
    | ⟨1, _⟩ => show ((1 + 0) * 28672 + (i 2).val % 28672) / 28672 % 3 = 1; omega
    | ⟨2, _⟩ => show ((1 + 0) * 28672 + (i 2).val % 28672) % 28672 = (i 2).val; omega
  · match a with
    | ⟨0, _⟩ => rfl
    | ⟨1, _⟩ => show ((2 + 0) * 28672 + (i 2).val % 28672) / 28672 % 3 = 2; omega
    | ⟨2, _⟩ => show ((2 + 0) * 28672 + (i 2).val % 28672) % 28672 = (i 2).val; omega

/-- The reference's `silu` is the gate times its logistic. -/
theorem silu_eq (i : S2x4096x14336.Idx) :
    val_main_v35 (F := Ideal) x w cw cb i
      = (val_main_v33 (F := Ideal) x w cw cb i : EReal) * Ideal.logistic (val_main_v33 (F := Ideal) x w cw cb i) := by
  have one : (Ideal.ofBits .f32 0x3F800000#32 : EReal) = 1 := by
    simp [Ideal.ofBits, Ideal.ieee]
    rw [← EReal.coe_mul]; norm_num
  rw [val_main_v35_apply, val_main_call1_v5_apply, val_main_call1_v4_apply, val_main_call1_cst_0_apply, val_main_call1_v3_apply,
    val_main_call1_v2_apply, val_main_call1_cst_apply, val_main_call1_v1_apply, val_main_call1_v0_apply]
  show (_ : EReal) * Ideal.div (Ideal.ofBits .f32 0x3F800000#32) (Ideal.ofBits .f32 0x3F800000#32 + Ideal.exp (-_)) = _
  rw [one]
  rfl

/-- THE REFERENCE'S RESULT. -/
theorem spec_eq (i : S8192x14336.Idx) :
    val_main_v38 (F := Ideal) x w cw cb i = spec x w cw cb (i 0).val ⟨(i 1).val, (i 1).isLt⟩ := by
  have h0 : (i 0).val < 8192 := (i 0).isLt
  have h1 : (i 1).val < 14336 := (i 1).isLt
  rw [val_main_v38_apply, val_main_v37_apply, val_main_v36_apply, silu_eq, val_main_v33_apply, val_main_v34_apply, conv_eq, conv_eq]
  unfold spec
  have hR : 4096 * (((i 0).val * 14336 + (i 1).val) / 58720256) + ((i 0).val * 14336 + (i 1).val) / 14336 % 4096 = (i 0).val := by omega
  have hC : ((i 0).val * 14336 + (i 1).val) % 14336 = (i 1).val := by omega
  have e : ∀ (R : ℕ) (C C' : Fin 28672), R = (i 0).val → C.val = C'.val → conv x w cw cb R C = conv x w cw cb (i 0).val C' := by
    intro R C C' hr hc; subst hr; rw [Fin.ext hc]
  have e1 := e (4096 * ((idx_main_v33 (idx_main_v37 i)) 0).val + ((idx_main_v33 (idx_main_v37 i)) 1).val)
    ⟨((idx_main_v33 (idx_main_v37 i)) 2).val, ((idx_main_v33 (idx_main_v37 i)) 2).isLt⟩ ⟨(i 1).val, by omega⟩
    hR hC
  have e2 := e (4096 * ((idx_main_v34 (idx_main_v37 i)) 0).val + ((idx_main_v34 (idx_main_v37 i)) 1).val)
    ⟨((idx_main_v34 (idx_main_v37 i)) 2).val, ((idx_main_v34 (idx_main_v37 i)) 2).isLt⟩ ⟨14336 + (i 1).val, by omega⟩
    hR (by show 14336 + ((i 0).val * 14336 + (i 1).val) % 14336 = 14336 + (i 1).val; omega)
  exact congrArg₂ (fun a b : EReal => a * b) (congrArg₂ (fun a b : EReal => a * b) e1 (congrArg Ideal.logistic e1)) e2

end Cert.FfnInRefIdeal.Read

end
-- ==== Proof.FfnInBlocks.lean ====
/-
The blocks the FFN input kernel's windows stage at a step, as rows and columns of the arguments.
-/
module

public import proofs.«01_k».proof.Proof.Gen.FfnInIdeal.Frame
public import proofs.«01_k».proof.Proof.Gen.FfnInIdeal.Skeleton
public import proofs.«01_k».proof.Proof.FfnInFrame
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (c : Dev nD)

/-- The arguments. -/
abbrev X : FVec Ideal S8192x4096 .bf16 := m ((c : Thread nD τ).loc main_arg0)
abbrev W : FVec Ideal S4x4096x28672 .f32 := m ((c : Thread nD τ).loc main_arg1)
abbrev CW : FVec Ideal S4x3x28672 .f32 := m ((c : Thread nD τ).loc main_arg2)
abbrev CB : FVec Ideal S4x28672 .f32 := m ((c : Thread nD τ).loc main_arg3)

/-- The blocks staged at a step. -/
abbrev b0 (t : Fin cfg0.N) : FVec Ideal S1024x4096 .bf16 := iblk m c 0 t
abbrev b1 (t : Fin cfg0.N) : FVec Ideal S1x4096x256 .f32 := iblk m c 1 t
abbrev b2 (t : Fin cfg0.N) : FVec Ideal S1x4096x256 .f32 := iblk m c 2 t
abbrev b3 (t : Fin cfg0.N) : FVec Ideal S1x3x256 .f32 := iblk m c 3 t
abbrev b4 (t : Fin cfg0.N) : FVec Ideal S1x3x256 .f32 := iblk m c 4 t
abbrev b5 (t : Fin cfg0.N) : FVec Ideal S1x1x256 .f32 := iblk m c 5 t
abbrev b6 (t : Fin cfg0.N) : FVec Ideal S1x1x256 .f32 := iblk m c 6 t

/-- The windows' block indices: products run one step ahead of the convolution. -/
theorem blocks_at : ∀ t : Fin cfg0.N,
    (win0_0.index t (0 : Fin 2) = min t.val 447 % 8 ∧ win0_0.index t (1 : Fin 2) = 0)
    ∧ (win0_1.index t (0 : Fin 3) = 1 ∧ win0_1.index t (1 : Fin 3) = 0 ∧ win0_1.index t (2 : Fin 3) = min t.val 447 / 8)
    ∧ (win0_2.index t (0 : Fin 3) = 1 ∧ win0_2.index t (1 : Fin 3) = 0 ∧ win0_2.index t (2 : Fin 3) = min t.val 447 / 8 + 56)
    ∧ (win0_3.index t (0 : Fin 3) = 1 ∧ win0_3.index t (1 : Fin 3) = 0 ∧ win0_3.index t (2 : Fin 3) = (t.val - 1) / 8)
    ∧ (win0_4.index t (0 : Fin 3) = 1 ∧ win0_4.index t (1 : Fin 3) = 0 ∧ win0_4.index t (2 : Fin 3) = (t.val - 1) / 8 + 56)
    ∧ (win0_5.index t (0 : Fin 3) = 1 ∧ win0_5.index t (1 : Fin 3) = 0 ∧ win0_5.index t (2 : Fin 3) = (t.val - 1) / 8)
    ∧ (win0_6.index t (0 : Fin 3) = 1 ∧ win0_6.index t (1 : Fin 3) = 0 ∧ win0_6.index t (2 : Fin 3) = (t.val - 1) / 8 + 56)
    ∧ (win0_7.index t (0 : Fin 2) = (t.val - 1) % 8 ∧ win0_7.index t (1 : Fin 2) = (t.val - 1) / 8) :=
  (by decide +kernel : ∀ t : Fin grid0.N, _)

/-- The input rows. -/
theorem b0_apply (t : Fin cfg0.N) (r : Fin 1024) (k : Fin 4096) (R : Fin 8192) (hR : R.val = 1024 * (min t.val 447 % 8) + r.val) :
    b0 m c t (ValueIdx.ix2 r k) = X m c (ValueIdx.ix2 R k) := by
  unfold b0 iblk
  rw [View.read_apply]
  show V m c main_arg0 _ = _
  rw [V_main_arg0]
  congr 1
  funext a
  apply Fin.ext
  obtain ⟨⟨e00, e01⟩, ⟨e10, e11, e12⟩, ⟨e20, e21, e22⟩, ⟨e30, e31, e32⟩, ⟨e40, e41, e42⟩, ⟨e50, e51, e52⟩, ⟨e60, e61, e62⟩, ⟨e70, e71⟩⟩ := blocks_at t
  match a with
  | ⟨0, _⟩ => show win0_0.index t 0 * 1024 + 1 * r.val = R.val; rw [e00]; omega
  | ⟨1, _⟩ => show win0_0.index t 1 * 4096 + 1 * k.val = k.val; rw [e01]; omega

/-- The gate's weights and the up-projection's. -/
theorem b1_apply (t : Fin cfg0.N) (k : Fin 4096) (l : Fin 256) (C : Fin 28672) (hC : C.val = min t.val 447 / 8 * 256 + l.val) :
    b1 m c t (ValueIdx.ix3 0 k l) = W m c (ValueIdx.ix3 1 k C) := by
  unfold b1 iblk
  rw [View.read_apply]
  show V m c main_arg1 _ = _
  rw [V_main_arg1]
  congr 1
  funext a
  apply Fin.ext
  obtain ⟨⟨e00, e01⟩, ⟨e10, e11, e12⟩, ⟨e20, e21, e22⟩, ⟨e30, e31, e32⟩, ⟨e40, e41, e42⟩, ⟨e50, e51, e52⟩, ⟨e60, e61, e62⟩, ⟨e70, e71⟩⟩ := blocks_at t
  match a with
  | ⟨0, _⟩ => show win0_1.index t 0 * 1 + 1 * 0 = 1; rw [e10]
  | ⟨1, _⟩ => show win0_1.index t 1 * 4096 + 1 * k.val = k.val; rw [e11]; omega
  | ⟨2, _⟩ => show win0_1.index t 2 * 256 + 1 * l.val = C.val; rw [e12]; omega

theorem b2_apply (t : Fin cfg0.N) (k : Fin 4096) (l : Fin 256) (C : Fin 28672) (hC : C.val = 14336 + (min t.val 447 / 8 * 256 + l.val)) :
    b2 m c t (ValueIdx.ix3 0 k l) = W m c (ValueIdx.ix3 1 k C) := by
  unfold b2 iblk
  rw [View.read_apply]
  show V m c main_arg1 _ = _
  rw [V_main_arg1]
  congr 1
  funext a
  apply Fin.ext
  obtain ⟨⟨e00, e01⟩, ⟨e10, e11, e12⟩, ⟨e20, e21, e22⟩, ⟨e30, e31, e32⟩, ⟨e40, e41, e42⟩, ⟨e50, e51, e52⟩, ⟨e60, e61, e62⟩, ⟨e70, e71⟩⟩ := blocks_at t
  match a with
  | ⟨0, _⟩ => show win0_2.index t 0 * 1 + 1 * 0 = 1; rw [e20]
  | ⟨1, _⟩ => show win0_2.index t 1 * 4096 + 1 * k.val = k.val; rw [e21]; omega
  | ⟨2, _⟩ => show win0_2.index t 2 * 256 + 1 * l.val = C.val; rw [e22]; omega

/-- The convolution's weights. -/
theorem b3_apply (t : Fin cfg0.N) (j : Fin 3) (l : Fin 256) (C : Fin 28672) (hC : C.val = (t.val - 1) / 8 * 256 + l.val) :
    b3 m c t (ValueIdx.ix3 0 j l) = CW m c (ValueIdx.ix3 1 j C) := by
  unfold b3 iblk
  rw [View.read_apply]
  show V m c main_arg2 _ = _
  rw [V_main_arg2]
  congr 1
  funext a
  apply Fin.ext
  obtain ⟨⟨e00, e01⟩, ⟨e10, e11, e12⟩, ⟨e20, e21, e22⟩, ⟨e30, e31, e32⟩, ⟨e40, e41, e42⟩, ⟨e50, e51, e52⟩, ⟨e60, e61, e62⟩, ⟨e70, e71⟩⟩ := blocks_at t
  match a with
  | ⟨0, _⟩ => show win0_3.index t 0 * 1 + 1 * 0 = 1; rw [e30]
  | ⟨1, _⟩ => show win0_3.index t 1 * 3 + 1 * j.val = j.val; rw [e31]; omega
  | ⟨2, _⟩ => show win0_3.index t 2 * 256 + 1 * l.val = C.val; rw [e32]; omega

theorem b4_apply (t : Fin cfg0.N) (j : Fin 3) (l : Fin 256) (C : Fin 28672) (hC : C.val = 14336 + ((t.val - 1) / 8 * 256 + l.val)) :
    b4 m c t (ValueIdx.ix3 0 j l) = CW m c (ValueIdx.ix3 1 j C) := by
  unfold b4 iblk
  rw [View.read_apply]
  show V m c main_arg2 _ = _
  rw [V_main_arg2]
  congr 1
  funext a
  apply Fin.ext
  obtain ⟨⟨e00, e01⟩, ⟨e10, e11, e12⟩, ⟨e20, e21, e22⟩, ⟨e30, e31, e32⟩, ⟨e40, e41, e42⟩, ⟨e50, e51, e52⟩, ⟨e60, e61, e62⟩, ⟨e70, e71⟩⟩ := blocks_at t
  match a with
  | ⟨0, _⟩ => show win0_4.index t 0 * 1 + 1 * 0 = 1; rw [e40]
  | ⟨1, _⟩ => show win0_4.index t 1 * 3 + 1 * j.val = j.val; rw [e41]; omega
  | ⟨2, _⟩ => show win0_4.index t 2 * 256 + 1 * l.val = C.val; rw [e42]; omega

/-- The bias array the windows read is the bias argument with one more axis. -/
theorem V_main_v0 : V m c main_v0 = shapeCast S4x1x28672 (CB m c) shapeCasts_S4x28672_S4x1x28672 := by
  show StableHlo.after hostOps0 _ (Proc.devRef .tc main_v0) = _
  after_results
  rfl

theorem bias_apply (C : Fin 28672) (i : S4x1x28672.Idx) (h0 : (i 0).val = 1) (h2 : (i 2).val = C.val) :
    shapeCast S4x1x28672 (CB m c) shapeCasts_S4x28672_S4x1x28672 i = CB m c (ValueIdx.ix2 1 C) :=
  shapeCast_apply (CB m c) shapeCasts_S4x28672_S4x1x28672 i (ValueIdx.ix2 1 C) (by
    rewrite [Shape.rowMajor_val_three, Shape.rowMajor_val_two]
    have h1 : (i 1).val < 1 := (i 1).isLt
    show 1 * 28672 + C.val = ((i 0).val * 1 + (i 1).val) * 28672 + (i 2).val
    omega)

/-- The biases. -/
theorem b5_apply (t : Fin cfg0.N) (l : Fin 256) (C : Fin 28672) (hC : C.val = (t.val - 1) / 8 * 256 + l.val) :
    b5 m c t (ValueIdx.ix3 0 0 l) = CB m c (ValueIdx.ix2 1 C) := by
  unfold b5 iblk
  rw [View.read_apply]
  show V m c main_v0 _ = _
  rw [V_main_v0]
  obtain ⟨-, -, -, -, -, ⟨e0, e1, e2⟩, -, -⟩ := blocks_at t
  refine bias_apply m c C _ ?_ ?_
  · show win0_5.index t 0 * 1 + 1 * 0 = 1; rw [e0]
  · show win0_5.index t 2 * 256 + 1 * l.val = C.val; rw [e2]; omega

theorem b6_apply (t : Fin cfg0.N) (l : Fin 256) (C : Fin 28672) (hC : C.val = 14336 + ((t.val - 1) / 8 * 256 + l.val)) :
    b6 m c t (ValueIdx.ix3 0 0 l) = CB m c (ValueIdx.ix2 1 C) := by
  unfold b6 iblk
  rw [View.read_apply]
  show V m c main_v0 _ = _
  rw [V_main_v0]
  obtain ⟨-, -, -, -, -, -, ⟨e0, e1, e2⟩, -⟩ := blocks_at t
  refine bias_apply m c C _ ?_ ?_
  · show win0_6.index t 0 * 1 + 1 * 0 = 1; rw [e0]
  · show win0_6.index t 2 * 256 + 1 * l.val = C.val; rw [e2]; omega

end Cert.FfnInIdeal.Hand

end
-- ==== Proof.FfnInTile.lean ====
/-
The FFN input kernel's vector terms over the reals, read at an index.
-/
module

public import proofs.«01_k».proof.Proof.Gen.FfnInIdeal.Frame
public import proofs.«01_k».proof.Proof.Gen.FfnInIdeal.Skeleton
public import proofs.«01_k».proof.Proof.FfnInStep
public import Idealize.ShloMosaic.Lib.Pointwise
public import Idealize.ShloMosaic.PureOps.Ideal.Laws
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile of hidden rows. -/
theorem pay16_apply (x : Vec Ideal S128x4096 .bf16) (wb : Vec Ideal S4096x512 .bf16) (r : Fin 128) (l : Fin 512) :
    k0_pay16 x wb (ValueIdx.ix2 r l) = ∑ k : Fin 4096, (x (ValueIdx.ix2 r k) : EReal) * wb (ValueIdx.ix2 k l) := by
  unfold k0_pay16
  simp only [pointwise, zero_add]
  rfl

/-- A weight tile without its leading axis. -/
theorem pay5_apply (x1 : Vec Ideal S1x4096x256 .f32) (k : Fin 4096) (l : Fin 256) :
    k0_pay5 x1 (ValueIdx.ix2 k l) = x1 (ValueIdx.ix3 0 k l) := by
  unfold k0_pay5
  simp only [pointwise]
  rfl

theorem pay6_apply (x2 : Vec Ideal S1x4096x256 .f32) (k : Fin 4096) (l : Fin 256) :
    k0_pay6 x2 (ValueIdx.ix2 k l) = x2 (ValueIdx.ix3 0 k l) := by
  unfold k0_pay6
  simp only [pointwise]
  rfl

theorem pay2_apply (v : Vec Ideal S8x512 .f32) (i : S8x512.Idx) : k0_pay2 v i = v i := by
  unfold k0_pay2
  simp only [pointwise]

theorem pay7_apply (i : S8x512.Idx) : (k0_pay7 (F := Ideal) i : EReal) = 0 := by
  unfold k0_pay7
  simp only [pointwise]
  try simp [Ideal.ofBits, Ideal.ieee]

/-- The two halves of the bias side by side. -/
theorem pay9_apply (x5 x6 : Vec Ideal S1x1x256 .f32) (l : Fin 512) :
    k0_pay9 x5 x6 (ValueIdx.ix2 0 l) = if h : l.val < 256 then x5 (ValueIdx.ix3 0 0 ⟨l.val, h⟩) else x6 (ValueIdx.ix3 0 0 ⟨l.val - 256, by omega⟩) := by
  unfold k0_pay9
  simp only [pointwise]
  rfl

/-- The two halves of the convolution weights side by side. -/
theorem pay8_apply (x3 x4 : Vec Ideal S1x3x256 .f32) (j : Fin 3) (l : Fin 512) :
    k0_pay8 x3 x4 (ValueIdx.ix2 j l) = if h : l.val < 256 then x3 (ValueIdx.ix3 0 j ⟨l.val, h⟩) else x4 (ValueIdx.ix3 0 j ⟨l.val - 256, by omega⟩) := by
  unfold k0_pay8
  simp only [pointwise]
  rfl

theorem pay10_apply (x3 x4 : Vec Ideal S1x3x256 .f32) (l : Fin 512) : k0_pay10 x3 x4 (ValueIdx.ix2 0 l) = k0_pay8 x3 x4 (ValueIdx.ix2 0 l) := by
  unfold k0_pay10
  exact extractStridedSlice_apply ![0, 0] (k0_pay8 x3 x4) slices_S3x512_o0_0_S1x512 (ValueIdx.ix2 0 l) (ValueIdx.ix2 0 l) (fun a => by
    match a with
    | ⟨0, _⟩ => rfl
    | ⟨1, _⟩ => show l.val = 0 + l.val; omega)

theorem pay11_apply (x3 x4 : Vec Ideal S1x3x256 .f32) (l : Fin 512) : k0_pay11 x3 x4 (ValueIdx.ix2 0 l) = k0_pay8 x3 x4 (ValueIdx.ix2 1 l) := by
  unfold k0_pay11
  exact extractStridedSlice_apply ![1, 0] (k0_pay8 x3 x4) slices_S3x512_o1_0_S1x512 (ValueIdx.ix2 0 l) (ValueIdx.ix2 1 l) (fun a => by
    match a with
    | ⟨0, _⟩ => rfl
    | ⟨1, _⟩ => show l.val = 0 + l.val; omega)

theorem pay12_apply (x3 x4 : Vec Ideal S1x3x256 .f32) (l : Fin 512) : k0_pay12 x3 x4 (ValueIdx.ix2 0 l) = k0_pay8 x3 x4 (ValueIdx.ix2 2 l) := by
  unfold k0_pay12
  exact extractStridedSlice_apply ![2, 0] (k0_pay8 x3 x4) slices_S3x512_o2_0_S1x512 (ValueIdx.ix2 0 l) (ValueIdx.ix2 2 l) (fun a => by
    match a with
    | ⟨0, _⟩ => rfl
    | ⟨1, _⟩ => show l.val = 0 + l.val; omega)

/-- A convolution at a row of a tile and a lane. -/
def lane (b w0 w1 w2 : FVec Ideal S1x512 .f32) (h0 h1 h2 : Vec Ideal S128x512 .f32) (p : S1x512.Idx) (q : S128x512.Idx) : EReal :=
  (((b p : EReal) + w0 p * h2 q) + w1 p * h1 q) + w2 p * h0 q

/-- A tile of output rows. -/
theorem pay15_apply (b w0 w1 w2 : FVec Ideal S1x512 .f32) (h0 h1 h2 : Vec Ideal S128x512 .f32) (r : Fin 128) (l : Fin 256) :
    k0_pay15 b w0 w1 w2 h0 h1 h2 (ValueIdx.ix2 r l)
      = (lane b w0 w1 w2 h0 h1 h2 (ValueIdx.ix2 0 ⟨l.val, by omega⟩) (ValueIdx.ix2 r ⟨l.val, by omega⟩)
          * Ideal.logistic (lane b w0 w1 w2 h0 h1 h2 (ValueIdx.ix2 0 ⟨l.val, by omega⟩) (ValueIdx.ix2 r ⟨l.val, by omega⟩)))
        * lane b w0 w1 w2 h0 h1 h2 (ValueIdx.ix2 0 ⟨256 + l.val, by omega⟩) (ValueIdx.ix2 r ⟨256 + l.val, by omega⟩) := by
  have e1 : lane b w0 w1 w2 h0 h1 h2 (ValueIdx.ix2 0 ⟨0 + l.val, by omega⟩) (ValueIdx.ix2 ⟨0 + r.val, by omega⟩ ⟨0 + l.val, by omega⟩)
      = lane b w0 w1 w2 h0 h1 h2 (ValueIdx.ix2 0 ⟨l.val, by omega⟩) (ValueIdx.ix2 r ⟨l.val, by omega⟩) := by
    simp only [Nat.zero_add]
  have e2 : lane b w0 w1 w2 h0 h1 h2 (ValueIdx.ix2 0 ⟨256 + l.val, by omega⟩) (ValueIdx.ix2 ⟨0 + r.val, by omega⟩ ⟨256 + l.val, by omega⟩)
      = lane b w0 w1 w2 h0 h1 h2 (ValueIdx.ix2 0 ⟨256 + l.val, by omega⟩) (ValueIdx.ix2 r ⟨256 + l.val, by omega⟩) := by
    simp only [Nat.zero_add]
  rw [← e1, ← e2]
  unfold k0_pay15 lane
  simp only [pointwise]
  rfl

end Cert.FfnInIdeal.Hand

end
-- ==== Proof.FfnInValue.lean ====
/-
What the FFN input kernel's buffers hold after every step, over the reals, and the array it leaves: the
specification.
-/
module

public import proofs.«01_k».proof.Proof.Gen.FfnInIdeal.Frame
public import proofs.«01_k».proof.Proof.Gen.FfnInIdeal.Skeleton
public import proofs.«01_k».proof.Proof.FfnInBlocks
public import proofs.«01_k».proof.Proof.FfnInTile
public import proofs.«01_k».proof.Proof.FfnInSpec
public import Idealize.ShloMosaic.Lib.Pipeline.ValueKit
public import Idealize.ShloMosaic.Lib.Claim

@[expose] public section

set_option maxRecDepth 16384

noncomputable section

namespace Cert.FfnInIdeal.Hand

open Cert.FfnInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.FfnInSpec

variable (m : (ℓ : Loc nD τ sig) → Buf (Elt Ideal) ℓ) (c : Dev nD)

/-- The column of the weights a lane of column tile `q` is: the gate's lanes, then the up-projection's. -/
def col (q l : ℕ) : ℕ := if l < 256 then q * 256 + l else 14336 + (q * 256 + (l - 256))

/-- A freshly cast weight tile. -/
theorem castW_apply (t : Fin cfg0.N) (k : Fin 4096) (l : Fin 512) (C : Fin 28672) (hC : C.val = col (min t.val 447 / 8) l.val) :
    castW (iblk m c 1 t) (iblk m c 2 t) (ValueIdx.ix2 k l) = W m c (ValueIdx.ix3 1 k C) := by
  have hl := l.isLt
  unfold col at hC
  by_cases h : l.val < 256
  · rw [if_pos h] at hC
    refine (dif_pos h).trans ?_
    exact (pay5_apply _ k ⟨l.val, h⟩).trans (b1_apply m c t k ⟨l.val, h⟩ C hC)
  · rw [if_neg h] at hC
    refine (dif_neg h).trans ?_
    exact (pay6_apply _ k ⟨l.val - 256, by omega⟩).trans (b2_apply m c t k ⟨l.val - 256, by omega⟩ C hC)

/-- The weight buffer after step `n` holds the column tile of the step. -/
theorem wb_state : ∀ (n : ℕ) (hn : n < cfg0.N) (k : Fin 4096) (l : Fin 512) (C : Fin 28672), C.val = col (min n 447 / 8) l.val →
    (stAt m c n hn).1 (ValueIdx.ix2 k l) = W m c (ValueIdx.ix3 1 k C)
  | 0, hn, k, l, C, hC => castW_apply m c ⟨0, hn⟩ k l C hC
  | n + 1, hn, k, l, C, hC => by
    have hN : cfg0.N = 449 := N_0
    show wbHead (n + 1) (iblk m c 1 ⟨n + 1, hn⟩) (iblk m c 2 ⟨n + 1, hn⟩) (stAt m c n (Nat.lt_of_succ_lt hn)).1 _ = _
    unfold wbHead
    by_cases h : (n + 1) % 8 = 0
    · rw [if_pos h]
      exact castW_apply m c ⟨n + 1, hn⟩ k l C hC
    · rw [if_neg h]
      exact wb_state n _ k l C (by rw [hC]; congr 1; omega)

/-- The hidden buffer a step leaves, from what it found. -/
theorem hb_unfold (n : ℕ) (hn : n < cfg0.N) : ∃ hb, (stAt m c n hn).2 = newH hb (b0 m c ⟨n, hn⟩) (stAt m c n hn).1 := by
  cases n with
  | zero => exact ⟨_, rfl⟩
  | succ n => exact ⟨_, rfl⟩

/-- The hidden buffer after step `n`: from row 8 on, the hidden rows of the step's tile. -/
theorem hb_state (n : ℕ) (hn : n < cfg0.N) (r : ℕ) (hr : r < 1024) (l : Fin 512) (C : Fin 28672) (hC : C.val = col (min n 447 / 8) l.val) :
    (stAt m c n hn).2 (ValueIdx.ix2 ⟨8 + r, by omega⟩ l) = hid (X m c) (W m c) (1024 * (min n 447 % 8) + r) C := by
  obtain ⟨hb, e⟩ := hb_unfold m c n hn
  rw [e]
  unfold newH
  refine (dif_neg (show ¬ 8 + r < 8 by omega)).trans ?_
  refine (pay16_apply _ _ _ _).trans ?_
  unfold hid
  rw [dif_pos (show 1024 * (min n 447 % 8) + r < 8192 by omega)]
  refine Finset.sum_congr rfl fun k _ => congrArg₂ (fun a b : EReal => a * b) ?_ (wb_state m c n hn k l C hC)
  refine b0_apply m c ⟨n, hn⟩ _ k ⟨1024 * (min n 447 % 8) + r, by omega⟩ ?_
  show 1024 * (min n 447 % 8) + r = 1024 * (min n 447 % 8) + (128 * ((8 + r - 8) / 128) + (8 + r - 8) % 128)
  omega

/-- What a step does at its start leaves the rows from 8 on alone. -/
theorem hbHead_high (n : ℕ) (hn : n ≠ 0) (hb : Vec Ideal S1032x512 .f32) (r : Fin 1032) (h : 8 ≤ r.val) (l : Fin 512) :
    hbHead n hb (ValueIdx.ix2 r l) = hb (ValueIdx.ix2 r l) := by
  unfold hbHead
  rw [if_neg hn]
  split_ifs
  · exact dif_neg (show ¬ r.val < 8 by omega)
  · rfl

/-- The eight rows before a tile are the last eight of the tile before. -/
theorem hb_old (p : ℕ) (hp : p + 1 < cfg0.N) (r : ℕ) (hr : r < 8) (l : Fin 512) :
    (stAt m c (p + 1) hp).2 (ValueIdx.ix2 ⟨r, by omega⟩ l) = (stAt m c p (Nat.lt_of_succ_lt hp)).2 (ValueIdx.ix2 ⟨8 + (1016 + r), by omega⟩ l) := by
  show newH (hbHead (p + 1) (stAt m c p (Nat.lt_of_succ_lt hp)).2) _ _ _ = _
  unfold newH
  refine (dif_pos hr).trans ?_
  refine (pay2_apply _ _).trans ?_
  refine Eq.trans ?_ (hbHead_high (p + 1) (Nat.succ_ne_zero p) (stAt m c p (Nat.lt_of_succ_lt hp)).2 ⟨8 + (1016 + r), by omega⟩ (show 8 ≤ 8 + (1016 + r) by omega) l)
  unfold hTail
  exact congrArg (fun a => hbHead (p + 1) (stAt m c p (Nat.lt_of_succ_lt hp)).2 (ValueIdx.ix2 a l)) (Fin.ext (show 1024 + r = 8 + (1016 + r) by omega))

/-- The rows a step convolves over: a row of the tile before, or the rows before it in its sequence. -/
theorem found (p : ℕ) (hp : p + 1 < cfg0.N) (a d : ℕ) (ha : a < 1024) (hd : d ≤ 2) (R : Fin 1032) (hR : R.val = 8 - d + a)
    (l : Fin 512) (C : Fin 28672) (hC : C.val = col (p / 8) l.val) :
    hbHead (p + 1) (stAt m c p (Nat.lt_of_succ_lt hp)).2 (ValueIdx.ix2 R l) = past (X m c) (W m c) (1024 * (p % 8) + a) d C := by
  have hN : cfg0.N = 449 := N_0
  have hmin : min p 447 = p := by omega
  unfold past
  by_cases had : d ≤ a
  · rw [if_neg (by omega)]
    refine (hbHead_high (p + 1) (Nat.succ_ne_zero p) _ R (by omega) l).trans ?_
    have e : R = (⟨8 + (a - d), by omega⟩ : Fin 1032) := Fin.ext (by show R.val = 8 + (a - d); omega)
    rw [e]
    refine (hb_state m c p _ (a - d) (by omega) l C (by rw [hmin]; exact hC)).trans ?_
    rw [hmin]
    exact congrArg (fun r => hid (X m c) (W m c) r C) (by omega)
  · by_cases hz : p % 4 = 0
    · rw [if_pos (by omega)]
      unfold hbHead
      rw [if_pos (by omega), if_neg (Nat.succ_ne_zero p)]
      exact (dif_pos (show R.val < 8 by omega)).trans (pay7_apply _)
    · rw [if_neg (by omega)]
      unfold hbHead
      rw [if_neg (by omega), if_neg (Nat.succ_ne_zero p)]
      obtain ⟨q, rfl⟩ : ∃ q, p = q + 1 := ⟨p - 1, by omega⟩
      have e : R = (⟨R.val, by omega⟩ : Fin 1032) := rfl
      refine (hb_old m c q (Nat.lt_of_succ_lt hp) R.val (by omega) l).trans ?_
      have hq : min q 447 = q := by omega
      refine (hb_state m c q _ (1016 + R.val) (by omega) l C (by rw [hq, hC]; congr 1; omega)).trans ?_
      rw [hq]
      exact congrArg (fun r => hid (X m c) (W m c) r C) (by omega)

/-- A lane of the convolution a step computes is the specification's. -/
theorem lane_eq (p : ℕ) (hp : p + 1 < cfg0.N) (a : Fin 1024) (l : Fin 512) (C : Fin 28672) (hC : C.val = col (p / 8) l.val)
    (hb : Vec Ideal S1032x512 .f32) (ehb : hb = hbHead (p + 1) (stAt m c p (Nat.lt_of_succ_lt hp)).2) :
    lane (k0_pay9 (b5 m c ⟨p + 1, hp⟩) (b6 m c ⟨p + 1, hp⟩)) (k0_pay10 (b3 m c ⟨p + 1, hp⟩) (b4 m c ⟨p + 1, hp⟩))
        (k0_pay11 (b3 m c ⟨p + 1, hp⟩) (b4 m c ⟨p + 1, hp⟩)) (k0_pay12 (b3 m c ⟨p + 1, hp⟩) (b4 m c ⟨p + 1, hp⟩))
        (hRows hb 8 ⟨a.val / 128, by omega⟩) (hRows hb 7 ⟨a.val / 128, by omega⟩) (hRows hb 6 ⟨a.val / 128, by omega⟩)
        (ValueIdx.ix2 0 l) (ValueIdx.ix2 ⟨a.val % 128, by omega⟩ l)
      = conv (X m c) (W m c) (CW m c) (CB m c) (1024 * (p % 8) + a.val) C := by
  have hl := l.isLt
  have ha := a.isLt
  have hw : ∀ j : Fin 3, k0_pay8 (b3 m c ⟨p + 1, hp⟩) (b4 m c ⟨p + 1, hp⟩) (ValueIdx.ix2 j l) = CW m c (ValueIdx.ix3 1 j C) := by
    intro j
    refine (pay8_apply _ _ j l).trans ?_
    unfold col at hC
    by_cases h : l.val < 256
    · rw [if_pos h] at hC
      exact (dif_pos h).trans (b3_apply m c ⟨p + 1, hp⟩ j ⟨l.val, h⟩ C hC)
    · rw [if_neg h] at hC
      exact (dif_neg h).trans (b4_apply m c ⟨p + 1, hp⟩ j ⟨l.val - 256, by omega⟩ C hC)
  have hbias : k0_pay9 (b5 m c ⟨p + 1, hp⟩) (b6 m c ⟨p + 1, hp⟩) (ValueIdx.ix2 0 l) = CB m c (ValueIdx.ix2 1 C) := by
    refine (pay9_apply _ _ l).trans ?_
    unfold col at hC
    by_cases h : l.val < 256
    · rw [if_pos h] at hC
      exact (dif_pos h).trans (b5_apply m c ⟨p + 1, hp⟩ ⟨l.val, h⟩ C hC)
    · rw [if_neg h] at hC
      exact (dif_neg h).trans (b6_apply m c ⟨p + 1, hp⟩ ⟨l.val - 256, by omega⟩ C hC)
  unfold lane conv
  refine congrArg₂ (fun a b : EReal => a + b) (congrArg₂ (fun a b : EReal => a + b) (congrArg₂ (fun a b : EReal => a + b) hbias
      (congrArg₂ (fun a b : EReal => a * b) ((pay10_apply _ _ l).trans (hw 0)) ?_))
      (congrArg₂ (fun a b : EReal => a * b) ((pay11_apply _ _ l).trans (hw 1)) ?_))
      (congrArg₂ (fun a b : EReal => a * b) ((pay12_apply _ _ l).trans (hw 2)) ?_)
  · rw [ehb]
    exact found m c p hp a.val 2 ha (by omega) _ (by show 6 + 128 * (a.val / 128) + a.val % 128 = _; omega) l C hC
  · rw [ehb]
    exact found m c p hp a.val 1 ha (by omega) _ (by show 7 + 128 * (a.val / 128) + a.val % 128 = _; omega) l C hC
  · rw [ehb]
    exact found m c p hp a.val 0 ha (by omega) _ (by show 8 + 128 * (a.val / 128) + a.val % 128 = _; omega) l C hC

/-- The output tile of a step past the first. -/
theorem out_apply (p : ℕ) (hp : p + 1 < cfg0.N) (a : Fin 1024) (b : Fin 256) (R : ℕ) (C : Fin 14336)
    (hR : R = 1024 * (p % 8) + a.val) (hC : C.val = p / 8 * 256 + b.val) :
    outAt m c ⟨p + 1, hp⟩ (ValueIdx.ix2 a b) = spec (X m c) (W m c) (CW m c) (CB m c) R C := by
  have hb := b.isLt
  have hc := C.isLt
  subst hR
  unfold outAt convOut
  refine (pay15_apply _ _ _ _ _ _ _ _ _).trans ?_
  unfold spec
  have e1 := lane_eq m c p hp a ⟨b.val, by omega⟩ ⟨C.val, by omega⟩ (by show C.val = col _ b.val; unfold col; rw [if_pos hb]; exact hC) _ rfl
  have e2 := lane_eq m c p hp a ⟨256 + b.val, by omega⟩ ⟨14336 + C.val, by omega⟩
    (by show 14336 + C.val = col _ (256 + b.val); unfold col; rw [if_neg (by omega)]; omega) _ rfl
  exact congrArg₂ (fun a b : EReal => a * b) (congrArg₂ (fun a b : EReal => a * b) e1 (congrArg Ideal.logistic e1)) e2

/-- The first step's output tile never reaches the array. -/
theorem flushed_pos : ∀ t : Fin cfg0.N, (cfg0.win 7).flush t = true → t.val ≠ 0 :=
  (by decide +kernel : ∀ t : Fin grid0.N, win0_7.flush t = true → t.val ≠ 0)

/-- THE ARRAY THE KERNEL LEAVES. -/
theorem result_eq :
    (dats m 0 c).arrAt 7 cfg0.N = fun i : S8192x14336.Idx => spec (X m c) (W m c) (CW m c) (CB m c) (i 0).val (i 1) := by
  refine (dats m 0 c).arrAt_eq_of_covers 7 _ (by decide +kernel) fun t hf y => ?_
  have ht := flushed_pos t hf
  obtain ⟨-, -, -, -, -, -, -, ⟨e0, e1⟩⟩ := blocks_at t
  blk_simp
  rw [after0_7]
  change S1024x256.Idx at y
  rw [ValueIdx.eq_ix2 y]
  obtain ⟨n, hn⟩ := t
  cases n with
  | zero => exact absurd rfl ht
  | succ p =>
    refine out_apply m c p hn (y 0) (y 1) _ _ ?_ ?_
    · show win0_7.index ⟨p + 1, hn⟩ 0 * 1024 + (y 0).val = _
      rw [e0]; show p % 8 * 1024 + (y 0).val = _; omega
    · show win0_7.index ⟨p + 1, hn⟩ 1 * 256 + 1 * (y 1).val = _
      rw [e1]; show p / 8 * 256 + 1 * (y 1).val = _; omega

end Cert.FfnInIdeal.Hand

end
-- ==== Proof.FfnInClaims.lean ====
/-
  The claims of the FFN's input product with its convolution and gate: both kernel programs' frames are one run's,
  and the kernel leaves the array the reference computes.
-/
module

public import proofs.«01_k».proof.Defs
public import proofs.«01_k».proof.Proof.Gen.FfnIn
public import proofs.«01_k».proof.Proof.Gen.FfnInRefIdeal.Run
public import proofs.«01_k».proof.Proof.Gen.FfnInRefIdeal.Read
public import proofs.«01_k».proof.Proof.FfnInFrame
public import proofs.«01_k».proof.Proof.FfnInRef
public import proofs.«01_k».proof.Proof.FfnInValue

@[expose] public section

set_option maxRecDepth 16384

namespace Cert.Proof

open Idealize.ShloMosaic Idealize.ShloMosaic.TcCoe Idealize.SL.Sem

/-- The two programs have the same text, so the same table of bodies: one label's, and the pipeline's over it. -/
theorem FfnIn_defs₀ : Cert.FfnIn.defs₀ (F := Bits) = Cert.FfnInIdeal.defs₀ (F := Bits) := by
  unfold Cert.FfnIn.defs₀ Cert.FfnInIdeal.defs₀
  refine congrArg Defs.onTc (funext fun l => funext fun x => ?_)
  match l, x with
  | 0, (t, s) => rfl

theorem FfnIn_defs : Cert.FfnIn.defs (F := Bits) = Cert.FfnInIdeal.defs (F := Bits) :=
  congrArg (Pipeline.defs (Cert.FfnInIdeal.pcfgs (F := Bits))) FfnIn_defs₀

/-- The program's frame, by the run of the program of the same text. -/
theorem frame_FfnIn : Cert.quiescent_FfnIn := fun m ρ _ => by
  rw [FfnIn_defs]
  exact (θ_run Cert.FfnInIdeal.defs _ _).mono (fun _ h => h) (Cert.FfnInIdeal.Hand.frame (F := Bits) m ρ)

theorem frame_FfnInIdeal : Cert.quiescent_FfnInIdeal := fun m ρ _ =>
  Cert.FfnInIdeal.Hand.frame (F := Ideal) m ρ

/-- The array the kernel leaves is the reference's result of the same arguments. -/
theorem FfnIn_result (m : (ℓ : Loc Cert.FfnInIdeal.nD Cert.FfnInIdeal.τ Cert.FfnInIdeal.sig) → Buf (Elt Ideal) ℓ) (c : Dev Cert.FfnInIdeal.nD) :
    (Cert.FfnInIdeal.Hand.dats m 0 c).arrAt 7 Cert.FfnInIdeal.cfg0.N
      = Cert.FfnInRefIdeal.Read.val_main_v38 (F := Ideal) (Cert.FfnInIdeal.Hand.X m c) (Cert.FfnInIdeal.Hand.W m c)
          (Cert.FfnInIdeal.Hand.CW m c) (Cert.FfnInIdeal.Hand.CB m c) :=
  (Cert.FfnInIdeal.Hand.result_eq m c).trans (funext fun i => (Cert.FfnInRefIdeal.Read.spec_eq _ _ _ _ i).symm)

theorem algebraic_FfnIn : Cert.algebraic_FfnInIdeal_FfnInRefIdeal := fun m g m' g' _ hag =>
  ⟨fun c => Cert.FfnInRefIdeal.Read.val_main_v38 (F := Ideal) (Cert.FfnInIdeal.Hand.X m c) (Cert.FfnInIdeal.Hand.W m c)
      (Cert.FfnInIdeal.Hand.CW m c) (Cert.FfnInIdeal.Hand.CB m c),
    (θ_run _ _ _).mono (fun _ h c => ⟨((h.1 c).1 7).trans (FfnIn_result m c), h.2.1 c⟩)
      (θ_run_and (Cert.FfnInIdeal.Hand.run_main (F := Ideal) m g) (Cert.FfnInIdeal.Hand.frame (F := Ideal) m g)),
    (θ_run _ _ _).mono (fun _ h c => ⟨(h c).1.trans (by
      obtain ⟨h0, h1, h2, h3⟩ := hag c
      rw [Cert.FfnInRefIdeal.Read.val_main_v38_eq, h0, h1, h2, h3]), (h c).2⟩) (Cert.FfnInRefIdeal.Value.run m' g')⟩

end Cert.Proof
end
-- ==== Proof.lean ====
/-
  The claim: the sliding-window attention first, then the projections, products and norms around it. A kernel's
  frame is the generated one (the up-projection's is its own module's); a reference's is its run with the result forgotten; a kernel idealized
  with no rewrite is preserved trivially, the attention's by its named constant; the pairs are the claims
  modules'.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.FfnIn
public import proofs.«01_k».proof.Proof.Gen.FfnInIdeal
public import proofs.«01_k».proof.Proof.Gen.FfnInRefIdeal
public import proofs.«01_k».proof.Proof.Gen.FfnDown
public import proofs.«01_k».proof.Proof.Gen.FfnDownIdeal
public import proofs.«01_k».proof.Proof.Gen.FfnDownRefIdeal
public import proofs.«01_k».proof.Proof.Gen.SbQkv
public import proofs.«01_k».proof.Proof.Gen.SbQkvIdeal
public import proofs.«01_k».proof.Proof.Gen.SbQkvRefIdeal
public import proofs.«01_k».proof.Proof.Gen.SwaQkv
public import proofs.«01_k».proof.Proof.Gen.SwaQkvIdeal
public import proofs.«01_k».proof.Proof.Gen.SwaQkvRefIdeal
public import proofs.«01_k».proof.Proof.Gen.OutProj
public import proofs.«01_k».proof.Proof.Gen.OutProjIdeal
public import proofs.«01_k».proof.Proof.Gen.OutProjRefIdeal
public import proofs.«01_k».proof.Proof.Gen.Norm
public import proofs.«01_k».proof.Proof.Gen.NormIdeal
public import proofs.«01_k».proof.Proof.Gen.NormRefIdeal
public import proofs.«01_k».proof.Proof.Gen.FinalNorm
public import proofs.«01_k».proof.Proof.Gen.FinalNormIdeal
public import proofs.«01_k».proof.Proof.Gen.FinalNormRefIdeal
public import proofs.«01_k».proof.Proof.Gen.Pre_tame
public import proofs.«01_k».proof.Proof.Gen.Kernel.Frame
public import proofs.«01_k».proof.Proof.Gen.KernelIdeal.Frame
public import proofs.«01_k».proof.Proof.Gen.ReferenceIdeal.Run
public import proofs.«01_k».proof.Proof.Gen.FfnInRefIdeal.Run
public import proofs.«01_k».proof.Proof.Gen.FfnDown.Frame
public import proofs.«01_k».proof.Proof.Gen.FfnDownIdeal.Frame
public import proofs.«01_k».proof.Proof.Gen.FfnDownRefIdeal.Run
public import proofs.«01_k».proof.Proof.Gen.SbQkv.Frame
public import proofs.«01_k».proof.Proof.Gen.SbQkvIdeal.Frame
public import proofs.«01_k».proof.Proof.Gen.SbQkvRefIdeal.Run
public import proofs.«01_k».proof.Proof.Gen.SwaQkv.Frame
public import proofs.«01_k».proof.Proof.Gen.SwaQkvIdeal.Frame
public import proofs.«01_k».proof.Proof.Gen.SwaQkvRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.Norm.Frame
public import proofs.«01_k».proof.Proof.Gen.NormIdeal.Frame
public import proofs.«01_k».proof.Proof.Gen.NormRefIdeal.Run
public import proofs.«01_k».proof.Proof.Gen.FinalNorm.Frame
public import proofs.«01_k».proof.Proof.Gen.FinalNormIdeal.Frame
public import proofs.«01_k».proof.Proof.Gen.FinalNormRefIdeal.Run
public import proofs.«01_k».proof.Proof.Claims
public import proofs.«01_k».proof.Proof.SwaClaims
public import proofs.«01_k».proof.Proof.FfnInClaims

@[expose] public section

set_option maxRecDepth 16384

namespace Cert.Proof

open Idealize.ShloMosaic Idealize.ShloMosaic.TcCoe Idealize.SL.Sem

theorem claim : Cert.Claim :=
  ⟨Cert.Kernel.Gen.facts,
    Cert.KernelIdeal.Gen.facts,
    Cert.ReferenceIdeal.Gen.facts,
    Cert.FfnIn.Gen.facts,
    Cert.FfnInIdeal.Gen.facts,
    Cert.FfnInRefIdeal.Gen.facts,
    Cert.FfnDown.Gen.facts,
    Cert.FfnDownIdeal.Gen.facts,
    Cert.FfnDownRefIdeal.Gen.facts,
    Cert.SbQkv.Gen.facts,
    Cert.SbQkvIdeal.Gen.facts,
    Cert.SbQkvRefIdeal.Gen.facts,
    Cert.SwaQkv.Gen.facts,
    Cert.SwaQkvIdeal.Gen.facts,
    Cert.SwaQkvRefIdeal.Gen.facts,
    Cert.OutProj.Gen.facts,
    Cert.OutProjIdeal.Gen.facts,
    Cert.OutProjRefIdeal.Gen.facts,
    Cert.Norm.Gen.facts,
    Cert.NormIdeal.Gen.facts,
    Cert.NormRefIdeal.Gen.facts,
    Cert.FinalNorm.Gen.facts,
    Cert.FinalNormIdeal.Gen.facts,
    Cert.FinalNormRefIdeal.Gen.facts,
    Cert.Pre_tame.Gen.facts,
    fun m g _ => Cert.Kernel.Gen.frame m g,
    fun m g _ => Cert.KernelIdeal.Gen.frame m g,
    fun m g _ => Cert.KernelIdeal.Gen.frame m g,
    fun m g _ => (θ_run _ _ _).mono (fun r h => ⟨fun c => (h c).2, sem_eq_zero_of_no_sems (by decide) r.2⟩)
      (Cert.ReferenceIdeal.Value.run (F := Ideal) m g),
    fun m g _ => (θ_run _ _ _).mono (fun r h => ⟨fun c => (h c).2, sem_eq_zero_of_no_sems (by decide) r.2⟩)
      (Cert.ReferenceIdeal.Value.run (F := Ideal) m g),
    frame_FfnIn,
    frame_FfnInIdeal,
    fun m g _ => (θ_run _ _ _).mono (fun r h => ⟨fun c => (h c).2, sem_eq_zero_of_no_sems (by decide) r.2⟩)
      (Cert.FfnInRefIdeal.Value.run (F := Ideal) m g),
    fun m g _ => Cert.FfnDown.Gen.frame m g,
    fun m g _ => Cert.FfnDownIdeal.Gen.frame m g,
    fun m g _ => (θ_run _ _ _).mono (fun r h => ⟨fun c => (h c).2, sem_eq_zero_of_no_sems (by decide) r.2⟩)
      (Cert.FfnDownRefIdeal.Value.run (F := Ideal) m g),
    fun m g _ => Cert.SbQkv.Gen.frame m g,
    fun m g _ => Cert.SbQkvIdeal.Gen.frame m g,
    fun m g _ => (θ_run _ _ _).mono (fun r h => ⟨fun c => (h c).2, sem_eq_zero_of_no_sems (by decide) r.2⟩)
      (Cert.SbQkvRefIdeal.Value.run (F := Ideal) m g),
    fun m g _ => Cert.SwaQkv.Gen.frame m g,
    fun m g _ => Cert.SwaQkvIdeal.Gen.frame m g,
    fun m g _ => (θ_run _ _ _).mono (fun r h => ⟨fun c => (h c).2, sem_eq_zero_of_no_sems (by decide) r.2⟩)
      (Cert.SwaQkvRefIdeal.Value.run (F := Ideal) m g),
    fun m g _ => Cert.OutProj.Gen.frame m g,
    fun m g _ => Cert.OutProjIdeal.Gen.frame m g,
    fun m g _ => (θ_run _ _ _).mono (fun r h => ⟨fun c => (h c).2, sem_eq_zero_of_no_sems (by decide) r.2⟩)
      (Cert.OutProjRefIdeal.Value.run (F := Ideal) m g),
    fun m g _ => Cert.Norm.Gen.frame m g,
    fun m g _ => Cert.NormIdeal.Gen.frame m g,
    fun m g _ => (θ_run _ _ _).mono (fun r h => ⟨fun c => (h c).2, sem_eq_zero_of_no_sems (by decide) r.2⟩)
      (Cert.NormRefIdeal.Value.run (F := Ideal) m g),
    fun m g _ => Cert.FinalNorm.Gen.frame m g,
    fun m g _ => Cert.FinalNormIdeal.Gen.frame m g,
    fun m g _ => (θ_run _ _ _).mono (fun r h => ⟨fun c => (h c).2, sem_eq_zero_of_no_sems (by decide) r.2⟩)
      (Cert.FinalNormRefIdeal.Value.run (F := Ideal) m g),
    IdealRules.named_const.statement Cert.KernelIdeal.κ "mask" .f32 0xF149F2CA#32 ⊥ rfl,
    algebraic_swa,
    trivial,
    algebraic_FfnIn,
    trivial,
    algebraic_FfnDown,
    trivial,
    algebraic_SbQkv,
    trivial,
    algebraic_SwaQkv,
    trivial,
    algebraic_OutProj,
    trivial,
    algebraic_Norm,
    trivial,
    algebraic_FinalNorm⟩

end Cert.Proof

end
